-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![2, 2048, 512]⟩ ⟨3, ![2, 2048, 16384]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 16384]⟩ 1 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 2048, 512]⟩ ⟨3, ![2, 2048, 16384]⟩ 2 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2x2048x512 : Shape := ⟨3, ![2, 2048, 512]⟩
abbrev S2x128 : Shape := ⟨2, ![2, 128]⟩
abbrev S128x512 : Shape := ⟨2, ![128, 512]⟩
abbrev S_ : Shape := ⟨0, ![]⟩

class Facts : Prop where
  bcast_S_S2x2048x512 : S_.BroadcastsInDim S2x2048x512 (![] : Fin 0 → Fin S2x2048x512.rank)

variable [Facts]

def fn {F : FTy → Type} [FloatOps F] (main_arg0 : FVec F S2x2048x512 .f32) (main_arg1 : FVec F S2x128 .f32) (main_arg2 : FVec F S128x512 .f32) (main_arg3 : FVec F S128x512 .f32) : IVec S2x2048x512 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  main_v2
-- ==== Pre_finite_x_ReferenceIdeal.lean ====
abbrev S2x2048x16384 : Shape := ⟨3, ![2, 2048, 16384]⟩
abbrev S2x128 : Shape := ⟨2, ![2, 128]⟩
abbrev S128x16384 : Shape := ⟨2, ![128, 16384]⟩
abbrev S_ : Shape := ⟨0, ![]⟩

class Facts : Prop where
  bcast_S_S2x2048x16384 : S_.BroadcastsInDim S2x2048x16384 (![] : Fin 0 → Fin S2x2048x16384.rank)

variable [Facts]

def fn {F : FTy → Type} [FloatOps F] (main_arg0 : FVec F S2x2048x16384 .f32) (main_arg1 : FVec F S2x128 .f32) (main_arg2 : FVec F S128x16384 .f32) (main_arg3 : FVec F S128x16384 .f32) : IVec S2x2048x16384 1 :=
  let main_v0 : FVec F S2x2048x16384 .f32 := Host.absf main_arg0
  let main_cst : FVec F S_ .f32 := constant S_ .f32 0x7F800000#32
  let main_v1 : FVec F S2x2048x16384 .f32 := broadcastInDim S2x2048x16384 ![] bcast_S_S2x2048x16384 main_cst
  let main_v2 : IVec S2x2048x16384 1 := cmpf .olt main_v0 main_v1
  main_v2
-- ==== Kernel.lean ====
abbrev S2x2048x512 : Shape := ⟨3, ![2, 2048, 512]⟩
abbrev S2x128 : Shape := ⟨2, ![2, 128]⟩
abbrev S128x512 : Shape := ⟨2, ![128, 512]⟩
abbrev S2x2x1024x512 : Shape := ⟨4, ![2, 2, 1024, 512]⟩
abbrev S2x12x4x1024 : Shape := ⟨4, ![2, 12, 4, 1024]⟩
abbrev S2 : Shape := ⟨1, ![2]⟩
abbrev S2x12 : Shape := ⟨2, ![2, 12]⟩
abbrev S_ : Shape := ⟨0, ![]⟩
abbrev S2x1024x512 : Shape := ⟨3, ![2, 1024, 512]⟩
abbrev S2x1024 : Shape := ⟨2, ![2, 1024]⟩
abbrev S4x1024 : Shape := ⟨2, ![4, 1024]⟩
abbrev S1x1x4x1024 : Shape := ⟨4, ![1, 1, 4, 1024]⟩
abbrev S1x1 : Shape := ⟨2, ![1, 1]⟩
abbrev S2x512 : Shape := ⟨2, ![2, 512]⟩
abbrev S1x8x4x1024 : Shape := ⟨4, ![1, 8, 4, 1024]⟩
abbrev S8x4x1024 : Shape := ⟨3, ![8, 4, 1024]⟩
abbrev S1x4x4x1024 : Shape := ⟨4, ![1, 4, 4, 1024]⟩
abbrev S4x4x1024 : Shape := ⟨3, ![4, 4, 1024]⟩
abbrev S2x1024x1 : Shape := ⟨3, ![2, 1024, 1]⟩
abbrev S2x1x512 : Shape := ⟨3, ![2, 1, 512]⟩
abbrev S1x2x1024x512 : Shape := ⟨4, ![1, 2, 1024, 512]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S2x2048x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x2048x512, .f32⟩
  | .local _ .vmem, ⟨0, _⟩ => ⟨S2x2048x512, .f32⟩
  | .local _ .vmem, ⟨1, _⟩ => ⟨S2x128, .f32⟩
  | .local _ .vmem, ⟨2, _⟩ => ⟨S128x512, .f32⟩
  | .local _ .vmem, ⟨3, _⟩ => ⟨S128x512, .f32⟩
  | .local _ .vmem, ⟨4, _⟩ => ⟨S2x2x1024x512, .f32⟩
  | .local _ .vmem, ⟨5, _⟩ => ⟨S2x12x4x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_31 : BitVec 32 := 1#32
  let v62 : BitVec 32 := Scalar.muli v24 c1_i32_31
  let v63 : BitVec 32 := Scalar.addi c0_i32_32 v62
  v63.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_9 : BitVec 32 := 8#32
  let v25 : BitVec 32 := Scalar.muli v19 c8_i32_9
  let c8_i32_5 : BitVec 32 := 8#32
  let v20 : BitVec 32 := Scalar.remsi v2 c8_i32_5
  let c2_i32 : BitVec 32 := 2#32
  let v26 : BitVec 32 := Scalar.addi v20 c2_i32
  let c8_i32_10 : BitVec 32 := 8#32
  let v27 : BitVec 32 := Scalar.remsi v26 c8_i32_10
  let v28 : BitVec 32 := Scalar.addi v25 v27
  let c1_i32_34 : BitVec 32 := 1#32
  let v64 : BitVec 32 := Scalar.muli v28 c1_i32_34
  let v65 : BitVec 32 := Scalar.addi c0_i32_35 v64
  v65.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v29 : BitVec 32 := Scalar.muli v19 c8_i32_11
  let c8_i32_5 : BitVec 32 := 8#32
  let v20 : BitVec 32 := Scalar.remsi v2 c8_i32_5
  let c3_i32 : BitVec 32 := 3#32
  let v30 : BitVec 32 := Scalar.addi v20 c3_i32
  let c8_i32_12 : BitVec 32 := 8#32
  let v31 : BitVec 32 := Scalar.remsi v30 c8_i32_12
  let v32 : BitVec 32 := Scalar.addi v29 v31
  let c1_i32_37 : BitVec 32 := 1#32
  let v66 : BitVec 32 := Scalar.muli v32 c1_i32_37
  let v67 : BitVec 32 := Scalar.addi c0_i32_38 v66
  v67.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_13 : BitVec 32 := 8#32
  let v33 : BitVec 32 := Scalar.muli v19 c8_i32_13
  let c8_i32_5 : BitVec 32 := 8#32
  let v20 : BitVec 32 := Scalar.remsi v2 c8_i32_5
  let c4_i32 : BitVec 32 := 4#32
  let v34 : BitVec 32 := Scalar.addi v20 c4_i32
  let c8_i32_14 : BitVec 32 := 8#32
  let v35 : BitVec 32 := Scalar.remsi v34 c8_i32_14
  let v36 : BitVec 32 := Scalar.addi v33 v35
  let c1_i32_40 : BitVec 32 := 1#32
  let v68 : BitVec 32 := Scalar.muli v36 c1_i32_40
  let v69 : BitVec 32 := Scalar.addi c0_i32_41 v68
  v69.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v37 : BitVec 32 := Scalar.muli v19 c8_i32_15
  let c8_i32_5 : BitVec 32 := 8#32
  let v20 : BitVec 32 := Scalar.remsi v2 c8_i32_5
  let c5_i32 : BitVec 32 := 5#32
  let v38 : BitVec 32 := Scalar.addi v20 c5_i32
  let c8_i32_16 : BitVec 32 := 8#32
  let v39 : BitVec 32 := Scalar.remsi v38 c8_i32_16
  let v40 : BitVec 32 := Scalar.addi v37 v39
  let c1_i32_43 : BitVec 32 := 1#32
  let v70 : BitVec 32 := Scalar.muli v40 c1_i32_43
  let v71 : BitVec 32 := Scalar.addi c0_i32_44 v70
  v71.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_17 : BitVec 32 := 8#32
  let v41 : BitVec 32 := Scalar.muli v19 c8_i32_17
  let c8_i32_5 : BitVec 32 := 8#32
  let v20 : BitVec 32 := Scalar.remsi v2 c8_i32_5
  let c6_i32 : BitVec 32 := 6#32
  let v42 : BitVec 32 := Scalar.addi v20 c6_i32
  let c8_i32_18 : BitVec 32 := 8#32
  let v43 : BitVec 32 := Scalar.remsi v42 c8_i32_18
  let v44 : BitVec 32 := Scalar.addi v41 v43
  let c1_i32_46 : BitVec 32 := 1#32
  let v72 : BitVec 32 := Scalar.muli v44 c1_i32_46
  let v73 : BitVec 32 := Scalar.addi c0_i32_47 v72
  v73.toNat
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_19 : BitVec 32 := 8#32
  let v45 : BitVec 32 := Scalar.muli v19 c8_i32_19
  let c8_i32_5 : BitVec 32 := 8#32
  let v20 : BitVec 32 := Scalar.remsi v2 c8_i32_5
  let c7_i32 : BitVec 32 := 7#32
  let v46 : BitVec 32 := Scalar.addi v20 c7_i32
  let c8_i32_20 : BitVec 32 := 8#32
  let v47 : BitVec 32 := Scalar.remsi v46 c8_i32_20
  let v48 : BitVec 32 := Scalar.addi v45 v47
  let c1_i32_49 : BitVec 32 := 1#32
  let v74 : BitVec 32 := Scalar.muli v48 c1_i32_49
  let v75 : BitVec 32 := Scalar.addi c0_i32_50 v74
  v75.toNat
def k0_dev8 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_21 : BitVec 32 := 1#32
  let v49 : BitVec 32 := Scalar.addi v19 c1_i32_21
  let c4_i32_22 : BitVec 32 := 4#32
  let v50 : BitVec 32 := Scalar.remsi v49 c4_i32_22
  let c8_i32_23 : BitVec 32 := 8#32
  let v51 : BitVec 32 := Scalar.muli v50 c8_i32_23
  let c8_i32_5 : BitVec 32 := 8#32
  let v20 : BitVec 32 := Scalar.remsi v2 c8_i32_5
  let v52 : BitVec 32 := Scalar.addi v51 v20
  let c1_i32_52 : BitVec 32 := 1#32
  let v76 : BitVec 32 := Scalar.muli v52 c1_i32_52
  let v77 : BitVec 32 := Scalar.addi c0_i32_53 v76
  v77.toNat
def k0_dev9 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_24 : BitVec 32 := 2#32
  let v53 : BitVec 32 := Scalar.addi v19 c2_i32_24
  let c4_i32_25 : BitVec 32 := 4#32
  let v54 : BitVec 32 := Scalar.remsi v53 c4_i32_25
  let c8_i32_26 : BitVec 32 := 8#32
  let v55 : BitVec 32 := Scalar.muli v54 c8_i32_26
  let c8_i32_5 : BitVec 32 := 8#32
  let v20 : BitVec 32 := Scalar.remsi v2 c8_i32_5
  let v56 : BitVec 32 := Scalar.addi v55 v20
  let c1_i32_55 : BitVec 32 := 1#32
  let v78 : BitVec 32 := Scalar.muli v56 c1_i32_55
  let v79 : BitVec 32 := Scalar.addi c0_i32_56 v78
  v79.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_27 : BitVec 32 := 3#32
  let v57 : BitVec 32 := Scalar.addi v19 c3_i32_27
  let c4_i32_28 : BitVec 32 := 4#32
  let v58 : BitVec 32 := Scalar.remsi v57 c4_i32_28
  let c8_i32_29 : BitVec 32 := 8#32
  let v59 : BitVec 32 := Scalar.muli v58 c8_i32_29
  let c8_i32_5 : BitVec 32 := 8#32
  let v20 : BitVec 32 := Scalar.remsi v2 c8_i32_5
  let v60 : BitVec 32 := Scalar.addi v59 v20
  let c1_i32_58 : BitVec 32 := 1#32
  let v80 : BitVec 32 := Scalar.muli v60 c1_i32_58
  let v81 : BitVec 32 := Scalar.addi c0_i32_59 v80
  v81.toNat
def k0_dev11 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_75 : BitVec 32 := 1#32
  let v91 : BitVec 32 := Scalar.muli v24 c1_i32_75
  let v92 : BitVec 32 := Scalar.addi c0_i32_76 v91
  v92.toNat
def k0_dev12 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_9 : BitVec 32 := 8#32
  let v25 : BitVec 32 := Scalar.muli v19 c8_i32_9
  let c8_i32_5 : BitVec 32 := 8#32
  let v20 : BitVec 32 := Scalar.remsi v2 c8_i32_5
  let c2_i32 : BitVec 32 := 2#32
  let v26 : BitVec 32 := Scalar.addi v20 c2_i32
  let c8_i32_10 : BitVec 32 := 8#32
  let v27 : BitVec 32 := Scalar.remsi v26 c8_i32_10
  let v28 : BitVec 32 := Scalar.addi v25 v27
  let c1_i32_89 : BitVec 32 := 1#32
  let v101 : BitVec 32 := Scalar.muli v28 c1_i32_89
  let v102 : BitVec 32 := Scalar.addi c0_i32_90 v101
  v102.toNat
def k0_dev13 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v29 : BitVec 32 := Scalar.muli v19 c8_i32_11
  let c8_i32_5 : BitVec 32 := 8#32
  let v20 : BitVec 32 := Scalar.remsi v2 c8_i32_5
  let c3_i32 : BitVec 32 := 3#32
  let v30 : BitVec 32 := Scalar.addi v20 c3_i32
  let c8_i32_12 : BitVec 32 := 8#32
  let v31 : BitVec 32 := Scalar.remsi v30 c8_i32_12
  let v32 : BitVec 32 := Scalar.addi v29 v31
  let c1_i32_103 : BitVec 32 := 1#32
  let v111 : BitVec 32 := Scalar.muli v32 c1_i32_103
  let v112 : BitVec 32 := Scalar.addi c0_i32_104 v111
  v112.toNat
def k0_dev14 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_13 : BitVec 32 := 8#32
  let v33 : BitVec 32 := Scalar.muli v19 c8_i32_13
  let c8_i32_5 : BitVec 32 := 8#32
  let v20 : BitVec 32 := Scalar.remsi v2 c8_i32_5
  let c4_i32 : BitVec 32 := 4#32
  let v34 : BitVec 32 := Scalar.addi v20 c4_i32
  let c8_i32_14 : BitVec 32 := 8#32
  let v35 : BitVec 32 := Scalar.remsi v34 c8_i32_14
  let v36 : BitVec 32 := Scalar.addi v33 v35
  let c1_i32_117 : BitVec 32 := 1#32
  let v121 : BitVec 32 := Scalar.muli v36 c1_i32_117
  let v122 : BitVec 32 := Scalar.addi c0_i32_118 v121
  v122.toNat
def k0_dev15 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v37 : BitVec 32 := Scalar.muli v19 c8_i32_15
  let c8_i32_5 : BitVec 32 := 8#32
  let v20 : BitVec 32 := Scalar.remsi v2 c8_i32_5
  let c5_i32 : BitVec 32 := 5#32
  let v38 : BitVec 32 := Scalar.addi v20 c5_i32
  let c8_i32_16 : BitVec 32 := 8#32
  let v39 : BitVec 32 := Scalar.remsi v38 c8_i32_16
  let v40 : BitVec 32 := Scalar.addi v37 v39
  let c1_i32_131 : BitVec 32 := 1#32
  let v131 : BitVec 32 := Scalar.muli v40 c1_i32_131
  let v132 : BitVec 32 := Scalar.addi c0_i32_132 v131
  v132.toNat
def k0_dev16 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_17 : BitVec 32 := 8#32
  let v41 : BitVec 32 := Scalar.muli v19 c8_i32_17
  let c8_i32_5 : BitVec 32 := 8#32
  let v20 : BitVec 32 := Scalar.remsi v2 c8_i32_5
  let c6_i32 : BitVec 32 := 6#32
  let v42 : BitVec 32 := Scalar.addi v20 c6_i32
  let c8_i32_18 : BitVec 32 := 8#32
  let v43 : BitVec 32 := Scalar.remsi v42 c8_i32_18
  let v44 : BitVec 32 := Scalar.addi v41 v43
  let c1_i32_145 : BitVec 32 := 1#32
  let v141 : BitVec 32 := Scalar.muli v44 c1_i32_145
  let v142 : BitVec 32 := Scalar.addi c0_i32_146 v141
  v142.toNat
def k0_dev17 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_19 : BitVec 32 := 8#32
  let v45 : BitVec 32 := Scalar.muli v19 c8_i32_19
  let c8_i32_5 : BitVec 32 := 8#32
  let v20 : BitVec 32 := Scalar.remsi v2 c8_i32_5
  let c7_i32 : BitVec 32 := 7#32
  let v46 : BitVec 32 := Scalar.addi v20 c7_i32
  let c8_i32_20 : BitVec 32 := 8#32
  let v47 : BitVec 32 := Scalar.remsi v46 c8_i32_20
  let v48 : BitVec 32 := Scalar.addi v45 v47
  let c1_i32_159 : BitVec 32 := 1#32
  let v151 : BitVec 32 := Scalar.muli v48 c1_i32_159
  let v152 : BitVec 32 := Scalar.addi c0_i32_160 v151
  v152.toNat
def k0_dev18 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_180 : BitVec 32 := 1#32
  let v170 : BitVec 32 := Scalar.muli v24 c1_i32_180
  let v171 : BitVec 32 := Scalar.addi c0_i32_181 v170
  v171.toNat
def k0_dev19 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_9 : BitVec 32 := 8#32
  let v25 : BitVec 32 := Scalar.muli v19 c8_i32_9
  let c8_i32_5 : BitVec 32 := 8#32
  let v20 : BitVec 32 := Scalar.remsi v2 c8_i32_5
  let c2_i32 : BitVec 32 := 2#32
  let v26 : BitVec 32 := Scalar.addi v20 c2_i32
  let c8_i32_10 : BitVec 32 := 8#32
  let v27 : BitVec 32 := Scalar.remsi v26 c8_i32_10
  let v28 : BitVec 32 := Scalar.addi v25 v27
  let c1_i32_194 : BitVec 32 := 1#32
  let v180 : BitVec 32 := Scalar.muli v28 c1_i32_194
  let v181 : BitVec 32 := Scalar.addi c0_i32_195 v180
  v181.toNat
def k0_dev20 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v29 : BitVec 32 := Scalar.muli v19 c8_i32_11
  let c8_i32_5 : BitVec 32 := 8#32
  let v20 : BitVec 32 := Scalar.remsi v2 c8_i32_5
  let c3_i32 : BitVec 32 := 3#32
  let v30 : BitVec 32 := Scalar.addi v20 c3_i32
  let c8_i32_12 : BitVec 32 := 8#32
  let v31 : BitVec 32 := Scalar.remsi v30 c8_i32_12
  let v32 : BitVec 32 := Scalar.addi v29 v31
  let c1_i32_208 : BitVec 32 := 1#32
  let v190 : BitVec 32 := Scalar.muli v32 c1_i32_208
  let v191 : BitVec 32 := Scalar.addi c0_i32_209 v190
  v191.toNat
def k0_dev21 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_13 : BitVec 32 := 8#32
  let v33 : BitVec 32 := Scalar.muli v19 c8_i32_13
  let c8_i32_5 : BitVec 32 := 8#32
  let v20 : BitVec 32 := Scalar.remsi v2 c8_i32_5
  let c4_i32 : BitVec 32 := 4#32
  let v34 : BitVec 32 := Scalar.addi v20 c4_i32
  let c8_i32_14 : BitVec 32 := 8#32
  let v35 : BitVec 32 := Scalar.remsi v34 c8_i32_14
  let v36 : BitVec 32 := Scalar.addi v33 v35
  let c1_i32_222 : BitVec 32 := 1#32
  let v200 : BitVec 32 := Scalar.muli v36 c1_i32_222
  let v201 : BitVec 32 := Scalar.addi c0_i32_223 v200
  v201.toNat
def k0_dev22 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v37 : BitVec 32 := Scalar.muli v19 c8_i32_15
  let c8_i32_5 : BitVec 32 := 8#32
  let v20 : BitVec 32 := Scalar.remsi v2 c8_i32_5
  let c5_i32 : BitVec 32 := 5#32
  let v38 : BitVec 32 := Scalar.addi v20 c5_i32
  let c8_i32_16 : BitVec 32 := 8#32
  let v39 : BitVec 32 := Scalar.remsi v38 c8_i32_16
  let v40 : BitVec 32 := Scalar.addi v37 v39
  let c1_i32_236 : BitVec 32 := 1#32
  let v210 : BitVec 32 := Scalar.muli v40 c1_i32_236
  let v211 : BitVec 32 := Scalar.addi c0_i32_237 v210
  v211.toNat
def k0_dev23 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_17 : BitVec 32 := 8#32
  let v41 : BitVec 32 := Scalar.muli v19 c8_i32_17
  let c8_i32_5 : BitVec 32 := 8#32
  let v20 : BitVec 32 := Scalar.remsi v2 c8_i32_5
  let c6_i32 : BitVec 32 := 6#32
  let v42 : BitVec 32 := Scalar.addi v20 c6_i32
  let c8_i32_18 : BitVec 32 := 8#32
  let v43 : BitVec 32 := Scalar.remsi v42 c8_i32_18
  let v44 : BitVec 32 := Scalar.addi v41 v43
  let c1_i32_250 : BitVec 32 := 1#32
  let v220 : BitVec 32 := Scalar.muli v44 c1_i32_250
  let v221 : BitVec 32 := Scalar.addi c0_i32_251 v220
  v221.toNat
def k0_dev24 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_19 : BitVec 32 := 8#32
  let v45 : BitVec 32 := Scalar.muli v19 c8_i32_19
  let c8_i32_5 : BitVec 32 := 8#32
  let v20 : BitVec 32 := Scalar.remsi v2 c8_i32_5
  let c7_i32 : BitVec 32 := 7#32
  let v46 : BitVec 32 := Scalar.addi v20 c7_i32
  let c8_i32_20 : BitVec 32 := 8#32
  let v47 : BitVec 32 := Scalar.remsi v46 c8_i32_20
  let v48 : BitVec 32 := Scalar.addi v45 v47
  let c1_i32_264 : BitVec 32 := 1#32
  let v230 : BitVec 32 := Scalar.muli v48 c1_i32_264
  let v231 : BitVec 32 := Scalar.addi c0_i32_265 v230
  v231.toNat
def k0_dev25 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_21 : BitVec 32 := 1#32
  let v49 : BitVec 32 := Scalar.addi v19 c1_i32_21
  let c4_i32_22 : BitVec 32 := 4#32
  let v50 : BitVec 32 := Scalar.remsi v49 c4_i32_22
  let c8_i32_23 : BitVec 32 := 8#32
  let v51 : BitVec 32 := Scalar.muli v50 c8_i32_23
  let c8_i32_5 : BitVec 32 := 8#32
  let v20 : BitVec 32 := Scalar.remsi v2 c8_i32_5
  let v52 : BitVec 32 := Scalar.addi v51 v20
  let c1_i32_484 : BitVec 32 := 1#32
  let v354 : BitVec 32 := Scalar.muli v52 c1_i32_484
  let v355 : BitVec 32 := Scalar.addi c0_i32_485 v354
  v355.toNat
def k0_dev26 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_24 : BitVec 32 := 2#32
  let v53 : BitVec 32 := Scalar.addi v19 c2_i32_24
  let c4_i32_25 : BitVec 32 := 4#32
  let v54 : BitVec 32 := Scalar.remsi v53 c4_i32_25
  let c8_i32_26 : BitVec 32 := 8#32
  let v55 : BitVec 32 := Scalar.muli v54 c8_i32_26
  let c8_i32_5 : BitVec 32 := 8#32
  let v20 : BitVec 32 := Scalar.remsi v2 c8_i32_5
  let v56 : BitVec 32 := Scalar.addi v55 v20
  let c1_i32_498 : BitVec 32 := 1#32
  let v364 : BitVec 32 := Scalar.muli v56 c1_i32_498
  let v365 : BitVec 32 := Scalar.addi c0_i32_499 v364
  v365.toNat
def k0_dev27 (d0 : Dev nD) : Nat :=
  let c0_i32_512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_27 : BitVec 32 := 3#32
  let v57 : BitVec 32 := Scalar.addi v19 c3_i32_27
  let c4_i32_28 : BitVec 32 := 4#32
  let v58 : BitVec 32 := Scalar.remsi v57 c4_i32_28
  let c8_i32_29 : BitVec 32 := 8#32
  let v59 : BitVec 32 := Scalar.muli v58 c8_i32_29
  let c8_i32_5 : BitVec 32 := 8#32
  let v20 : BitVec 32 := Scalar.remsi v2 c8_i32_5
  let v60 : BitVec 32 := Scalar.addi v59 v20
  let c1_i32_511 : BitVec 32 := 1#32
  let v374 : BitVec 32 := Scalar.muli v60 c1_i32_511
  let v375 : BitVec 32 := Scalar.addi c0_i32_512 v374
  v375.toNat
def k0_dev28 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_21 : BitVec 32 := 1#32
  let v49 : BitVec 32 := Scalar.addi v19 c1_i32_21
  let c4_i32_22 : BitVec 32 := 4#32
  let v50 : BitVec 32 := Scalar.remsi v49 c4_i32_22
  let c8_i32_23 : BitVec 32 := 8#32
  let v51 : BitVec 32 := Scalar.muli v50 c8_i32_23
  let c8_i32_5 : BitVec 32 := 8#32
  let v20 : BitVec 32 := Scalar.remsi v2 c8_i32_5
  let v52 : BitVec 32 := Scalar.addi v51 v20
  let c1_i32_723 : BitVec 32 := 1#32
  let v488 : BitVec 32 := Scalar.muli v52 c1_i32_723
  let v489 : BitVec 32 := Scalar.addi c0_i32_724 v488
  v489.toNat
def k0_dev29 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_24 : BitVec 32 := 2#32
  let v53 : BitVec 32 := Scalar.addi v19 c2_i32_24
  let c4_i32_25 : BitVec 32 := 4#32
  let v54 : BitVec 32 := Scalar.remsi v53 c4_i32_25
  let c8_i32_26 : BitVec 32 := 8#32
  let v55 : BitVec 32 := Scalar.muli v54 c8_i32_26
  let c8_i32_5 : BitVec 32 := 8#32
  let v20 : BitVec 32 := Scalar.remsi v2 c8_i32_5
  let v56 : BitVec 32 := Scalar.addi v55 v20
  let c1_i32_737 : BitVec 32 := 1#32
  let v498 : BitVec 32 := Scalar.muli v56 c1_i32_737
  let v499 : BitVec 32 := Scalar.addi c0_i32_738 v498
  v499.toNat
def k0_dev30 (d0 : Dev nD) : Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_27 : BitVec 32 := 3#32
  let v57 : BitVec 32 := Scalar.addi v19 c3_i32_27
  let c4_i32_28 : BitVec 32 := 4#32
  let v58 : BitVec 32 := Scalar.remsi v57 c4_i32_28
  let c8_i32_29 : BitVec 32 := 8#32
  let v59 : BitVec 32 := Scalar.muli v58 c8_i32_29
  let c8_i32_5 : BitVec 32 := 8#32
  let v20 : BitVec 32 := Scalar.remsi v2 c8_i32_5
  let v60 : BitVec 32 := Scalar.addi v59 v20
  let c1_i32_751 : BitVec 32 := 1#32
  let v508 : BitVec 32 := Scalar.muli v60 c1_i32_751
  let v509 : BitVec 32 := Scalar.addi c0_i32_752 v508
  v509.toNat
abbrev stage0_0 : Fin 1 → Memref sig .tc .vmem S2x2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x16384 : Shape := ⟨3, ![2, 2048, 16384]⟩
abbrev S2x128 : Shape := ⟨2, ![2, 128]⟩
abbrev S128x16384 : Shape := ⟨2, ![128, 16384]⟩
abbrev S_ : Shape := ⟨0, ![]⟩
abbrev S2x2048 : Shape := ⟨2, ![2, 2048]⟩
abbrev S2x2048x1 : Shape := ⟨3, ![2, 2048, 1]⟩
abbrev S2x16384 : Shape := ⟨2, ![2, 16384]⟩
abbrev S2x1x16384 : Shape := ⟨3, ![2, 1, 16384]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x16384, .f32⟩
  | .hbm, ⟨1, _⟩ => ⟨S2x128, .f32⟩
  | .hbm, ⟨2, _⟩ => ⟨S128x16384, .f32⟩
  | .hbm, ⟨3, _⟩ => ⟨S128x16384, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .i32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x16384, .f32⟩
  | .hbm, ⟨18, _⟩ => ⟨S2x2048x16384, .f32⟩
  | .hbm, ⟨19, _⟩ => ⟨S2x2048x16384, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x2048, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x16384, .f32⟩
  | .hbm, ⟨35, _⟩ => ⟨S2x2048x16384, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S2x2048x1, .f32⟩
  | .hbm, ⟨40, _⟩ => ⟨S2x2048x16384, .f32⟩
  | .hbm, ⟨41, _⟩ => ⟨S2x2048x16384, .f32⟩
  | .hbm, ⟨42, _⟩ => ⟨S2x16384, .f32⟩
  | .hbm, ⟨43, _⟩ => ⟨S2x16384, .f32⟩
  | .hbm, ⟨44, _⟩ => ⟨S2x1x16384, .f32⟩
  | .hbm, ⟨45, _⟩ => ⟨S_, .f32⟩
  | .hbm, ⟨46, _⟩ => ⟨S2x1x16384, .f32⟩
  | .hbm, ⟨47, _⟩ => ⟨S2x1x16384, .f32⟩
  | .hbm, ⟨48, _⟩ => ⟨S2x2048x16384, .f32⟩
  | .hbm, ⟨49, _⟩ => ⟨S2x2048x16384, .f32⟩
  | .hbm, ⟨50, _⟩ => ⟨S2x1x16384, .f32⟩
  | .hbm, ⟨51, _⟩ => ⟨S2x2048x16384, .f32⟩
  | .hbm, ⟨52, _⟩ => ⟨S2x2048x16384, .f32⟩
  | _, _ => ⟨S2x2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Mesh.lean ====
/-
# The mesh: who talks to whom, the semaphore cells, and the slots of the communication buffer

The 32 devices are four groups of eight.  In the first exchange a device sends its partial sums to the
seven other devices of its group, in the second it sends the group's sums to the three devices of the
other groups that have its rank.  Both exchanges are indexed by the SLOT `o : Fin 12` of the communication
buffer that the transfer fills: slots 1–7 of the first exchange, 9–11 of the second, slots 0 and 8 hold the
device's own contributions and no transfer fills them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.SiteBlocks
public import Idealize.ShloMosaic.Lib.Tactic

@[expose] public section

noncomputable section

namespace Cert.LnProof

open Cert.KernelIdeal Cert.KernelIdeal.Gen
open Idealize.ShloMosaic
open Idealize.ShloMosaic.TcCoe
open Idealize.SL Idealize.SL.RA Idealize.SL.BI
open Idealize.SL.Sem

/-! ## Peers -/

set_option backward.proofsInPublic true in
/-- The device whose slot `o` device `c` fills. -/
def peer (c : Dev nD) (o : Fin 12) : Dev nD :=
  if o.val < 8 then ⟨c.val / 8 * 8 + (c.val % 8 + o.val) % 8, by have := c.isLt; have := o.isLt; simp only [nD] at *; omega⟩
  else ⟨(c.val / 8 + (o.val - 8)) % 4 * 8 + c.val % 8, by have := c.isLt; have := o.isLt; simp only [nD] at *; omega⟩

/-- The slot of the transfer in the opposite direction. -/
def opp : Fin 12 → Fin 12 := ![0, 7, 6, 5, 4, 3, 2, 1, 8, 11, 10, 9]

/-- The device that fills device `c`'s slot `o`. -/
def back (c : Dev nD) (o : Fin 12) : Dev nD := peer c (opp o)

/-- The opposite of the opposite offset is the offset. -/
theorem opp_opp : ∀ o, opp (opp o) = o := by decide
/-- The peer's peer at the opposite offset is the device. -/
theorem peer_opp : ∀ (c : Dev nD) (o), peer (peer c o) (opp o) = c := by decide +kernel
/-- The peer at the opposite offset has the device as its peer. -/
theorem opp_peer : ∀ (c : Dev nD) (o), peer (peer c (opp o)) o = c := by decide +kernel
/-- The device that reaches a peer is got back from it. -/
theorem back_peer (c : Dev nD) (o) : back (peer c o) o = c := peer_opp c o
/-- At offset 0 a device reaches itself. -/
theorem back_zero : ∀ c : Dev nD, back c 0 = c := by decide +kernel
/-- At offset 8, the second exchange's own slot, a device reaches itself. -/
theorem back_eight : ∀ c : Dev nD, back c 8 = c := by decide +kernel

/-- Stepping by slot `o` permutes the devices. -/
def swing (o : Fin 12) : Dev nD ≃ Dev nD := ⟨fun c => peer c o, fun c => peer c (opp o), fun c => peer_opp c o, fun c => opp_peer c o⟩

/-- The slots that a transfer fills. -/
def act : Finset (Fin 12) := {1, 2, 3, 4, 5, 6, 7, 9, 10, 11}

/-- The opposite of a peer's offset is a peer's offset. -/
theorem opp_act : ∀ o ∈ act, opp o ∈ act := by decide

/-! ## The kernel's device words -/

/-- The kernel's device number 1 is the peer at offset 1. -/
theorem dev1_eq : ∀ c : Dev nD, (⟨k0_dev1 c, k0_dev1_lt c⟩ : Dev nD) = peer c 1 := by decide +kernel
/-- The kernel's device number 2 is the peer at offset 2. -/
theorem dev2_eq : ∀ c : Dev nD, (⟨k0_dev2 c, k0_dev2_lt c⟩ : Dev nD) = peer c 2 := by decide +kernel
/-- The kernel's device number 3 is the peer at offset 3. -/
theorem dev3_eq : ∀ c : Dev nD, (⟨k0_dev3 c, k0_dev3_lt c⟩ : Dev nD) = peer c 3 := by decide +kernel
/-- The kernel's device number 4 is the peer at offset 4. -/
theorem dev4_eq : ∀ c : Dev nD, (⟨k0_dev4 c, k0_dev4_lt c⟩ : Dev nD) = peer c 4 := by decide +kernel
/-- The kernel's device number 5 is the peer at offset 5. -/
theorem dev5_eq : ∀ c : Dev nD, (⟨k0_dev5 c, k0_dev5_lt c⟩ : Dev nD) = peer c 5 := by decide +kernel
/-- The kernel's device number 6 is the peer at offset 6. -/
theorem dev6_eq : ∀ c : Dev nD, (⟨k0_dev6 c, k0_dev6_lt c⟩ : Dev nD) = peer c 6 := by decide +kernel
/-- The kernel's device number 7 is the peer at offset 7. -/
theorem dev7_eq : ∀ c : Dev nD, (⟨k0_dev7 c, k0_dev7_lt c⟩ : Dev nD) = peer c 7 := by decide +kernel
/-- The kernel's device number 8 is the peer at offset 9. -/
theorem dev8_eq : ∀ c : Dev nD, (⟨k0_dev8 c, k0_dev8_lt c⟩ : Dev nD) = peer c 9 := by decide +kernel
/-- The kernel's device number 9 is the peer at offset 10. -/
theorem dev9_eq : ∀ c : Dev nD, (⟨k0_dev9 c, k0_dev9_lt c⟩ : Dev nD) = peer c 10 := by decide +kernel
/-- The kernel's device number 10 is the peer at offset 11. -/
theorem dev10_eq : ∀ c : Dev nD, (⟨k0_dev10 c, k0_dev10_lt c⟩ : Dev nD) = peer c 11 := by decide +kernel
/-- The kernel's device number 11 is the peer at offset 1. -/
theorem dev11_eq : ∀ c : Dev nD, (⟨k0_dev11 c, k0_dev11_lt c⟩ : Dev nD) = peer c 1 := by decide +kernel
/-- The kernel's device number 12 is the peer at offset 2. -/
theorem dev12_eq : ∀ c : Dev nD, (⟨k0_dev12 c, k0_dev12_lt c⟩ : Dev nD) = peer c 2 := by decide +kernel
/-- The kernel's device number 13 is the peer at offset 3. -/
theorem dev13_eq : ∀ c : Dev nD, (⟨k0_dev13 c, k0_dev13_lt c⟩ : Dev nD) = peer c 3 := by decide +kernel
/-- The kernel's device number 14 is the peer at offset 4. -/
theorem dev14_eq : ∀ c : Dev nD, (⟨k0_dev14 c, k0_dev14_lt c⟩ : Dev nD) = peer c 4 := by decide +kernel
/-- The kernel's device number 15 is the peer at offset 5. -/
theorem dev15_eq : ∀ c : Dev nD, (⟨k0_dev15 c, k0_dev15_lt c⟩ : Dev nD) = peer c 5 := by decide +kernel
/-- The kernel's device number 16 is the peer at offset 6. -/
theorem dev16_eq : ∀ c : Dev nD, (⟨k0_dev16 c, k0_dev16_lt c⟩ : Dev nD) = peer c 6 := by decide +kernel
/-- The kernel's device number 17 is the peer at offset 7. -/
theorem dev17_eq : ∀ c : Dev nD, (⟨k0_dev17 c, k0_dev17_lt c⟩ : Dev nD) = peer c 7 := by decide +kernel
/-- The kernel's device number 18 is the peer at offset 1. -/
theorem dev18_eq : ∀ c : Dev nD, (⟨k0_dev18 c, k0_dev18_lt c⟩ : Dev nD) = peer c 1 := by decide +kernel
/-- The kernel's device number 19 is the peer at offset 2. -/
theorem dev19_eq : ∀ c : Dev nD, (⟨k0_dev19 c, k0_dev19_lt c⟩ : Dev nD) = peer c 2 := by decide +kernel
/-- The kernel's device number 20 is the peer at offset 3. -/
theorem dev20_eq : ∀ c : Dev nD, (⟨k0_dev20 c, k0_dev20_lt c⟩ : Dev nD) = peer c 3 := by decide +kernel
/-- The kernel's device number 21 is the peer at offset 4. -/
theorem dev21_eq : ∀ c : Dev nD, (⟨k0_dev21 c, k0_dev21_lt c⟩ : Dev nD) = peer c 4 := by decide +kernel
/-- The kernel's device number 22 is the peer at offset 5. -/
theorem dev22_eq : ∀ c : Dev nD, (⟨k0_dev22 c, k0_dev22_lt c⟩ : Dev nD) = peer c 5 := by decide +kernel
/-- The kernel's device number 23 is the peer at offset 6. -/
theorem dev23_eq : ∀ c : Dev nD, (⟨k0_dev23 c, k0_dev23_lt c⟩ : Dev nD) = peer c 6 := by decide +kernel
/-- The kernel's device number 24 is the peer at offset 7. -/
theorem dev24_eq : ∀ c : Dev nD, (⟨k0_dev24 c, k0_dev24_lt c⟩ : Dev nD) = peer c 7 := by decide +kernel
/-- The kernel's device number 25 is the peer at offset 9. -/
theorem dev25_eq : ∀ c : Dev nD, (⟨k0_dev25 c, k0_dev25_lt c⟩ : Dev nD) = peer c 9 := by decide +kernel
/-- The kernel's device number 26 is the peer at offset 10. -/
theorem dev26_eq : ∀ c : Dev nD, (⟨k0_dev26 c, k0_dev26_lt c⟩ : Dev nD) = peer c 10 := by decide +kernel
/-- The kernel's device number 27 is the peer at offset 11. -/
theorem dev27_eq : ∀ c : Dev nD, (⟨k0_dev27 c, k0_dev27_lt c⟩ : Dev nD) = peer c 11 := by decide +kernel
/-- The kernel's device number 28 is the peer at offset 9. -/
theorem dev28_eq : ∀ c : Dev nD, (⟨k0_dev28 c, k0_dev28_lt c⟩ : Dev nD) = peer c 9 := by decide +kernel
/-- The kernel's device number 29 is the peer at offset 10. -/
theorem dev29_eq : ∀ c : Dev nD, (⟨k0_dev29 c, k0_dev29_lt c⟩ : Dev nD) = peer c 10 := by decide +kernel
/-- The kernel's device number 30 is the peer at offset 11. -/
theorem dev30_eq : ∀ c : Dev nD, (⟨k0_dev30 c, k0_dev30_lt c⟩ : Dev nD) = peer c 11 := by decide +kernel

/-! ## The cells -/

/-- The send semaphore of half `h` and slot `o`. -/
def sendS (h : Fin 2) (o : Fin 12) : DmaSem sig := ⟨6 + 12 * h.val + o.val, by have := h.isLt; have := o.isLt; show _ < 54; omega⟩
/-- The receive semaphore of half `h` and slot `o`. -/
def recvS (h : Fin 2) (o : Fin 12) : DmaSem sig := ⟨30 + 12 * h.val + o.val, by have := h.isLt; have := o.isLt; show _ < 54; omega⟩
/-- The semaphore of the copy of half `h` of the result. -/
def outS (h : Fin 2) : DmaSem sig := ⟨4 + h.val, by have := h.isLt; show _ < 54; omega⟩

/-- The semaphore of a copy's departure from slot `o` of half `h`. -/
abbrev sendCell (c : Dev nD) (h : Fin 2) (o : Fin 12) : GSem nD τ sig := ((c : Thread nD τ), .dma (sendS h o))
/-- The semaphore of a copy's arrival in slot `o` of half `h`. -/
abbrev recvCell (c : Dev nD) (h : Fin 2) (o : Fin 12) : GSem nD τ sig := ((c : Thread nD τ), .dma (recvS h o))
/-- The semaphore of the copy of half `h` to the result. -/
abbrev outCell (c : Dev nD) (h : Fin 2) : GSem nD τ sig := ((c : Thread nD τ), .dma (outS h))
/-- The barrier's semaphore. -/
abbrev barCell (c : Dev nD) : GSem nD τ sig := ((c : Thread nD τ), .reg barrier0)

/-- What a semaphore is for. -/
inductive Kind
  | bar
  | send (h : Fin 2) (o : Fin 12)
  | recv (h : Fin 2) (o : Fin 12)
  | out (h : Fin 2)
  | other
  deriving DecidableEq

set_option backward.proofsInPublic true in
/-- The use of each semaphore of a device. -/
def kindOf : SemLoc sig → Kind
  | .reg s => if s = barrier0 then .bar else .other
  | .dma s =>
    if h30 : 30 ≤ s.val then .recv ⟨(s.val - 30) / 12, by have : s.val < 54 := s.isLt; omega⟩ ⟨(s.val - 30) % 12, by omega⟩
    else if h6 : 6 ≤ s.val then .send ⟨(s.val - 6) / 12, by omega⟩ ⟨(s.val - 6) % 12, by omega⟩
    else if h4 : 4 ≤ s.val then .out ⟨s.val - 4, by omega⟩
    else .other

/-- The barrier's semaphore is of the barrier's kind. -/
theorem kind_bar : kindOf (.reg barrier0) = .bar := rfl
/-- A send semaphore is of the send kind. -/
theorem kind_send : ∀ h o, kindOf (.dma (sendS h o)) = .send h o := by decide +kernel
/-- A receive semaphore is of the receive kind. -/
theorem kind_recv : ∀ h o, kindOf (.dma (recvS h o)) = .recv h o := by decide +kernel
/-- An output semaphore is of the output kind. -/
theorem kind_out : ∀ h, kindOf (.dma (outS h)) = .out h := by decide +kernel

/-! ## The slots -/

/-- A slot lies inside the exchange buffer. -/
theorem slot_inb (h : Fin 2) (o : Fin 12) (a : Fin 4) : (![h.val, o.val, 0, 0] : Fin 4 → ℕ) a + S1x1x4x1024.size a ≤ S2x12x4x1024.size a := by
  revert a; revert o; revert h; decide +kernel

/-- Slot `o` of half `h` of the communication buffer, as a rectangle of it. -/
def slotR (h : Fin 2) (o : Fin 12) : Rect S2x12x4x1024 := Rect.unit (s := S2x12x4x1024) ![h.val, o.val, 0, 0] S1x1x4x1024.size (slot_inb h o)

/-- The exchange buffer. -/
abbrev commM : Memref sig .tc .vmem S2x12x4x1024 .f32 := Memref.whole cc0_scratch1
/-- The output buffer. -/
abbrev obufM : Memref sig .tc .vmem S2x2x1024x512 .f32 := Memref.whole cc0_scratch0
/-- The staged block of `x`. -/
abbrev xM : Memref sig .tc .vmem S2x2048x512 .f32 := Memref.whole cc0_stg0_0
/-- The staged embedding. -/
abbrev tM : Memref sig .tc .vmem S2x128 .f32 := Memref.whole cc0_stg1_0
/-- The staged block of `W_scale`. -/
abbrev wsM : Memref sig .tc .vmem S128x512 .f32 := Memref.whole cc0_stg2_0
/-- The staged block of `W_shift`. -/
abbrev whM : Memref sig .tc .vmem S128x512 .f32 := Memref.whole cc0_stg3_0
/-- The device's block of the result. -/
abbrev resM : Memref sig .tc .hbm S2x2048x512 .f32 := Memref.whole main_v1

/-- The memref of slot `o` of half `h`. -/
def slotM (h : Fin 2) (o : Fin 12) : Memref sig .tc .vmem S4x1024 .f32 :=
  (commM.slice (Rect.unit (s := S2x12x4x1024) ![h.val, o.val, 0, 0] S1x1x4x1024.size (slot_inb h o)) (fun _ => rfl)).squeeze S4x1024 squeezes_S1x1x4x1024_S4x1024

/-- The general slot at a literal place is the one that the kernel names. -/
theorem slotM_test : slotM 0 1 = (commM.slice (Rect.unit (s := S2x12x4x1024) ![0, 1, 0, 0] S1x1x4x1024.size inb_S2x12x4x1024_S1x1x4x1024_0_1_0_0) (fun _ => rfl)).squeeze S4x1024 squeezes_S1x1x4x1024_S4x1024 := rfl
/-- The general send semaphore at a literal place is the one that the kernel names. -/
theorem sendS_test : sendS 1 9 = ((cc0_scratch3.slice (Rect.unit (s := S2x12) ![1, 9] S1x1.size inb_S2x12_S1x1_1_9)).squeeze S_ squeezes_S1x1_S_).sem := rfl

end Cert.LnProof

end
-- ==== Proof.Contents.lean ====
/-
# What the buffers hold

Each device's staged inputs, the partial sums a device computes of its block, the sums of its group, the
communication buffer after each exchange, the output buffer and the result, as functions of the memory at
launch; and that the kernel's stores and transfers put these contents into the slots.
-/
module

public import proofs.«01_k».proof.Proof.Mesh

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

variable (m : (ℓ : Loc nD τ sig) → Buf (Elt F) ℓ)

/-! ## The staged inputs and what is computed of them -/

/-- Device `c`'s staged block of `x`. -/
def xstg (c : Dev nD) : (cc0_stg0_0 : Ref sig .tc).ty.Contents (Elt F) := (win0_0.blk (0 : Fin 1)).view.read (Elt F) (m ((c : Thread nD τ).loc main_arg0))
/-- Device `c`'s staged embedding. -/
def tstg (c : Dev nD) : (cc0_stg1_0 : Ref sig .tc).ty.Contents (Elt F) := (win0_1.blk (0 : Fin 1)).view.read (Elt F) (m ((c : Thread nD τ).loc main_arg1))
/-- Device `c`'s staged block of the scale weights. -/
def wsstg (c : Dev nD) : (cc0_stg2_0 : Ref sig .tc).ty.Contents (Elt F) := (win0_2.blk (0 : Fin 1)).view.read (Elt F) (m ((c : Thread nD τ).loc main_arg2))
/-- Device `c`'s staged block of the shift weights. -/
def whstg (c : Dev nD) : (cc0_stg3_0 : Ref sig .tc).ty.Contents (Elt F) := (win0_3.blk (0 : Fin 1)).view.read (Elt F) (m ((c : Thread nD τ).loc main_arg3))

/-- The first half (rows 0–1023) of the staged block of `x`. -/
def xlo (c : Dev nD) : Vec F S2x1024x512 .f32 :=
  xM.view.readAt (Elt F) (Rect.unit (s := S2x2048x512) ![0, 0, 0] S2x1024x512.size inb_S2x2048x512_S2x1024x512_0_0_0).toLoadRect (xstg m c)
/-- The second half (rows 1024–2047) of the staged block of `x`. -/
def xhi (c : Dev nD) : Vec F S2x1024x512 .f32 :=
  xM.view.readAt (Elt F) (Rect.unit (s := S2x2048x512) ![0, 1024, 0] S2x1024x512.size inb_S2x2048x512_S2x1024x512_0_1024_0).toLoadRect (xstg m c)
/-- The loaded embedding. -/
def tld (c : Dev nD) : Vec F S2x128 .f32 :=
  tM.view.readAt (Elt F) (Rect.unit (s := S2x128) ![0, 0] S2x128.size inb_S2x128_S2x128_0_0).toLoadRect (tstg m c)
/-- The loaded scale weights. -/
def wsld (c : Dev nD) : Vec F S128x512 .f32 :=
  wsM.view.readAt (Elt F) (Rect.unit (s := S128x512) ![0, 0] S128x512.size inb_S128x512_S128x512_0_0).toLoadRect (wsstg m c)
/-- The loaded shift weights. -/
def whld (c : Dev nD) : Vec F S128x512 .f32 :=
  whM.view.readAt (Elt F) (Rect.unit (s := S128x512) ![0, 0] S128x512.size inb_S128x512_S128x512_0_0).toLoadRect (whstg m c)

/-- The partial sums (of `x` and of its squares) of half `h` of device `c`'s block. -/
def statsV (c : Dev nD) (h : Fin 2) : FVec F S1x1x4x1024 .f32 :=
  if h = 0 then k0_pay2 (k0_pay1 (xlo m c)) else k0_pay3 (xhi m c)

set_option backward.proofsInPublic true in
/-- The index within a slot of an index of the communication buffer. -/
def inSlot (i : S2x12x4x1024.Idx) : S1x1x4x1024.Idx := fun a => match a with
  | 0 => (0 : Fin 1)
  | 1 => (0 : Fin 1)
  | 2 => (i 2 : Fin 4)
  | 3 => (i 3 : Fin 1024)

/-- The communication buffer's slots 0–7 after the first exchange: slot `o` holds the partial sums of the
device that fills it. -/
def comm1F (c : Dev nD) : (cc0_scratch1 : Ref sig .tc).ty.Contents (Elt F) :=
  fun i : S2x12x4x1024.Idx => statsV m (back c (i 1)) (i 0) (inSlot i)

/-- The sums over device `c`'s group. -/
def gsumV (c : Dev nD) (h : Fin 2) : FVec F S1x1x4x1024 .f32 :=
  if h = 0 then
    k0_pay6 (commM.view.readAt (Elt F) (Rect.unit (s := S2x12x4x1024) ![0, 0, 0, 0] S1x8x4x1024.size inb_S2x12x4x1024_S1x8x4x1024_0_0_0_0).toLoadRect (comm1F m c))
  else
    k0_pay7 (commM.view.readAt (Elt F) (Rect.unit (s := S2x12x4x1024) ![1, 0, 0, 0] S1x8x4x1024.size inb_S2x12x4x1024_S1x8x4x1024_1_0_0_0).toLoadRect (comm1F m c))

/-- The communication buffer's slots 8–11 after the second exchange: slot `o` holds the group sums of the
device that fills it. -/
def comm2F (c : Dev nD) : (cc0_scratch1 : Ref sig .tc).ty.Contents (Elt F) :=
  fun i : S2x12x4x1024.Idx => gsumV m (back c (i 1)) (i 0) (inSlot i)

/-- What slot `o` of the communication buffer holds when it is full. -/
def commF (c : Dev nD) (o : Fin 12) : (cc0_scratch1 : Ref sig .tc).ty.Contents (Elt F) :=
  if o.val < 8 then comm1F m c else comm2F m c

/-- The sums over all groups, four slots of them, as device `c` loads them. -/
def g2ld (c : Dev nD) (h : Fin 2) : Vec F S1x4x4x1024 .f32 :=
  if h = 0 then
    commM.view.readAt (Elt F) (Rect.unit (s := S2x12x4x1024) ![0, 8, 0, 0] S1x4x4x1024.size inb_S2x12x4x1024_S1x4x4x1024_0_8_0_0).toLoadRect (comm2F m c)
  else
    commM.view.readAt (Elt F) (Rect.unit (s := S2x12x4x1024) ![1, 8, 0, 0] S1x4x4x1024.size inb_S2x12x4x1024_S1x4x4x1024_1_8_0_0).toLoadRect (comm2F m c)

/-- The scale and the shift of device `c`'s channels. -/
def scaleV (c : Dev nD) : FVec F S2x512 .f32 := k0_pay4 (tld m c) (wsld m c)
/-- The shift: the product of the embedding and `W_shift`. -/
def shiftV (c : Dev nD) : FVec F S2x512 .f32 := k0_pay5 (tld m c) (whld m c)

/-- Half `h` of device `c`'s block of the result. -/
def outV (c : Dev nD) (h : Fin 2) : FVec F S1x2x1024x512 .f32 :=
  if h = 0 then k0_pay11 (scaleV m c) (shiftV m c) (k0_pay9 (g2ld m c 0)) (k0_pay10 (g2ld m c 0)) (xlo m c)
  else k0_pay12 (scaleV m c) (shiftV m c) (g2ld m c 1) (xhi m c)

set_option backward.proofsInPublic true in
/-- The index within a half of an index of the output buffer. -/
def inHalf (i : S2x2x1024x512.Idx) : S1x2x1024x512.Idx := fun a => match a with
  | 0 => (0 : Fin 1)
  | 1 => (i 1 : Fin 2)
  | 2 => (i 2 : Fin 1024)
  | 3 => (i 3 : Fin 512)

/-- The output buffer when it is full. -/
def obufF (c : Dev nD) : (cc0_scratch0 : Ref sig .tc).ty.Contents (Elt F) :=
  fun i : S2x2x1024x512.Idx => outV m c (i 0) (inHalf i)

set_option backward.proofsInPublic true in
/-- The place in the output buffer of an index of the result. -/
def obufIx (i : S2x2048x512.Idx) : S2x2x1024x512.Idx := fun a => match a with
  | 0 => (⟨(i 1).val / 1024, by have : (i 1).val < 2048 := (i 1).isLt; show _ < 2; omega⟩ : Fin 2)
  | 1 => (i 0 : Fin 2)
  | 2 => (⟨(i 1).val % 1024, Nat.mod_lt _ (by decide)⟩ : Fin 1024)
  | 3 => (i 2 : Fin 512)

/-- Device `c`'s block of the result. -/
def resF (c : Dev nD) : (main_v1 : Ref sig .tc).ty.Contents (Elt F) := fun i : S2x2048x512.Idx => obufF m c (obufIx i)

/-! ## Element sets -/

/-- The elements of slot `o` of half `h`. -/
def slotI (h : Fin 2) (o : Fin 12) : Finset S2x12x4x1024.Idx := (slotM h o).view.set

omit [FloatOps F] in
/-- An index of a slot in the exchange buffer: the slot's place plus the index inside it. -/
theorem slot_emb (h : Fin 2) (o : Fin 12) (y : S1x1x4x1024.Idx) (a : Fin 4) :
    (((slotR h o).emb y : S2x12x4x1024.Idx) a).val = (![h.val, o.val, 0, 0] : Fin 4 → ℕ) a + (y a).val := by
  show (![h.val, o.val, 0, 0] : Fin 4 → ℕ) a + 1 * (y a).val = _
  rw [Nat.one_mul]

omit [FloatOps F] in
/-- A slot's indices are the image of its rectangle. -/
theorem slotI_eq (h : Fin 2) (o : Fin 12) : slotI h o = Finset.univ.map (slotR h o).emb := by
  have h1 : slotI h o = ((View.whole cc0_scratch1).slice (slotR h o)).set := View.set_reshape _ _
  have h2 : ((View.whole cc0_scratch1).slice (slotR h o)).set = (slotR h o).set := View.set_slice_whole _ _
  exact h1.trans (h2.trans (Rect.map_emb_univ _).symm)

omit [FloatOps F] in
/-- An index lies in slot `o` of half `h` when its first two coordinates are `h` and `o`. -/
theorem mem_slotI (h : Fin 2) (o : Fin 12) (i : S2x12x4x1024.Idx) : i ∈ slotI h o ↔ (i 0).val = h.val ∧ (i 1).val = o.val := by
  rw [slotI_eq, Finset.mem_map]
  constructor
  · rintro ⟨y, -, rfl⟩
    have h0 := slot_emb h o y 0; have h1 := slot_emb h o y 1
    have y0 : (y 0).val < 1 := (y 0).isLt
    have y1 : (y 1).val < 1 := (y 1).isLt
    have e0 : (![h.val, o.val, 0, 0] : Fin 4 → ℕ) 0 = h.val := rfl
    have e1 : (![h.val, o.val, 0, 0] : Fin 4 → ℕ) 1 = o.val := rfl
    rw [e0] at h0
    rw [e1] at h1
    exact ⟨by omega, by omega⟩
  · rintro ⟨h0, h1⟩
    refine ⟨inSlot i, Finset.mem_univ _, ?_⟩
    funext a
    apply Fin.ext
    rw [slot_emb]
    fin_cases a
    · simp [inSlot, h0]
    · simp [inSlot, h1]
    · simp [inSlot]
    · simp [inSlot]

omit [FloatOps F] in
/-- An element of a unit rectangle of a whole buffer lies between the rectangle's ends on every axis. -/
theorem mem_unit (b : Ref sig .tc) {off size : Fin b.ty.shape.rank → ℕ} {inb : ∀ a, off a + size a ≤ b.ty.shape.size a} {i : b.ty.shape.Idx}
    (hi : i ∈ ((View.whole b).slice (Rect.unit off size inb)).set) (a : Fin b.ty.shape.rank) : off a ≤ (i a).val ∧ (i a).val < off a + size a := by
  have h2 : ((View.whole b).slice (Rect.unit off size inb)).set = (Rect.unit off size inb).set := View.set_slice_whole _ _
  rw [h2, ← Rect.map_emb_univ, Finset.mem_map] at hi
  obtain ⟨y, -, rfl⟩ := hi
  have h : ((Rect.unit off size inb).emb y a).val = off a + 1 * (y a).val := rfl
  have hy : (y a).val < size a := (y a).isLt
  omega

/-- The elements of slots 0–7 of half `h`. -/
def lowI (h : Fin 2) : Finset S2x12x4x1024.Idx := Finset.univ.filter fun i => (i 0).val = h.val ∧ (i 1).val < 8
/-- The elements of slots 8–11 of half `h`. -/
def highI (h : Fin 2) : Finset S2x12x4x1024.Idx := Finset.univ.filter fun i => (i 0).val = h.val ∧ 8 ≤ (i 1).val

omit [FloatOps F] in
/-- The load of half 0's first eight slots stays in them. -/
theorem load_low0 : (commM.access (Rect.unit (s := S2x12x4x1024) ![0, 0, 0, 0] S1x8x4x1024.size inb_S2x12x4x1024_S1x8x4x1024_0_0_0_0)).set ⊆ lowI 0 := by
  intro i hi
  have h0 : 0 ≤ (i 0).val ∧ (i 0).val < 0 + 1 := mem_unit cc0_scratch1 hi 0
  have h1 : 0 ≤ (i 1).val ∧ (i 1).val < 0 + 8 := mem_unit cc0_scratch1 hi 1
  exact Finset.mem_filter.mpr ⟨Finset.mem_univ _, show (i 0).val = 0 by omega, by omega⟩
omit [FloatOps F] in
/-- The load of half 1's first eight slots stays in them. -/
theorem load_low1 : (commM.access (Rect.unit (s := S2x12x4x1024) ![1, 0, 0, 0] S1x8x4x1024.size inb_S2x12x4x1024_S1x8x4x1024_1_0_0_0)).set ⊆ lowI 1 := by
  intro i hi
  have h0 : 1 ≤ (i 0).val ∧ (i 0).val < 1 + 1 := mem_unit cc0_scratch1 hi 0
  have h1 : 0 ≤ (i 1).val ∧ (i 1).val < 0 + 8 := mem_unit cc0_scratch1 hi 1
  exact Finset.mem_filter.mpr ⟨Finset.mem_univ _, show (i 0).val = 1 by omega, by omega⟩
omit [FloatOps F] in
/-- The load of half 0's last four slots stays in them. -/
theorem load_high0 : (commM.access (Rect.unit (s := S2x12x4x1024) ![0, 8, 0, 0] S1x4x4x1024.size inb_S2x12x4x1024_S1x4x4x1024_0_8_0_0)).set ⊆ highI 0 := by
  intro i hi
  have h0 : 0 ≤ (i 0).val ∧ (i 0).val < 0 + 1 := mem_unit cc0_scratch1 hi 0
  have h1 : 8 ≤ (i 1).val ∧ (i 1).val < 8 + 4 := mem_unit cc0_scratch1 hi 1
  exact Finset.mem_filter.mpr ⟨Finset.mem_univ _, show (i 0).val = 0 by omega, by omega⟩
omit [FloatOps F] in
/-- The load of half 1's last four slots stays in them. -/
theorem load_high1 : (commM.access (Rect.unit (s := S2x12x4x1024) ![1, 8, 0, 0] S1x4x4x1024.size inb_S2x12x4x1024_S1x4x4x1024_1_8_0_0)).set ⊆ highI 1 := by
  intro i hi
  have h0 : 1 ≤ (i 0).val ∧ (i 0).val < 1 + 1 := mem_unit cc0_scratch1 hi 0
  have h1 : 8 ≤ (i 1).val ∧ (i 1).val < 8 + 4 := mem_unit cc0_scratch1 hi 1
  exact Finset.mem_filter.mpr ⟨Finset.mem_univ _, show (i 0).val = 1 by omega, by omega⟩
omit [FloatOps F] in
/-- An access of a slot's rectangle touches the slot's indices. -/
theorem access_slot (h : Fin 2) (o : Fin 12) : (commM.access (slotR h o)).set = slotI h o := (View.set_reshape _ _).symm

omit [FloatOps F] in
/-- Different slots are disjoint. -/
theorem slotI_disj {h h' : Fin 2} {o o' : Fin 12} (hne : ¬ (h = h' ∧ o = o')) : Disjoint (slotI h o) (slotI h' o') := by
  rw [Finset.disjoint_left]
  intro i hi hi'
  rw [mem_slotI] at hi hi'
  exact hne ⟨Fin.ext (hi.1.symm.trans hi'.1), Fin.ext (hi.2.symm.trans hi'.2)⟩

omit [FloatOps F] in
/-- The slots make up the buffer. -/
theorem slots_cover : (Finset.univ : Finset (Fin 2 × Fin 12)).biUnion (fun p => slotI p.1 p.2) = Finset.univ := by
  ext i
  simp only [Finset.mem_biUnion, Finset.mem_univ, true_and, iff_true, Prod.exists]
  exact ⟨(i 0 : Fin 2), (i 1 : Fin 12), (mem_slotI _ _ i).2 ⟨rfl, rfl⟩⟩
omit [FloatOps F] in
/-- The slots 0 to 7 make up the first exchange's part of a half. -/
theorem low_cover (h : Fin 2) : (Finset.univ.filter fun o : Fin 12 => o.val < 8).biUnion (slotI h) = lowI h := by
  ext i
  simp only [lowI, Finset.mem_biUnion, Finset.mem_filter, Finset.mem_univ, true_and, mem_slotI]
  constructor
  · rintro ⟨o, ho, h0, h1⟩; exact ⟨h0, by omega⟩
  · rintro ⟨h0, h1⟩; exact ⟨(i 1 : Fin 12), h1, h0, rfl⟩
omit [FloatOps F] in
/-- The slots 8 to 11 make up the second exchange's part of a half. -/
theorem high_cover (h : Fin 2) : (Finset.univ.filter fun o : Fin 12 => 8 ≤ o.val).biUnion (slotI h) = highI h := by
  ext i
  simp only [highI, Finset.mem_biUnion, Finset.mem_filter, Finset.mem_univ, true_and, mem_slotI]
  constructor
  · rintro ⟨o, ho, h0, h1⟩; exact ⟨h0, by omega⟩
  · rintro ⟨h0, h1⟩; exact ⟨(i 1 : Fin 12), h1, h0, rfl⟩

/-! ## Stores and transfers -/

omit [FloatOps F] in
/-- The index inside a slot is got back from the index in the buffer. -/
theorem inSlot_emb (h : Fin 2) (o : Fin 12) (y : S1x1x4x1024.Idx) : inSlot ((slotR h o).emb y) = y := by
  funext a
  apply Fin.ext
  fin_cases a
  · have : (y 0).val < 1 := (y 0).isLt
    show 0 = (y 0).val
    omega
  · have : (y 1).val < 1 := (y 1).isLt
    show 0 = (y 1).val
    omega
  · show (((slotR h o).emb y : S2x12x4x1024.Idx) 2).val = (y 2).val
    rw [slot_emb]; exact Nat.zero_add _
  · show (((slotR h o).emb y : S2x12x4x1024.Idx) 3).val = (y 3).val
    rw [slot_emb]; exact Nat.zero_add _

omit [FloatOps F] in
/-- A slot stored from `w` holds `w`. -/
theorem store_slot (h : Fin 2) (o : Fin 12) (f G : (cc0_scratch1 : Ref sig .tc).ty.Contents (Elt F)) (w : FVec F S1x1x4x1024 .f32)
    (hG : ∀ i ∈ slotI h o, G i = w (inSlot i)) :
    ∀ i ∈ slotI h o, (commM.access (slotR h o)).write (Elt F) f w Finset.univ i = G i := by
  intro i hi
  have hi' := hi
  rw [slotI_eq, Finset.mem_map] at hi'
  obtain ⟨y, -, rfl⟩ := hi'
  refine (View.write_emb_of_mem (v := commM.access (slotR h o)) f w (Finset.mem_univ y)).trans ?_
  exact ((hG _ hi).trans (congrArg w (inSlot_emb h o y))).symm

omit [FloatOps F] in
/-- A slot filled by a transfer from slot `s` of the same half holds what that slot held. -/
theorem xfer_slot (h : Fin 2) (s o : Fin 12) (fs fd G : (cc0_scratch1 : Ref sig .tc).ty.Contents (Elt F))
    (hG : ∀ i ∈ slotI h o, ∀ j ∈ slotI h s, inSlot i = inSlot j → G i = fs j) :
    ∀ i ∈ slotI h o, (slotM h o).view.write (Elt F) fd ((slotM h s).view.read (Elt F) fs) Finset.univ i = G i := by
  intro i hi
  have hi' := hi
  obtain ⟨y, -, rfl⟩ := Finset.mem_map.1 hi'
  refine (View.write_emb_of_mem (v := (slotM h o).view) fd _ (Finset.mem_univ y)).trans ?_
  refine Eq.trans ?_ (hG _ hi ((slotM h s).view.emb y) (Finset.mem_map_of_mem _ (Finset.mem_univ y)) ?_).symm
  · rfl
  · show inSlot ((slotR h o).emb (Shape.reshapeEquiv squeezes_S1x1x4x1024_S4x1024.numel_eq y)) = inSlot ((slotR h s).emb (Shape.reshapeEquiv squeezes_S1x1x4x1024_S4x1024.numel_eq y))
    rw [inSlot_emb, inSlot_emb]

/-- Contents of a slot of the first exchange. -/
theorem comm1F_at (c : Dev nD) (h : Fin 2) (o : Fin 12) {i : S2x12x4x1024.Idx} (hi : i ∈ slotI h o) : comm1F m c i = statsV m (back c o) h (inSlot i) := by
  rw [mem_slotI] at hi
  have e0 : (i 0 : Fin 2) = h := Fin.ext hi.1
  have e1 : (i 1 : Fin 12) = o := Fin.ext hi.2
  show statsV m (back c (i 1 : Fin 12)) (i 0 : Fin 2) (inSlot i) = _
  rw [e0, e1]
/-- Contents of a slot of the second exchange. -/
theorem comm2F_at (c : Dev nD) (h : Fin 2) (o : Fin 12) {i : S2x12x4x1024.Idx} (hi : i ∈ slotI h o) : comm2F m c i = gsumV m (back c o) h (inSlot i) := by
  rw [mem_slotI] at hi
  have e0 : (i 0 : Fin 2) = h := Fin.ext hi.1
  have e1 : (i 1 : Fin 12) = o := Fin.ext hi.2
  show gsumV m (back c (i 1 : Fin 12)) (i 0 : Fin 2) (inSlot i) = _
  rw [e0, e1]

/-- The slot a transfer into slot `o` reads. -/
def srcOf (o : Fin 12) : Fin 12 := if o.val < 8 then 0 else 8

/-- A transfer from device `c` fills slot `o` of `peer c o` with its contents. -/
theorem xfer_commF (c : Dev nD) (h : Fin 2) (o : Fin 12) (fd : (cc0_scratch1 : Ref sig .tc).ty.Contents (Elt F)) :
    ∀ i ∈ slotI h o, (slotM h o).view.write (Elt F) fd ((slotM h (srcOf o)).view.read (Elt F) (commF m c (srcOf o))) Finset.univ i = commF m (peer c o) o i := by
  refine xfer_slot h (srcOf o) o _ fd _ fun i hi j hj hij => ?_
  by_cases ho : o.val < 8
  · have e : srcOf o = 0 := if_pos ho
    rw [e] at hj ⊢
    unfold commF
    rw [if_pos ho, if_pos (show (0 : Fin 12).val < 8 by decide), comm1F_at m _ h o hi, comm1F_at m _ h 0 hj, hij, back_peer, back_zero]
  · have e : srcOf o = 8 := if_neg ho
    rw [e] at hj ⊢
    unfold commF
    rw [if_neg ho, if_neg (show ¬ (8 : Fin 12).val < 8 by decide), comm2F_at m _ h o hi, comm2F_at m _ h 8 hj, hij, back_peer, back_eight]

/-- The kernel's store into slot 0. -/
theorem store_stats (c : Dev nD) (h : Fin 2) (f : (cc0_scratch1 : Ref sig .tc).ty.Contents (Elt F)) :
    ∀ i ∈ slotI h 0, (commM.access (slotR h 0)).write (Elt F) f (statsV m c h) Finset.univ i = commF m c 0 i :=
  store_slot h 0 f _ _ fun i hi => by
    unfold commF
    rw [if_pos (show (0 : Fin 12).val < 8 by decide), comm1F_at m c h 0 hi, back_zero]
/-- The kernel's store into slot 8. -/
theorem store_gsum (c : Dev nD) (h : Fin 2) (f : (cc0_scratch1 : Ref sig .tc).ty.Contents (Elt F)) :
    ∀ i ∈ slotI h 8, (commM.access (slotR h 8)).write (Elt F) f (gsumV m c h) Finset.univ i = commF m c 8 i :=
  store_slot h 8 f _ _ fun i hi => by
    unfold commF
    rw [if_neg (show ¬ (8 : Fin 12).val < 8 by decide), comm2F_at m c h 8 hi, back_eight]

/-! ## The output buffer and the result -/

/-- A half lies inside the output buffer. -/
theorem half_inb (h : Fin 2) (a : Fin 4) : (![h.val, 0, 0, 0] : Fin 4 → ℕ) a + S1x2x1024x512.size a ≤ S2x2x1024x512.size a := by
  revert a; revert h; decide
/-- A half of the rows lies inside the result. -/
theorem rows_inb (h : Fin 2) (a : Fin 3) : (![0, 1024 * h.val, 0] : Fin 3 → ℕ) a + S2x1024x512.size a ≤ S2x2048x512.size a := by
  revert a; revert h; decide

/-- Half `h` of the output buffer, as a rectangle of it and as the memref the copy reads. -/
def halfR (h : Fin 2) : Rect S2x2x1024x512 := Rect.unit (s := S2x2x1024x512) ![h.val, 0, 0, 0] S1x2x1024x512.size (half_inb h)
/-- Half `h` of the output buffer. -/
def halfM (h : Fin 2) : Memref sig .tc .vmem S2x1024x512 .f32 :=
  (obufM.slice (Rect.unit (s := S2x2x1024x512) ![h.val, 0, 0, 0] S1x2x1024x512.size (half_inb h)) (fun _ => rfl)).squeeze S2x1024x512 squeezes_S1x2x1024x512_S2x1024x512
/-- The rows of half `h` of the result. -/
def rowsR (h : Fin 2) : Rect S2x2048x512 := Rect.unit (s := S2x2048x512) ![0, 1024 * h.val, 0] S2x1024x512.size (rows_inb h)
/-- Half `h` of the result's rows. -/
def rowsM (h : Fin 2) : Memref sig .tc .hbm S2x1024x512 .f32 :=
  resM.slice (Rect.unit (s := S2x2048x512) ![0, 1024 * h.val, 0] S2x1024x512.size (rows_inb h)) (fun _ => rfl)

/-- The indices of half `h` of the output buffer. -/
def halfI (h : Fin 2) : Finset S2x2x1024x512.Idx := (halfM h).view.set
/-- The indices of half `h` of the result's rows. -/
def rowsI (h : Fin 2) : Finset S2x2048x512.Idx := (rowsM h).view.set

omit [FloatOps F] in
/-- An access of a half's rectangle touches the half's indices. -/
theorem access_half (h : Fin 2) : (obufM.access (halfR h)).set = halfI h := (View.set_reshape _ _).symm
omit [FloatOps F] in
/-- A half's indices are the image of its rectangle. -/
theorem halfI_eq (h : Fin 2) : halfI h = Finset.univ.map (halfR h).emb := by
  have h2 : ((View.whole cc0_scratch0).slice (halfR h)).set = (halfR h).set := View.set_slice_whole _ _
  exact (access_half h).symm.trans (h2.trans (Rect.map_emb_univ _).symm)
omit [FloatOps F] in
/-- The indices of half of the rows are the image of its rectangle. -/
theorem rowsI_eq (h : Fin 2) : rowsI h = Finset.univ.map (rowsR h).emb := by
  have h2 : ((View.whole main_v1).slice (rowsR h)).set = (rowsR h).set := View.set_slice_whole _ _
  exact h2.trans (Rect.map_emb_univ _).symm

omit [FloatOps F] in
/-- An index of a half in the output buffer: the half's place plus the index inside it. -/
theorem half_emb (h : Fin 2) (y : S1x2x1024x512.Idx) (a : Fin 4) :
    (((halfR h).emb y : S2x2x1024x512.Idx) a).val = (![h.val, 0, 0, 0] : Fin 4 → ℕ) a + (y a).val := by
  show (![h.val, 0, 0, 0] : Fin 4 → ℕ) a + 1 * (y a).val = _
  rw [Nat.one_mul]
omit [FloatOps F] in
/-- An index of half of the rows in the result: the half's place plus the index inside it. -/
theorem rows_emb (h : Fin 2) (y : S2x1024x512.Idx) (a : Fin 3) :
    (((rowsR h).emb y : S2x2048x512.Idx) a).val = (![0, 1024 * h.val, 0] : Fin 3 → ℕ) a + (y a).val := by
  show (![0, 1024 * h.val, 0] : Fin 3 → ℕ) a + 1 * (y a).val = _
  rw [Nat.one_mul]

omit [FloatOps F] in
/-- An index lies in half `h` of the output buffer when its first coordinate is `h`. -/
theorem mem_halfI (h : Fin 2) (i : S2x2x1024x512.Idx) : i ∈ halfI h ↔ (i 0).val = h.val := by
  rw [halfI_eq, Finset.mem_map]
  constructor
  · rintro ⟨y, -, rfl⟩
    have y0 : (y 0).val < 1 := (y 0).isLt
    refine (half_emb h y 0).trans ?_
    show h.val + (y 0).val = h.val
    omega
  · intro h0
    refine ⟨inHalf i, Finset.mem_univ _, ?_⟩
    funext a
    apply Fin.ext
    rw [half_emb]
    fin_cases a
    · exact h0.symm
    · exact Nat.zero_add _
    · exact Nat.zero_add _
    · exact Nat.zero_add _
set_option backward.proofsInPublic true in
/-- The index within a half of an index of the result. -/
def inRows (i : S2x2048x512.Idx) : S2x1024x512.Idx := fun a => match a with
  | 0 => (i 0 : Fin 2)
  | 1 => (⟨(i 1).val % 1024, Nat.mod_lt _ (by decide)⟩ : Fin 1024)
  | 2 => (i 2 : Fin 512)
omit [FloatOps F] in
/-- An index lies in half `h` of the result when its row is among the half's 1024. -/
theorem mem_rowsI (h : Fin 2) (i : S2x2048x512.Idx) : i ∈ rowsI h ↔ (i 1).val / 1024 = h.val := by
  rw [rowsI_eq, Finset.mem_map]
  constructor
  · rintro ⟨y, -, rfl⟩
    have y1 : (y 1).val < 1024 := (y 1).isLt
    have e : (((rowsR h).emb y : S2x2048x512.Idx) 1).val = 1024 * h.val + (y 1).val := rows_emb h y 1
    refine (congrArg (· / 1024) e).trans ?_
    show (1024 * h.val + (y 1).val) / 1024 = h.val
    omega
  · intro h0
    have h1 : (i 1).val < 2048 := (i 1).isLt
    refine ⟨inRows i, Finset.mem_univ _, ?_⟩
    funext a
    apply Fin.ext
    refine (rows_emb h (inRows i) a).trans ?_
    fin_cases a
    · exact Nat.zero_add _
    · show 1024 * h.val + (i 1).val % 1024 = (i 1).val
      omega
    · exact Nat.zero_add _

omit [FloatOps F] in
/-- The two halves make up the output buffer. -/
theorem halves_cover : (Finset.univ : Finset (Fin 2)).biUnion halfI = Finset.univ := by
  ext i
  simp only [Finset.mem_biUnion, Finset.mem_univ, true_and, iff_true]
  exact ⟨(i 0 : Fin 2), (mem_halfI _ i).2 rfl⟩
omit [FloatOps F] in
/-- The two halves of the rows make up the result. -/
theorem rows_cover : (Finset.univ : Finset (Fin 2)).biUnion rowsI = Finset.univ := by
  ext i
  simp only [Finset.mem_biUnion, Finset.mem_univ, true_and, iff_true]
  have h1 : (i 1).val < 2048 := (i 1).isLt
  exact ⟨⟨(i 1).val / 1024, by omega⟩, (mem_rowsI _ i).2 rfl⟩
omit [FloatOps F] in
/-- The halves of the output buffer are disjoint. -/
theorem halfI_disj {h h' : Fin 2} (hne : h ≠ h') : Disjoint (halfI h) (halfI h') := by
  rw [Finset.disjoint_left]
  intro i hi hi'
  rw [mem_halfI] at hi hi'
  exact hne (Fin.ext (hi.symm.trans hi'))
omit [FloatOps F] in
/-- The halves of the rows are disjoint. -/
theorem rowsI_disj {h h' : Fin 2} (hne : h ≠ h') : Disjoint (rowsI h) (rowsI h') := by
  rw [Finset.disjoint_left]
  intro i hi hi'
  rw [mem_rowsI] at hi hi'
  exact hne (Fin.ext (hi.symm.trans hi'))

omit [FloatOps F] in
/-- The index inside a half is got back from the index in the buffer. -/
theorem inHalf_emb (h : Fin 2) (y : S1x2x1024x512.Idx) : inHalf ((halfR h).emb y) = y := by
  funext a
  apply Fin.ext
  fin_cases a
  · have : (y 0).val < 1 := (y 0).isLt
    show 0 = (y 0).val
    omega
  · show (((halfR h).emb y : S2x2x1024x512.Idx) 1).val = (y 1).val
    rw [half_emb]; exact Nat.zero_add _
  · show (((halfR h).emb y : S2x2x1024x512.Idx) 2).val = (y 2).val
    rw [half_emb]; exact Nat.zero_add _
  · show (((halfR h).emb y : S2x2x1024x512.Idx) 3).val = (y 3).val
    rw [half_emb]; exact Nat.zero_add _

/-- The kernel's store into half `h` of the output buffer. -/
theorem store_half (c : Dev nD) (h : Fin 2) (f : (cc0_scratch0 : Ref sig .tc).ty.Contents (Elt F)) :
    ∀ i ∈ halfI h, (obufM.access (halfR h)).write (Elt F) f (outV m c h) Finset.univ i = obufF m c i := by
  intro i hi
  have hi' := hi
  rw [halfI_eq, Finset.mem_map] at hi'
  obtain ⟨y, -, rfl⟩ := hi'
  rw [mem_halfI] at hi
  have e0 : (((halfR h).emb y : S2x2x1024x512.Idx) 0 : Fin 2) = h := Fin.ext hi
  refine (View.write_emb_of_mem (v := obufM.access (halfR h)) f (outV m c h) (Finset.mem_univ y)).trans ?_
  show outV m c h y = outV m c (((halfR h).emb y : S2x2x1024x512.Idx) 0 : Fin 2) (inHalf ((halfR h).emb y))
  rw [e0]
  exact congrArg (outV m c h) (inHalf_emb h y).symm

/-- The squeeze of a half, an index at a time. -/
theorem half_squeeze (y : S2x1024x512.Idx) : Shape.reshapeEquiv (s := S1x2x1024x512) squeezes_S1x2x1024x512_S2x1024x512.numel_eq y
    = (Fin.cons (0 : Fin 1) y : S1x2x1024x512.Idx) :=
  Shape.reshapeEquiv_cons_one (d := ![2, 1024, 512]) _ y

/-- The copy of half `h` of the output buffer puts it into the result. -/
theorem copy_rows (c : Dev nD) (h : Fin 2) (fd : (main_v1 : Ref sig .tc).ty.Contents (Elt F)) :
    ∀ i ∈ rowsI h, (rowsM h).view.write (Elt F) fd ((halfM h).view.read (Elt F) (obufF m c)) Finset.univ i = resF m c i := by
  intro i hi
  have hi' := hi
  obtain ⟨y, -, rfl⟩ := Finset.mem_map.1 hi'
  refine (View.write_emb_of_mem (v := (rowsM h).view) fd _ (Finset.mem_univ y)).trans ?_
  show obufF m c ((halfR h).emb (Shape.reshapeEquiv squeezes_S1x2x1024x512_S2x1024x512.numel_eq y)) = obufF m c (obufIx ((rowsR h).emb y))
  congr 1
  rw [half_squeeze]
  have y1 : (y 1).val < 1024 := (y 1).isLt
  funext a
  apply Fin.ext
  rw [half_emb]
  fin_cases a
  · show h.val + 0 = (((rowsR h).emb y : S2x2048x512.Idx) 1).val / 1024
    rw [rows_emb]
    show _ = (1024 * h.val + (y 1).val) / 1024
    omega
  · show 0 + (y 0).val = (((rowsR h).emb y : S2x2048x512.Idx) 0).val
    rw [rows_emb]; rfl
  · show 0 + (y 1).val = (((rowsR h).emb y : S2x2048x512.Idx) 1).val % 1024
    rw [rows_emb]
    show _ = (1024 * h.val + (y 1).val) % 1024
    omega
  · show 0 + (y 2).val = (((rowsR h).emb y : S2x2048x512.Idx) 2).val
    rw [rows_emb]; rfl

end Cert.LnProof

end
-- ==== Proof.Protocol.lean ====
/-
# The protocol

The schedule of the semaphore cells under the rounds library: what each signal, transfer and copy hands to the
device that waits for it.  Every cell has one round.

* Barrier cell of device `e`, one unit from each device that fills one of its slots … in the opposite
  direction: duty `o` is paid by the device `c` with `peer c o = e`, and hands over the slots of `c` that `e` will
  fill.
* Send cell of slot `o`: the share of the source slot that the transfer read.
* Receive cell of slot `o`: the slot, filled.
* Cell of a half's copy: the half of the result, written, and the half of the output buffer.
-/
module

public import proofs.«01_k».proof.Proof.Contents

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

/-! ## The resource algebra -/

/-- The ghost state of the semaphores' rounds. -/
abbrev UB : Type := URounds (GSem nD τ sig) (Fin 12)
/-- The ghost state of the launch and of the rounds. -/
abbrev UU : Type := UR sig nD τ × UB

local notation "𝕄" => MT nD τ sig ℕ (Elt F) ℕ UU ℕ

/-- The launch's ghost state inside the whole. -/
abbrev EP : Emb (UR sig nD τ) (MT nD τ sig ℕ (Elt F) ℕ UU ℕ) := embL
/-- The rounds' ghost state inside the whole. -/
abbrev ER : Emb UB (MT nD τ sig ℕ (Elt F) ℕ UU ℕ) := embR

variable (m : (ℓ : Loc nD τ sig) → Buf (Elt F) ℓ)

/-! ## Shares of a source slot -/

/-- What is left of the full share after `n` transfers have been started. -/
def remS : ℕ → PosShare TreeShare
  | 0 => fullShare
  | n + 1 => (remS n).right
/-- The share that the transfer of slot `o` reads with. -/
def shareOf (o : Fin 12) : PosShare TreeShare := if o.val < 8 then (remS (o.val - 1)).left else (remS (o.val - 9)).left

/-! ## Pieces of the buffers -/

/-- Share `q` of slot `o` of half `h` of device `c`'s communication buffer, holding `f` there. -/
def slotP (c : Dev nD) (h : Fin 2) (o : Fin 12) (q : PosShare TreeShare) (f : Buf (Elt F) ((slotM h o).view.loc (c : Thread nD τ))) : sProp 𝕄 :=
  (slotM h o).view.loc (c : Thread nD τ) ↦[(slotM h o).view.set]{q} f
/-- Half `h` of device `c`'s output buffer. -/
def halfP (c : Dev nD) (h : Fin 2) (f : Buf (Elt F) ((halfM h).view.loc (c : Thread nD τ))) : sProp 𝕄 :=
  (halfM h).view.loc (c : Thread nD τ) ↦[(halfM h).view.set]{fullShare} f
/-- Half `h` of device `c`'s block of the result. -/
def rowsP (c : Dev nD) (h : Fin 2) (f : Buf (Elt F) ((rowsM h).view.loc (c : Thread nD τ))) : sProp 𝕄 :=
  (rowsM h).view.loc (c : Thread nD τ) ↦[(rowsM h).view.set]{fullShare} f
/-- A slot with whatever it holds. -/
def slotE (c : Dev nD) (h : Fin 2) (o : Fin 12) : sProp 𝕄 := iprop(∃ f, slotP (F := F) c h o fullShare f)

omit [FloatOps F] in
/-- A slot may be stored in an invariant. -/
instance slotP_storable (c h o q f) : BI.Storable (upEmb : UEmb _ 𝕄) (slotP (F := F) c h o q f) := by unfold slotP; infer_instance
omit [FloatOps F] in
/-- A half of the output buffer may be stored in an invariant. -/
instance halfP_storable (c h f) : BI.Storable (upEmb : UEmb _ 𝕄) (halfP (F := F) c h f) := by unfold halfP; infer_instance
omit [FloatOps F] in
/-- A half of the result may be stored in an invariant. -/
instance rowsP_storable (c h f) : BI.Storable (upEmb : UEmb _ 𝕄) (rowsP (F := F) c h f) := by unfold rowsP; infer_instance
omit [FloatOps F] in
/-- A slot with any contents may be stored in an invariant. -/
instance slotE_storable (c h o) : BI.Storable (upEmb : UEmb _ 𝕄) (slotE (F := F) c h o) := by unfold slotE; infer_instance

/-! ## The schedule -/

/-- What duty `d` hands device `e` at its barrier: slot `opp d` of both halves of the device that pays it. -/
def barPay (e : Dev nD) (d : Fin 12) : sProp 𝕄 := iprop(slotE (F := F) (peer e (opp d)) 0 (opp d) ∗ slotE (F := F) (peer e (opp d)) 1 (opp d))
/-- What a departure hands back: the copy's share of the source slot. -/
def sendPay (c : Dev nD) (h : Fin 2) (o : Fin 12) : sProp 𝕄 := slotP c h (srcOf o) (shareOf o) (commF m c (srcOf o))
/-- What an arrival hands over: the slot with the sender's sums in it. -/
def recvPay (c : Dev nD) (h : Fin 2) (o : Fin 12) : sProp 𝕄 := slotP c h o fullShare (commF m c o)
/-- What the copy to the result hands back: the half written, and its source. -/
def outPay (c : Dev nD) (h : Fin 2) : sProp 𝕄 := iprop(rowsP c h (resF m c) ∗ halfP c h (obufF m c))

omit [FloatOps F] in
/-- What a barrier signal hands over may be stored in an invariant. -/
instance barPay_storable (e d) : BI.Storable (upEmb : UEmb _ 𝕄) (barPay (F := F) e d) := by unfold barPay; infer_instance
/-- What a departure hands back may be stored in an invariant. -/
instance sendPay_storable (c h o) : BI.Storable (upEmb : UEmb _ 𝕄) (sendPay m c h o) := slotP_storable c h _ _ _
/-- What an arrival hands over may be stored in an invariant. -/
instance recvPay_storable (c h o) : BI.Storable (upEmb : UEmb _ 𝕄) (recvPay m c h o) := slotP_storable c h _ _ _
/-- What the copy to the result hands back may be stored in an invariant. -/
instance outPay_storable (c h) : BI.Storable (upEmb : UEmb _ 𝕄) (outPay m c h) := by
  haveI h1 : BI.Storable (upEmb : UEmb _ 𝕄) (rowsP c h (resF m c)) := rowsP_storable c h _
  haveI h2 : BI.Storable (upEmb : UEmb _ 𝕄) (halfP c h (obufF m c)) := halfP_storable c h _
  unfold outPay; infer_instance

/-- The bytes of a slot and of a half of the result, as the semaphores count them. -/
def NX : ℕ := (slotM 0 0).view.dmaCredit
/-- What the copy of one half to the result adds to its semaphore. -/
def NO : ℕ := (rowsM 0).view.dmaCredit
/-- The copy of a slot adds something. -/
theorem NX_pos : 0 < NX := View.dmaCredit_pos _ (by decide)
/-- The copy of a half adds something. -/
theorem NO_pos : 0 < NO := View.dmaCredit_pos _ (by decide)
/-- The copy of any slot adds the same. -/
theorem slot_credit (h : Fin 2) (o : Fin 12) : (slotM h o).view.dmaCredit = NX := rfl
/-- The copy of either half adds the same. -/
theorem rows_credit (h : Fin 2) : (rowsM h).view.dmaCredit = NO := rfl

/-- The duties of a semaphore of each kind. -/
def dutiesK : Kind → Finset (Fin 12)
  | .bar => act
  | .send _ o => if o ∈ act then {0} else ∅
  | .recv _ o => if o ∈ act then {0} else ∅
  | .out _ => {0}
  | .other => ∅
/-- What one duty adds to a semaphore of each kind. -/
def amountK : Kind → ℕ
  | .bar => 1
  | .send _ _ => NX
  | .recv _ _ => NX
  | .out _ => NO
  | .other => 1
/-- What one duty hands over at a semaphore of each kind. -/
def payK (c : Dev nD) (d : Fin 12) : Kind → sProp 𝕄
  | .bar => barPay (F := F) c d
  | .send h o => sendPay m c h o
  | .recv h o => recvPay m c h o
  | .out h => outPay m c h
  | .other => iprop(emp)

/-- Every duty adds something. -/
theorem amountK_pos (k : Kind) : 0 < amountK k := by
  cases k
  · exact Nat.one_pos
  · exact NX_pos
  · exact NX_pos
  · exact NO_pos
  · exact Nat.one_pos

/-- The schedule: one round at every semaphore of the kernel. -/
def Rd : Rounds.Schedule (GSem nD τ sig) (Fin 12) 𝕄 where
  duties g r := if r = 0 ∧ g.1.2 = .tc then dutiesK (kindOf g.2) else ∅
  unitless _ := False
  amount g _ _ := amountK (kindOf g.2)
  payload g _ d := payK m g.1.1 d (kindOf g.2)
  amount_pos g _ _ _ := amountK_pos _

/-- Every payload of the schedule may be stored in an invariant. -/
instance Rd_payload_storable (g : GSem nD τ sig) (r : ℕ) (d : Fin 12) : BI.Storable (upEmb : UEmb _ 𝕄) ((Rd m).payload g r d) := by
  show BI.Storable upEmb (payK m g.1.1 d (kindOf g.2))
  cases kindOf g.2
  · exact barPay_storable _ _
  · exact sendPay_storable m _ _ _
  · exact recvPay_storable m _ _ _
  · exact outPay_storable m _ _
  · show BI.Storable upEmb iprop(emp); infer_instance

/-- A semaphore's duties are those of its kind. -/
theorem duties_at (c : Dev nD) {s : SemLoc sig} {k : Kind} (hk : kindOf s = k) : (Rd m).duties ((c : Thread nD τ), s) 0 = dutiesK k := by
  subst hk; dsimp only [Rd]; exact if_pos ⟨rfl, rfl⟩
/-- After the first round there are no duties. -/
theorem duties_later (g : GSem nD τ sig) : ∀ r, 1 ≤ r → (Rd m).duties g r = ∅ := fun r hr => by dsimp only [Rd]; exact if_neg fun h => by omega
/-- A duty's amount is that of the semaphore's kind. -/
theorem amount_at (g : GSem nD τ sig) {k : Kind} (hk : kindOf g.2 = k) (r : ℕ) (d : Fin 12) : (Rd m).amount g r d = amountK k := by subst hk; rfl
/-- A duty's payload is that of the semaphore's kind. -/
theorem payload_at (c : Dev nD) {s : SemLoc sig} {k : Kind} (hk : kindOf s = k) (r : ℕ) (d : Fin 12) : (Rd m).payload ((c : Thread nD τ), s) r d = payK m c d k := by subst hk; rfl

/-- A cell of one duty: what it expects and what its round hands over. -/
theorem expect_one (c : Dev nD) {s : SemLoc sig} {k : Kind} (hk : kindOf s = k) (hd : dutiesK k = {0}) : (Rd m).expect ((c : Thread nD τ), s) 0 = amountK k := by
  unfold Schedule.expect Schedule.amountOf
  rw [duties_at m c hk, hd, Finset.sum_singleton, amount_at m ((c : Thread nD τ), s) hk]
/-- Where there is one duty, the round hands over its payload. -/
theorem rest_one (c : Dev nD) {s : SemLoc sig} {k : Kind} (hk : kindOf s = k) (hd : dutiesK k = {0}) :
    bigSep ((Rd m).duties ((c : Thread nD τ), s) 0 \ ∅) (fun d => (Rd m).payload ((c : Thread nD τ), s) 0 d) = payK m c 0 k := by
  rw [Finset.sdiff_empty, duties_at m c hk, hd, bigSep_singleton, payload_at m c hk]
/-- The barrier waits for ten signals. -/
theorem expect_bar (c : Dev nD) : (Rd m).expect (barCell c) 0 = 10 := by
  unfold Schedule.expect Schedule.amountOf
  rw [duties_at m c kind_bar, Finset.sum_congr rfl fun d _ => amount_at m (barCell c) kind_bar 0 d]
  decide
/-- The barrier's round hands over the payloads of all ten. -/
theorem rest_bar (c : Dev nD) :
    bigSep ((Rd m).duties (barCell c) 0 \ ∅) (fun d => (Rd m).payload (barCell c) 0 d) = bigSep act (fun d => barPay (F := F) c d) := by
  rw [Finset.sdiff_empty, duties_at m c kind_bar]
  exact bigSep_congr fun d _ => payload_at m c kind_bar 0 d

/-! ## Lists of assertions -/

/-- The separating conjunction along a list. -/
def seqL {α : Type} (Φ : α → sProp 𝕄) : List α → sProp 𝕄
  | [] => iprop(emp)
  | a :: l => iprop(Φ a ∗ seqL Φ l)

omit [FloatOps F] in
/-- A family over a list, its first member taken out. -/
theorem seqL_cons {α : Type} (Φ : α → sProp 𝕄) (a : α) (l : List α) : seqL Φ (a :: l) = iprop(Φ a ∗ seqL Φ l) := rfl
omit [FloatOps F] in
/-- A family over the set of a list without repetition is the family over the list. -/
theorem seqL_eq {α : Type} [DecidableEq α] (Φ : α → sProp 𝕄) (l : List α) (hl : l.Nodup) : bigSep l.toFinset Φ = seqL Φ l := by
  induction l with
  | nil => rw [List.toFinset_nil, bigSep_empty]; rfl
  | cons a l ih =>
    rw [List.nodup_cons] at hl
    rw [List.toFinset_cons, bigSep_insert (by rw [List.mem_toFinset]; exact hl.1), ih hl.2, seqL_cons]
    rfl
omit [FloatOps F] in
/-- A family over a set is the family over a list of it. -/
theorem seqL_of {α : Type} [DecidableEq α] (Φ : α → sProp 𝕄) (s : Finset α) (l : List α) (hl : l.Nodup) (hs : l.toFinset = s) : bigSep s Φ = seqL Φ l := by
  rw [← hs, seqL_eq Φ l hl]

/-! ## What a device owes -/

/-- Barrier units owed: one to each listed slot's device. -/
def owB (c : Dev nD) : List (Fin 12) → CellTallies nD τ sig ℕ
  | [] => 0
  | o :: l => owB c l + tallyAt (barCell (peer c o)) 1 1
/-- The index at which a slot's credit is owed: 2 in the first exchange, 3 in the second. -/
def rix (o : Fin 12) : ℕ := if o.val < 8 then 2 else 3
/-- Credits of transfers owed. -/
def owX (c : Dev nD) : List (Fin 2 × Fin 12) → CellTallies nD τ sig ℕ
  | [] => 0
  | p :: l => owX c l + tallyAt (recvCell (peer c p.2) p.1 p.2) (rix p.2) NX

/-- The offsets of the barrier signals, in their order. -/
def barL : List (Fin 12) := [1, 2, 3, 4, 5, 6, 7, 9, 10, 11]
/-- The halves and slots of the remote copies, in the order of their starts. -/
def xferL : List (Fin 2 × Fin 12) :=
  [(0, 1), (0, 2), (0, 3), (0, 4), (0, 5), (0, 6), (0, 7), (1, 1), (1, 2), (1, 3), (1, 4), (1, 5), (1, 6), (1, 7),
    (0, 9), (0, 10), (0, 11), (1, 9), (1, 10), (1, 11)]
/-- What device `c` owes at launch. -/
def O₀ (c : Dev nD) : CellTallies nD τ sig ℕ := owX c xferL + owB c barL

/-- What is owed to barriers is owed at level 1. -/
theorem owB_pos {c : Dev nD} {l : List (Fin 12)} {g : GSem nD τ sig} {i : ℕ} (h : 0 < owB c l g i) : g.1.2 = .tc ∧ i = 1 := by
  induction l with
  | nil => exact absurd h (Nat.lt_irrefl 0)
  | cons o l ih =>
    unfold owB at h
    rw [Pi.add_apply, Finsupp.add_apply, tallyAt_apply] at h
    by_cases hh : g = barCell (peer c o) ∧ i = 1
    · exact ⟨by rw [hh.1], hh.2⟩
    · rw [if_neg hh] at h; exact ih h
/-- What is owed to arrivals is owed at the level of one of the copies. -/
theorem owX_pos {c : Dev nD} {l : List (Fin 2 × Fin 12)} {g : GSem nD τ sig} {i : ℕ} (h : 0 < owX c l g i) : g.1.2 = .tc ∧ ∃ p ∈ l, i = rix p.2 := by
  induction l with
  | nil => exact absurd h (Nat.lt_irrefl 0)
  | cons p l ih =>
    unfold owX at h
    rw [Pi.add_apply, Finsupp.add_apply, tallyAt_apply] at h
    by_cases hh : g = recvCell (peer c p.2) p.1 p.2 ∧ i = rix p.2
    · exact ⟨by rw [hh.1], p, List.mem_cons_self, hh.2⟩
    · rw [if_neg hh] at h
      obtain ⟨h1, q, hq, h2⟩ := ih h
      exact ⟨h1, q, List.mem_cons_of_mem _ hq, h2⟩
/-- The level of an arrival is below 4. -/
theorem rix_lt (o : Fin 12) : rix o < 4 := by unfold rix; split <;> decide
/-- The level of an arrival is at least 2. -/
theorem rix_ge (o : Fin 12) : 2 ≤ rix o := by unfold rix; split <;> decide

omit [FloatOps F] in
/-- A device may wait at index `i` while it owes only transfers at higher indices. -/
theorem mayWait_x (c : Dev nD) (s : SemLoc sig) (i : ℕ) (hi : i < 4) (l : List (Fin 2 × Fin 12)) (hl : ∀ p ∈ l, i < rix p.2) :
    (levAts (L 4) lv : sProp 𝕄) ⊢ MayWait (c : Thread nD τ) s i (owX c l) :=
  mayWait_of hi c s _ fun g k hk => by
    obtain ⟨h1, p, hp, rfl⟩ := owX_pos hk
    exact ⟨mem_L' h1 (rix_lt _), hl p hp⟩
omit [FloatOps F] in
/-- The pipeline's staging waits, at index 0, are allowed at launch. -/
theorem mayWait_stage (c : Dev nD) (s : SemLoc sig) : (levAts (L 4) lv : sProp 𝕄) ⊢ MayWait (c : Thread nD τ) s 0 (O₀ c) :=
  mayWait_of (by decide) c s _ fun g k hk => by
    unfold O₀ at hk
    rw [Pi.add_apply, Finsupp.add_apply] at hk
    rcases Nat.add_pos_iff_pos_or_pos.mp hk with h | h
    · obtain ⟨h1, p, hp, rfl⟩ := owX_pos h
      exact ⟨mem_L' h1 (rix_lt _), lt_of_lt_of_le (by decide) (rix_ge _)⟩
    · obtain ⟨h1, rfl⟩ := owB_pos h
      exact ⟨mem_L' h1 (by decide), by decide⟩

/-! ## The cells' invariants, by name -/

set_option backward.proofsInPublic true in
/-- The kernel's own DMA semaphores. -/
def osem (k : Fin 50) : SemLoc sig := .dma ⟨4 + k.val, by have := k.isLt; show _ < 54; omega⟩
/-- The cells: the kernel's own DMA cells, then the barrier cell. -/
def ksem (k : Fin 51) : SemLoc sig := if h : k.val < 50 then osem ⟨k.val, h⟩ else .reg barrier0
/-- Semaphore `k` of a device. -/
abbrev kcell (p : Dev nD × Fin 51) : GSem nD τ sig := ((p.1 : Thread nD τ), ksem p.2)

set_option backward.proofsInPublic true in
/-- The number of an output semaphore. -/
def kOut (h : Fin 2) : Fin 51 := ⟨h.val, by omega⟩
set_option backward.proofsInPublic true in
/-- The number of a send semaphore. -/
def kSend (h : Fin 2) (o : Fin 12) : Fin 51 := ⟨2 + 12 * h.val + o.val, by omega⟩
set_option backward.proofsInPublic true in
/-- The number of a receive semaphore. -/
def kRecv (h : Fin 2) (o : Fin 12) : Fin 51 := ⟨26 + 12 * h.val + o.val, by omega⟩
/-- The numbered output semaphore is that of its half. -/
theorem ksem_out : ∀ h, ksem (kOut h) = .dma (outS h) := by decide +kernel
/-- The numbered send semaphore is that of its half and slot. -/
theorem ksem_send : ∀ h o, ksem (kSend h o) = .dma (sendS h o) := by decide +kernel
/-- The numbered receive semaphore is that of its half and slot. -/
theorem ksem_recv : ∀ h o, ksem (kRecv h o) = .dma (recvS h o) := by decide +kernel
/-- The last semaphore is the barrier's. -/
theorem ksem_bar : ksem 50 = .reg barrier0 := by decide +kernel

/-- Every cell's invariant, under the names `K`, and that every cell has reached round 0. -/
def records (K : Dev nD × Fin 51 → ℕ) : sProp 𝕄 :=
  bigSep Finset.univ fun p : Dev nD × Fin 51 => iprop(cellInv ER (Rd m) (K p) (kcell p) ∗ reached ER (kcell p) 0)
/-- The records may be used again and again. -/
instance records_persistent (K : Dev nD × Fin 51 → ℕ) : BI.Persistent (records m K) := by unfold records; infer_instance

/-- The records hold the invariant of every semaphore. -/
theorem records_at (K : Dev nD × Fin 51 → ℕ) (c : Dev nD) (k : Fin 51) {s : SemLoc sig} (hs : ksem k = s) :
    records m K ⊢ iprop(cellInv ER (Rd m) (K (c, k)) ((c : Thread nD τ), s) ∗ reached ER ((c : Thread nD τ), s) 0) := by
  subst hs
  exact bigSep_elim (Finset.mem_univ ((c, k) : Dev nD × Fin 51))

end Cert.LnProof

end
-- ==== Proof.Steps.lean ====
/-
# One rule per operation

Each signal, transfer, copy and wait of the kernel, over the protocol: what a device holds before the operation
and after it.
-/
module

public import proofs.«01_k».proof.Proof.Protocol

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

local notation "𝕄" => MT nD τ sig ℕ (Elt F) ℕ UU ℕ

variable (m : (ℓ : Loc nD τ sig) → Buf (Elt F) ℓ) (K : Dev nD × Fin 51 → ℕ) (c : Dev nD)

/-- No loop in the kernel needs a variant. -/
abbrev 𝒱₀ : Variants := Variants.none

/-! ## What a device holds -/

/-- Device `c` owes the transfers from number `n` on, and the barrier units of the list. -/
def owBar (k : ℕ) : sProp 𝕄 := iprop(∃ W, owes (c : Thread nD τ) (owX c xferL + owB c (barL.drop k)) W)
/-- Device `c` owes the transfers from number `n` on. -/
def ow (n : ℕ) : sProp 𝕄 := iprop(∃ W, owes (c : Thread nD τ) (owX c (xferL.drop n)) W)
/-- What device `c` signals slot `o`'s device with: the duty's token and the two slots it hands over. -/
def barT (o : Fin 12) : sProp 𝕄 := iprop(dutyTok ER (barCell (peer c o)) 0 o ∗ slotE (F := F) c 0 (opp o) ∗ slotE (F := F) c 1 (opp o))
/-- What device `c` waits at its barrier with. -/
def barW : sProp 𝕄 := iprop(cred (tallyAt (barCell c) 1 10) ∗ atPos ER (barCell c) 0 ∅ 0)
/-- The tokens of the transfer of slot `o` of half `h`, and the position of its send cell. -/
def tokT (h : Fin 2) (o : Fin 12) : sProp 𝕄 :=
  iprop(dutyTok ER (sendCell c h o) 0 0 ∗ dutyTok ER (recvCell (peer c o) h o) 0 0 ∗ atPos ER (sendCell c h o) 0 ∅ 0)
/-- What device `c` waits for the end of its transfer with. -/
def sT (h : Fin 2) (o : Fin 12) : sProp 𝕄 := iprop(cred (tallyAt (sendCell c h o) 0 NX) ∗ atPos ER (sendCell c h o) 0 ∅ 0)
/-- What device `c` waits for a slot to be filled with. -/
def rT (h : Fin 2) (o : Fin 12) : sProp 𝕄 := iprop(cred (tallyAt (recvCell c h o) (rix o) NX) ∗ atPos ER (recvCell c h o) 0 ∅ 0)
/-- The source slot `s` after `n` transfers have been started from it. -/
def srcP (h : Fin 2) (s : Fin 12) (n : ℕ) : sProp 𝕄 := slotP c h s (remS n) (commF m c s)
/-- The token of the copy of half `h`, and the position of its cell. -/
def outT (h : Fin 2) : sProp 𝕄 := iprop(dutyTok ER (outCell c h) 0 0 ∗ atPos ER (outCell c h) 0 ∅ 0)
/-- What device `c` waits for the copy of half `h` with. -/
def copT (h : Fin 2) : sProp 𝕄 := iprop(cred (tallyAt (outCell c h) 0 NO) ∗ atPos ER (outCell c h) 0 ∅ 0)
/-- The listed semaphores, at zero. -/
def zs (l : List (SemLoc sig)) : sProp 𝕄 := seqL (fun s => semVal ((c : Thread nD τ), s) 0) l

omit [FloatOps F] in
/-- The slots handed over at the barrier, by the slot. -/
theorem barPay_list : bigSep act (fun d => barPay (F := F) c d) ⊢ seqL (fun o => iprop(slotE (F := F) (peer c o) 0 o ∗ slotE (F := F) (peer c o) 1 o)) barL := by
  rw [seqL_of (fun d => barPay (F := F) c d) act [7, 6, 5, 4, 3, 2, 1, 11, 10, 9] (by decide) (by decide)]
  exact Entails.of_eq rfl

/-! ## The rules -/

/-- The slots handed over at the barrier, one by one. -/
theorem bar_slots : seqL (fun o => iprop(slotE (F := F) (peer c o) 0 o ∗ slotE (F := F) (peer c o) 1 o)) barL
    ⊢ iprop((slotE (F := F) (peer c 1) 0 1 ∗ slotE (F := F) (peer c 1) 1 1) ∗ (slotE (F := F) (peer c 2) 0 2 ∗ slotE (F := F) (peer c 2) 1 2) ∗ (slotE (F := F) (peer c 3) 0 3 ∗ slotE (F := F) (peer c 3) 1 3) ∗ (slotE (F := F) (peer c 4) 0 4 ∗ slotE (F := F) (peer c 4) 1 4) ∗ (slotE (F := F) (peer c 5) 0 5 ∗ slotE (F := F) (peer c 5) 1 5) ∗ (slotE (F := F) (peer c 6) 0 6 ∗ slotE (F := F) (peer c 6) 1 6) ∗ (slotE (F := F) (peer c 7) 0 7 ∗ slotE (F := F) (peer c 7) 1 7) ∗ (slotE (F := F) (peer c 9) 0 9 ∗ slotE (F := F) (peer c 9) 1 9) ∗ (slotE (F := F) (peer c 10) 0 10 ∗ slotE (F := F) (peer c 10) 1 10) ∗ (slotE (F := F) (peer c 11) 0 11 ∗ slotE (F := F) (peer c 11) 1 11) ∗ emp) := Entails.of_eq rfl

/-- One more semaphore at zero joins the list. -/
theorem zs_push (s : SemLoc sig) (l : List (SemLoc sig)) : iprop(semVal ((c : Thread nD τ), s) 0 ∗ zs (F := F) c l) ⊢ zs (F := F) c (s :: l) := Entails.of_eq rfl

/-- A share of a slot splits into halves. -/
theorem slotP_split (h : Fin 2) (o : Fin 12) (q : PosShare TreeShare) (f : Buf (Elt F) ((slotM h o).view.loc (c : Thread nD τ))) :
    slotP c h o q f ⊢ iprop(slotP c h o q.left f ∗ slotP c h o q.right f) := (pointsTo_share (PosShare.mem_left_op_right q)).1
/-- The two halves of a share join. -/
theorem slotP_join (h : Fin 2) (o : Fin 12) (q : PosShare TreeShare) (f : Buf (Elt F) ((slotM h o).view.loc (c : Thread nD τ))) :
    iprop(slotP c h o q.left f ∗ slotP c h o q.right f) ⊢ slotP c h o q f := (pointsTo_share (PosShare.mem_left_op_right q)).2

/-- The two slots that a peer will fill are what the signal to it hands over. -/
theorem pay_bar (o : Fin 12) : iprop(slotE (F := F) c 0 (opp o) ∗ slotE (F := F) c 1 (opp o)) ⊢ (Rd m).payload (barCell (peer c o)) 0 o := by
  refine Entails.trans (Entails.of_eq ?_) (Entails.of_eq (payload_at m (peer c o) kind_bar 0 o).symm)
  show _ = barPay (peer c o) o
  unfold barPay
  rw [peer_opp]
/-- The share of the source slot is what the departure hands back. -/
theorem pay_send (h : Fin 2) (o : Fin 12) (q : PosShare TreeShare) (hq : shareOf o = q) :
    slotP c h (srcOf o) q (commF m c (srcOf o)) ⊢ (Rd m).payload (sendCell c h o) 0 0 := by
  subst hq
  exact Entails.of_eq (payload_at m c (kind_send h o) 0 0).symm
/-- The slot written with the sender's sums is what the arrival hands over. -/
theorem pay_recv (h : Fin 2) (o : Fin 12) (fd : Buf (Elt F) ((slotM h o).view.loc (peer c o : Thread nD τ))) :
    slotP (peer c o) h o fullShare ((slotM h o).view.write (Elt F) fd ((slotM h (srcOf o)).view.read (Elt F) (commF m c (srcOf o))) Finset.univ)
      ⊢ (Rd m).payload (recvCell (peer c o) h o) 0 0 :=
  (Entails.of_eq (pointsTo_congr (xfer_commF m c h o fd))).trans (Entails.of_eq (payload_at m (peer c o) (kind_recv h o) 0 0).symm)
/-- The half written and its source are what the copy to the result hands back. -/
theorem pay_out (h : Fin 2) (fd : Buf (Elt F) ((rowsM h).view.loc (c : Thread nD τ))) :
    iprop(rowsP c h ((rowsM h).view.write (Elt F) fd ((halfM h).view.read (Elt F) (obufF m c)) Finset.univ) ∗ halfP c h (obufF m c))
      ⊢ (Rd m).payload (outCell c h) 0 0 :=
  (sep_mono_left (Entails.of_eq (pointsTo_congr (copy_rows m c h fd)))).trans (Entails.of_eq (payload_at m c (kind_out h) 0 0).symm)

/-- One barrier signal pays one debt. -/
theorem owB_next (n : ℕ) (o : Fin 12) (hl : barL.drop n = o :: barL.drop (n + 1)) :
    owX c xferL + owB c (barL.drop n) = owX c xferL + owB c (barL.drop (n + 1)) + tallyAt (barCell (peer c o)) 1 1 := by
  rw [hl, add_assoc]; rfl
/-- One remote copy pays one debt. -/
theorem owX_next (n : ℕ) (h : Fin 2) (o : Fin 12) (hl : xferL.drop n = (h, o) :: xferL.drop (n + 1)) :
    owX c (xferL.drop n) = owX c (xferL.drop (n + 1)) + tallyAt (recvCell (peer c o) h o) (rix o) NX := by
  rw [hl]; rfl
/-- A departure is a duty of its semaphore. -/
theorem mem_send (h : Fin 2) (o : Fin 12) (ho : o ∈ act) : 0 ∈ (Rd m).duties (sendCell c h o) 0 := by
  rw [duties_at m c (kind_send h o), show dutiesK (.send h o) = {0} from if_pos ho]; exact Finset.mem_singleton_self _
/-- An arrival is a duty of its semaphore. -/
theorem mem_recv (h : Fin 2) (o : Fin 12) (ho : o ∈ act) : 0 ∈ (Rd m).duties (recvCell c h o) 0 := by
  rw [duties_at m c (kind_recv h o), show dutiesK (.recv h o) = {0} from if_pos ho]; exact Finset.mem_singleton_self _

variable {α : Type} {Q : α → sProp (MT nD τ sig ℕ (Elt F) ℕ UU ℕ)} {k : PUnit → Prog (TpuEff nD τ sig (Elt F) Λ₀ .tc) α}

/-- Signal slot `o`'s device. -/
theorem wp_sig (n : ℕ) (o : Fin 12) {e : Dev nD} (he : e = peer c o) {a : ℕ} (ha : 1 = a) (hl : barL.drop n = o :: barL.drop (n + 1)) (ho : o ∈ act) :
    iprop(records m K ∗ owBar (F := F) c n ∗ barT c o)
      ⊢ iprop((owBar (F := F) c (n + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (e : Thread nD τ) barrier0 a) k) Q) := by
  subst he ha
  have hd : o ∈ (Rd m).duties (barCell (peer c o)) 0 := by rw [duties_at m (peer c o) kind_bar]; exact ho
  unfold owBar barT
  iintro ⟨#HR, ⟨%W, HO⟩, Ht, Hs0, Hs1⟩ Hk
  ihave #HI := (records_at m K (peer c o) 50 ksem_bar) $$ HR
  icases HI with ⟨#Hc, #Hr⟩
  iapply (Rounds.wp_signal 𝒱₀ ER (Rd m) (c : Thread nD τ) none (dst := (peer c o : Thread nD τ)) (κ := K (peer c o, 50))
      (d := o) hd (amount_at m (barCell (peer c o)) kind_bar 0 o) 1
      (owX c xferL + owB c (barL.drop (n + 1))) (owB_next c n o hl)) $$ [HO Ht Hs0 Hs1]
  · isplitr; · iexact Hc
    isplitl [HO]; · iexact HO
    isplitl [Ht]; · iexact Ht
    isplitl [Hs0 Hs1]
    · iapply (pay_bar m c o)
      isplitl [Hs0]; · iexact Hs0
      iexact Hs1
    · iexact Hr
  iintro HO
  iapply Hk
  iexists W
  iexact HO

/-- After ten signals nothing is owed to barriers. -/
theorem owBar_done : owBar (F := F) c 10 ⊢ ow (F := F) c 0 := by
  unfold owBar ow
  rw [show barL.drop 10 = [] from rfl, show owB c [] = 0 from rfl, add_zero, show xferL.drop 0 = xferL from rfl]

/-- Wait for all ten signals: the slots that device `c` will fill are handed over. -/
theorem wp_barwait {a : ℕ} (ha : 10 = a) (l : List (SemLoc sig)) :
    iprop(records m K ∗ levAts (L 4) lv ∗ ow (F := F) c 0 ∗ barW (F := F) c ∗ zs (F := F) c l)
      ⊢ iprop(((ow (F := F) c 0 ∗ zs (F := F) c (.reg barrier0 :: l) ∗ seqL (fun o => iprop(slotE (F := F) (peer c o) 0 o ∗ slotE (F := F) (peer c o) 1 o)) barL)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barrier0 a) k) Q) := by
  subst ha
  unfold ow barW
  iintro ⟨#HR, #Hlev, ⟨%W, HO⟩, ⟨Hcr, Hat⟩, Hz⟩ Hk
  ihave #HI := (records_at m K c 50 ksem_bar) $$ HR
  icases HI with ⟨#Hc, #Hr⟩
  iapply (Rounds.wp_wait_rest_token 𝒱₀ ER (Rd m) (c : Thread nD τ) none (κ := K (c, 50))
      (wpE_semWait_eq 𝒱₀ (c : Thread nD τ) none Set.univ) (Set.mem_univ _) 1 (O := owX c (xferL.drop 0)) (W := W) (R := 0) (m := 0) (T := ∅)
      (by rw [expect_bar])) $$ [Hcr HO Hat]
  · isplitr; · iexact Hc
    isplitl [Hcr]; · iexact Hcr
    isplitl [HO]; · iexact HO
    isplitr; · iapply (mayWait_x c (.reg barrier0) 1 (by decide) (xferL.drop 0) (by decide)); iexact Hlev
    iexact Hat
  iintro ⟨HO, Hat, -, Hpay⟩
  ihave Hp := (Entails.of_eq (rest_bar m c)) $$ Hpay
  imod (Rounds.cell_close ER (Rd m) (Set.mem_univ (K (c, 50))) (fun h => h) (R := 0 + 1) (duties_later m (barCell c))) $$ [Hat] with Hz1
  · isplitr; · iexact Hc
    iexact Hat
  iapply Hk
  isplitl [HO]; · iexists _; iexact HO
  isplitl [Hz Hz1]
  · iapply (zs_push c (.reg barrier0) l)
    isplitl [Hz1]; · iexact Hz1
    iexact Hz
  · iapply (barPay_list c); iexact Hp

/-- Start the transfer of slot `o` of half `h`. -/
theorem wp_xfer (n : ℕ) (j : ℕ) (h : Fin 2) (o s : Fin 12) (hs : srcOf o = s) (hsh : shareOf o = (remS j).left) (ho : o ∈ act) {e : Dev nD} (he : e = peer c o)
    (hl : xferL.drop n = (h, o) :: xferL.drop (n + 1))
    {hsc : (slotM h o : Memref sig (Dev.tc e : Thread nD τ).2.kind .vmem S4x1024 .f32).view.ref.isScScratch = false}
    {hsrc : (slotM h s).view.WordExact} {hdst : (slotM h o).view.WordExact}
    {hsem : DmaTarget.Typed .vmem (.dma (recvS h o)) (.remote (Dev.tc e : Thread nD τ) (slotM h o : Memref sig .tc .vmem S4x1024 .f32) (.dma (sendS h o)) hsc)} :
    iprop(records m K ∗ srcP m c h s j ∗ ow (F := F) c n ∗ tokT (F := F) c h o ∗ slotE (F := F) (peer c o) h o)
      ⊢ iprop(((srcP m c h s (j + 1) ∗ ow (F := F) c (n + 1) ∗ sT (F := F) c h o)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (slotM h s) (.remote (Dev.tc e : Thread nD τ) (slotM h o : Memref sig .tc .vmem S4x1024 .f32) (.dma (sendS h o)) hsc) (.dma (recvS h o)) hsrc hdst hsem) k) Q) := by
  subst he hs
  have hN : (slotM h o).view.amount (.dma (recvS h o)) = NX := slot_credit h o
  unfold srcP ow tokT sT slotE
  iintro ⟨#HR, Hsrc, ⟨%W, HO⟩, ⟨Ht1, Ht2, Hat⟩, ⟨%fd, Hd⟩⟩ Hk
  ihave #HI1 := (records_at m K c (kSend h o) (ksem_send h o)) $$ HR
  ihave #HI2 := (records_at m K (peer c o) (kRecv h o) (ksem_recv h o)) $$ HR
  icases HI1 with ⟨#Hc1, #Hr1⟩
  icases HI2 with ⟨#Hc2, #Hr2⟩
  ihave Hss := (slotP_split c h (srcOf o) (remS j) (commF m c (srcOf o))) $$ Hsrc
  icases Hss with ⟨Hl, Hr⟩
  unfold slotP
  iapply (Rounds.wp_send_pointsTo 𝒱₀ ER (Rd m) (c : Thread nD τ) none (κ₁ := K (c, kSend h o)) (κ₂ := K (peer c o, kRecv h o))
    (src := slotM h (srcOf o)) (dst := slotM h o) (c' := (peer c o : Thread nD τ)) (sS := .dma (sendS h o)) (sem := .dma (recvS h o))
    (r₁ := 0) (r₂ := 0) (d₁ := 0) (d₂ := 0) (fd := fd) (fs := commF m c (srcOf o)) (q := (remS j).left)
    (mem_send m c h o ho) (mem_recv m (peer c o) h o ho)
    (rix o) 0 NX hN (amount_at m (sendCell c h o) (kind_send h o) 0 0) (amount_at m (recvCell (peer c o) h o) (kind_recv h o) 0 0)
    (owX c (xferL.drop (n + 1))) (owX_next c n h o hl) (W := W)
    (pay_send m c h o _ hsh) (pay_recv m c h o fd))
    $$ [Hl Hd HO Ht1 Ht2]
  · isplitr; · iexact Hc1
    isplitr; · iexact Hc2
    isplitl [Hl]; · iexact Hl
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk
  isplitl [Hr]; · iexact Hr
  isplitl [HO]; · iexists W; iexact HO
  isplitl [Hcr]; · iexact Hcr
  iexact Hat

/-- Wait for the end of the transfer of slot `o`: the share of the source comes back. -/
theorem wp_swait (n : ℕ) (h : Fin 2) (o s : Fin 12) (ho : o ∈ act) (l : List (SemLoc sig))
    {hsrc : (slotM h o).view.WordExact} {hdst : (slotM h s).view.WordExact} :
    iprop(records m K ∗ levAts (L 4) lv ∗ ow (F := F) c n ∗ sT (F := F) c h o ∗ zs (F := F) c l)
      ⊢ iprop(((ow (F := F) c n ∗ zs (F := F) c (.dma (sendS h o) :: l) ∗ sendPay m c h o)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (sendS h o) (slotM h o) (slotM h s) hsrc hdst) k) Q) := by
  have hd : dutiesK (.send h o) = {0} := if_pos ho
  unfold ow sT
  iintro ⟨#HR, #Hlev, ⟨%W, HO⟩, ⟨Hcr, Hat⟩, Hz⟩ Hk
  ihave #HI := (records_at m K c (kSend h o) (ksem_send h o)) $$ HR
  icases HI with ⟨#Hc, #Hr⟩
  iapply (Rounds.wp_wait_rest_token 𝒱₀ ER (Rd m) (c : Thread nD τ) none (κ := K (c, kSend h o))
      (wpE_waitDma2_eq 𝒱₀ (c : Thread nD τ) none Set.univ) (Set.mem_univ _) 0 (O := owX c (xferL.drop n)) (W := W) (R := 0) (m := 0) (T := ∅)
      (by rw [Nat.zero_add, expect_one m c (kind_send h o) hd]; rfl)) $$ [Hcr HO Hat]
  · isplitr; · iexact Hc
    isplitl [Hcr]; · iexact Hcr
    isplitl [HO]; · iexact HO
    isplitr; · iapply (mayWait_x c (.dma (sendS h o)) 0 (by decide) (xferL.drop n) (fun p _ => lt_of_lt_of_le (by decide) (rix_ge p.2))); iexact Hlev
    iexact Hat
  iintro ⟨HO, Hat, -, Hpay⟩
  ihave Hp := (Entails.of_eq ((rest_one m c (kind_send h o) hd).trans (show payK m c 0 (.send h o) = sendPay m c h o from rfl))) $$ Hpay
  imod (Rounds.cell_close ER (Rd m) (Set.mem_univ (K (c, kSend h o))) (fun h => h) (R := 0 + 1) (duties_later m (sendCell c h o))) $$ [Hat] with Hz1
  · isplitr; · iexact Hc
    iexact Hat
  iapply Hk
  isplitl [HO]; · iexists _; iexact HO
  isplitl [Hz Hz1]
  · iapply (zs_push c (.dma (sendS h o)) l)
    isplitl [Hz1]; · iexact Hz1
    iexact Hz
  · iexact Hp

/-- Wait for slot `o` to be filled. -/
theorem wp_rwait (n : ℕ) (h : Fin 2) (o s : Fin 12) (ho : o ∈ act) (hn : ∀ p ∈ xferL.drop n, rix o < rix p.2) (l : List (SemLoc sig))
    {hsrc : (slotM h s).view.WordExact} {hdst : (slotM h o).view.WordExact} :
    iprop(records m K ∗ levAts (L 4) lv ∗ ow (F := F) c n ∗ rT (F := F) c h o ∗ zs (F := F) c l)
      ⊢ iprop(((ow (F := F) c n ∗ zs (F := F) c (.dma (recvS h o) :: l) ∗ recvPay m c h o)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (recvS h o) (slotM h s) (slotM h o) hsrc hdst) k) Q) := by
  have hd : dutiesK (.recv h o) = {0} := if_pos ho
  unfold ow rT
  iintro ⟨#HR, #Hlev, ⟨%W, HO⟩, ⟨Hcr, Hat⟩, Hz⟩ Hk
  ihave #HI := (records_at m K c (kRecv h o) (ksem_recv h o)) $$ HR
  icases HI with ⟨#Hc, #Hr⟩
  iapply (Rounds.wp_wait_rest_token 𝒱₀ ER (Rd m) (c : Thread nD τ) none (κ := K (c, kRecv h o))
      (wpE_waitDma2_eq 𝒱₀ (c : Thread nD τ) none Set.univ) (Set.mem_univ _) (rix o) (O := owX c (xferL.drop n)) (W := W) (R := 0) (m := 0) (T := ∅)
      (by rw [Nat.zero_add, expect_one m c (kind_recv h o) hd]; rfl)) $$ [Hcr HO Hat]
  · isplitr; · iexact Hc
    isplitl [Hcr]; · iexact Hcr
    isplitl [HO]; · iexact HO
    isplitr; · iapply (mayWait_x c (.dma (recvS h o)) (rix o) (rix_lt o) (xferL.drop n) hn); iexact Hlev
    iexact Hat
  iintro ⟨HO, Hat, -, Hpay⟩
  ihave Hp := (Entails.of_eq ((rest_one m c (kind_recv h o) hd).trans (show payK m c 0 (.recv h o) = recvPay m c h o from rfl))) $$ Hpay
  imod (Rounds.cell_close ER (Rd m) (Set.mem_univ (K (c, kRecv h o))) (fun h => h) (R := 0 + 1) (duties_later m (recvCell c h o))) $$ [Hat] with Hz1
  · isplitr; · iexact Hc
    iexact Hat
  iapply Hk
  isplitl [HO]; · iexists _; iexact HO
  isplitl [Hz Hz1]
  · iapply (zs_push c (.dma (recvS h o)) l)
    isplitl [Hz1]; · iexact Hz1
    iexact Hz
  · iexact Hp

/-- Start the copy of half `h` of the output buffer to the result. -/
theorem wp_out (h : Fin 2) {hsrc : (halfM h).view.WordExact} {hdst : (rowsM h).view.WordExact} {hsem : DmaTarget.Typed .vmem (.dma (outS h)) (DmaTarget.here (nD := nD) (τ := τ) (p := Proc.tc) (rowsM h))}
    (fd : Buf (Elt F) ((rowsM h).view.loc (c : Thread nD τ))) :
    iprop(records m K ∗ halfP c h (obufF m c) ∗ rowsP c h fd ∗ outT (F := F) c h)
      ⊢ iprop((copT (F := F) c h -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (halfM h) (.here (rowsM h)) (.dma (outS h)) hsrc hdst hsem) k) Q) := by
  have hN : (rowsM h).view.amount (.dma (outS h)) = NO := rows_credit h
  have hd : 0 ∈ (Rd m).duties (outCell c h) 0 := by rw [duties_at m c (kind_out h)]; exact Finset.mem_singleton_self _
  unfold outT copT
  iintro ⟨#HR, Hh, Hd, ⟨Ht, Hat⟩⟩ Hk
  ihave #HI := (records_at m K c (kOut h) (ksem_out h)) $$ HR
  icases HI with ⟨#Hc, #Hr⟩
  unfold halfP rowsP
  iapply (Rounds.wp_copy_pointsTo 𝒱₀ ER (Rd m) (c : Thread nD τ) none (κ := K (c, kOut h)) (src := halfM h) (dst := rowsM h) (sem := .dma (outS h)) (r := 0) (d := 0) (fd := fd) (fs := obufF m c) (q := fullShare)
    hd 0 NO hN (amount_at m (outCell c h) (kind_out h) 0 0)
    (pay_out m c h fd))
    $$ [Hh Hd Ht]
  · isplitr; · iexact Hc
    isplitl [Hh]; · iexact Hh
    isplitl [Hd]; · iexact Hd
    isplitl [Ht]; · iexact Ht
    iexact Hr
  iintro Hcr
  iapply Hk
  isplitl [Hcr]; · iexact Hcr
  iexact Hat

/-- Wait for the copy of half `h`. -/
theorem wp_owait (n : ℕ) (h : Fin 2) (l : List (SemLoc sig)) {hsrc : (halfM h).view.WordExact} {hdst : (rowsM h).view.WordExact} :
    iprop(records m K ∗ levAts (L 4) lv ∗ ow (F := F) c n ∗ copT (F := F) c h ∗ zs (F := F) c l)
      ⊢ iprop(((ow (F := F) c n ∗ zs (F := F) c (.dma (outS h) :: l) ∗ outPay m c h)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.waitDma2 (outS h) (halfM h) (rowsM h) hsrc hdst) k) Q) := by
  have hd : dutiesK (.out h) = {0} := rfl
  unfold ow copT
  iintro ⟨#HR, #Hlev, ⟨%W, HO⟩, ⟨Hcr, Hat⟩, Hz⟩ Hk
  ihave #HI := (records_at m K c (kOut h) (ksem_out h)) $$ HR
  icases HI with ⟨#Hc, #Hr⟩
  iapply (Rounds.wp_wait_rest_token 𝒱₀ ER (Rd m) (c : Thread nD τ) none (κ := K (c, kOut h))
      (wpE_waitDma2_eq 𝒱₀ (c : Thread nD τ) none Set.univ) (Set.mem_univ _) 0 (O := owX c (xferL.drop n)) (W := W) (R := 0) (m := 0) (T := ∅)
      (by rw [Nat.zero_add, expect_one m c (kind_out h) hd]; rfl)) $$ [Hcr HO Hat]
  · isplitr; · iexact Hc
    isplitl [Hcr]; · iexact Hcr
    isplitl [HO]; · iexact HO
    isplitr; · iapply (mayWait_x c (.dma (outS h)) 0 (by decide) (xferL.drop n) (fun p _ => lt_of_lt_of_le (by decide) (rix_ge p.2))); iexact Hlev
    iexact Hat
  iintro ⟨HO, Hat, -, Hpay⟩
  ihave Hp := (Entails.of_eq ((rest_one m c (kind_out h) hd).trans (show payK m c 0 (.out h) = outPay m c h from rfl))) $$ Hpay
  imod (Rounds.cell_close ER (Rd m) (Set.mem_univ (K (c, kOut h))) (fun h => h) (R := 0 + 1) (duties_later m (outCell c h))) $$ [Hat] with Hz1
  · isplitr; · iexact Hc
    iexact Hat
  iapply Hk
  isplitl [HO]; · iexists _; iexact HO
  isplitl [Hz Hz1]
  · iapply (zs_push c (.dma (outS h)) l)
    isplitl [Hz1]; · iexact Hz1
    iexact Hz
  · iexact Hp

end Cert.LnProof

end
-- ==== Proof.Memory.lean ====
/-
# Loads, stores and the buffers' pieces

What the kernel's loads read and its stores leave, over the pieces of the buffers a device holds, and how the
pieces are taken apart and put together.
-/
module

public import proofs.«01_k».proof.Proof.Steps

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

local notation "𝕄" => MT nD τ sig ℕ (Elt F) ℕ UU ℕ

variable (m : (ℓ : Loc nD τ sig) → Buf (Elt F) ℓ) (c : Dev nD)

/-- The inputs' staging buffers. -/
def xP : sProp 𝕄 := ((c : Thread nD τ).loc cc0_stg0_0) ↦{fullShare} xstg m c
/-- The staged embedding. -/
def tP : sProp 𝕄 := ((c : Thread nD τ).loc cc0_stg1_0) ↦{fullShare} tstg m c
/-- The staged `W_scale`. -/
def wsP : sProp 𝕄 := ((c : Thread nD τ).loc cc0_stg2_0) ↦{fullShare} wsstg m c
/-- The staged `W_shift`. -/
def whP : sProp 𝕄 := ((c : Thread nD τ).loc cc0_stg3_0) ↦{fullShare} whstg m c
/-- The amounts of the barrier's signals and wait, as numbers. -/
theorem one_toInt : (1#32 : BitVec 32).toInt = ((1 : ℕ) : ℤ) := by decide
/-- The word 10 is the number 10. -/
theorem ten_toInt : (10#32 : BitVec 32).toInt = ((10 : ℕ) : ℤ) := by decide
/-- The eight slots of the first exchange of half `h`, filled. -/
def lowP (h : Fin 2) : sProp 𝕄 := ((c : Thread nD τ).loc cc0_scratch1) ↦[lowI h]{fullShare} comm1F m c
/-- The four slots of the second exchange of half `h`, filled. -/
def highP (h : Fin 2) : sProp 𝕄 := ((c : Thread nD τ).loc cc0_scratch1) ↦[highI h]{fullShare} comm2F m c
/-- Half `h` of the output buffer with whatever it holds. -/
def halfE (h : Fin 2) : sProp 𝕄 := iprop(∃ f, halfP (F := F) c h f)
/-- Half `h` of the result with whatever it holds. -/
def rowsE (h : Fin 2) : sProp 𝕄 := iprop(∃ f, rowsP (F := F) c h f)

/-! ## The share of a source slot comes back -/

/-- A finished send gives its share of the source slot back. -/
theorem src_back (j : ℕ) (h : Fin 2) (o s : Fin 12) (hs : srcOf o = s) (hsh : shareOf o = (remS j).left) :
    iprop(srcP m c h s (j + 1) ∗ sendPay m c h o) ⊢ srcP m c h s j := by
  subst hs
  unfold srcP sendPay
  rw [hsh]
  iintro ⟨H1, H2⟩
  iapply (slotP_join c h (srcOf o) (remS j) (commF m c (srcOf o)))
  isplitl [H2]; · iexact H2
  iexact H1

/-- Every transfer of the first exchange of half `h` has given its share back. -/
theorem src_back_low (h : Fin 2) :
    iprop(srcP m c h 0 7 ∗ sendPay m c h 1 ∗ sendPay m c h 2 ∗ sendPay m c h 3 ∗ sendPay m c h 4 ∗ sendPay m c h 5 ∗ sendPay m c h 6 ∗ sendPay m c h 7)
      ⊢ srcP m c h 0 0 := by
  iintro ⟨Hs, H1, H2, H3, H4, H5, H6, H7⟩
  iapply (src_back m c 0 h 1 0 rfl rfl); isplitr [H1]; rotate_left; · iexact H1
  iapply (src_back m c 1 h 2 0 rfl rfl); isplitr [H2]; rotate_left; · iexact H2
  iapply (src_back m c 2 h 3 0 rfl rfl); isplitr [H3]; rotate_left; · iexact H3
  iapply (src_back m c 3 h 4 0 rfl rfl); isplitr [H4]; rotate_left; · iexact H4
  iapply (src_back m c 4 h 5 0 rfl rfl); isplitr [H5]; rotate_left; · iexact H5
  iapply (src_back m c 5 h 6 0 rfl rfl); isplitr [H6]; rotate_left; · iexact H6
  iapply (src_back m c 6 h 7 0 rfl rfl); isplitr [H7]; rotate_left; · iexact H7
  iexact Hs

/-- Every transfer of the second exchange of half `h` has given its share back. -/
theorem src_back_high (h : Fin 2) :
    iprop(srcP m c h 8 3 ∗ sendPay m c h 9 ∗ sendPay m c h 10 ∗ sendPay m c h 11) ⊢ srcP m c h 8 0 := by
  iintro ⟨Hs, H1, H2, H3⟩
  iapply (src_back m c 0 h 9 8 rfl rfl); isplitr [H1]; rotate_left; · iexact H1
  iapply (src_back m c 1 h 10 8 rfl rfl); isplitr [H2]; rotate_left; · iexact H2
  iapply (src_back m c 2 h 11 8 rfl rfl); isplitr [H3]; rotate_left; · iexact H3
  iexact Hs

/-! ## Slots put together -/

/-- The slots of the first exchange, by the slot, are one piece of the buffer. -/
theorem low_list (h : Fin 2) : seqL (fun o => recvPay m c h o) [0, 1, 2, 3, 4, 5, 6, 7] ⊢ lowP m c h := by
  rw [← seqL_of (fun o => recvPay m c h o) (Finset.univ.filter fun o : Fin 12 => o.val < 8) [0, 1, 2, 3, 4, 5, 6, 7] (by decide) (by decide)]
  refine Entails.of_eq ((bigSep_congr fun o ho => ?_).trans ((pointsTo_biUnion (ℓ := (c : Thread nD τ).loc cc0_scratch1) (q := fullShare) (f := comm1F m c) (Finset.univ.filter fun o : Fin 12 => o.val < 8) (slotI h) fun a _ b _ hab =>
    slotI_disj fun e => hab e.2).symm.trans ?_))
  · show recvPay m c h o = (((c : Thread nD τ).loc cc0_scratch1) ↦[slotI h o]{fullShare} comm1F m c : sProp 𝕄)
    unfold recvPay slotP commF
    rw [if_pos (Finset.mem_filter.1 ho).2]
    rfl
  · rw [low_cover]; rfl
/-- The four slots of the second exchange make up its part of a half. -/
theorem high_list (h : Fin 2) : seqL (fun o => recvPay m c h o) [8, 9, 10, 11] ⊢ highP m c h := by
  rw [← seqL_of (fun o => recvPay m c h o) (Finset.univ.filter fun o : Fin 12 => 8 ≤ o.val) [8, 9, 10, 11] (by decide) (by decide)]
  refine Entails.of_eq ((bigSep_congr fun o ho => ?_).trans ((pointsTo_biUnion (ℓ := (c : Thread nD τ).loc cc0_scratch1) (q := fullShare) (f := comm2F m c) (Finset.univ.filter fun o : Fin 12 => 8 ≤ o.val) (slotI h) fun a _ b _ hab =>
    slotI_disj fun e => hab e.2).symm.trans ?_))
  · show recvPay m c h o = (((c : Thread nD τ).loc cc0_scratch1) ↦[slotI h o]{fullShare} comm2F m c : sProp 𝕄)
    unfold recvPay slotP commF
    rw [if_neg (Nat.not_lt.2 (Finset.mem_filter.1 ho).2)]
    rfl
  · rw [high_cover]; rfl

/-- The slots of the first exchange of half `h`: the own one and the seven that were filled. -/
theorem join_low (h : Fin 2) :
    iprop(srcP m c h 0 0 ∗ recvPay m c h 1 ∗ recvPay m c h 2 ∗ recvPay m c h 3 ∗ recvPay m c h 4 ∗ recvPay m c h 5 ∗ recvPay m c h 6 ∗ recvPay m c h 7)
      ⊢ lowP m c h := by
  refine .trans ?_ (low_list m c h)
  iintro ⟨H0, H1, H2, H3, H4, H5, H6, H7⟩
  rw [seqL_cons, seqL_cons, seqL_cons, seqL_cons, seqL_cons, seqL_cons, seqL_cons, seqL_cons]
  isplitl [H0]; · iapply (Entails.of_eq (show srcP m c h 0 0 = recvPay m c h 0 from rfl)); iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (Entails.of_eq (show iprop(emp) = seqL (fun o => recvPay m c h o) [] from rfl))
  iempintro
/-- The slots of the second exchange of half `h`: the own one and the three that were filled. -/
theorem join_high (h : Fin 2) :
    iprop(srcP m c h 8 0 ∗ recvPay m c h 9 ∗ recvPay m c h 10 ∗ recvPay m c h 11) ⊢ highP m c h := by
  refine .trans ?_ (high_list m c h)
  iintro ⟨H0, H1, H2, H3⟩
  rw [seqL_cons, seqL_cons, seqL_cons, seqL_cons]
  isplitl [H0]; · iapply (Entails.of_eq (show srcP m c h 8 0 = recvPay m c h 8 from rfl)); iexact H0
  isplitl [H1]; · iexact H1
  isplitl [H2]; · iexact H2
  isplitl [H3]; · iexact H3
  iapply (Entails.of_eq (show iprop(emp) = seqL (fun o => recvPay m c h o) [] from rfl))
  iempintro

/-! ## The whole buffers -/

/-- The slots of the first exchange are disjoint from those of the second. -/
theorem lowI_disj_highI (h h' : Fin 2) : Disjoint (lowI h) (highI h') := by
  rw [Finset.disjoint_left]
  intro i h1 h2
  have a := (Finset.mem_filter.1 h1).2.2
  have b := (Finset.mem_filter.1 h2).2.2
  omega
/-- Both exchanges' slots of both halves make up the exchange buffer. -/
theorem comm_cover : (lowI 0 ∪ highI 0) ∪ (lowI 1 ∪ highI 1) = (Finset.univ : Finset S2x12x4x1024.Idx) := by
  rw [Finset.eq_univ_iff_forall]
  intro i
  have h0 : (i 0).val < 2 := (i 0).isLt
  simp only [lowI, highI, Finset.mem_union, Finset.mem_filter, Finset.mem_univ, true_and, Fin.val_zero, Fin.val_one]
  omega
/-- The slots of the two halves are disjoint. -/
theorem comm_disj : Disjoint (lowI 0 ∪ highI 0) (lowI 1 ∪ highI 1) := by
  rw [Finset.disjoint_left]
  intro i h1 h2
  simp only [lowI, highI, Finset.mem_union, Finset.mem_filter, Finset.mem_univ, true_and, Fin.val_zero, Fin.val_one] at h1 h2
  omega

/-- The communication buffer, whole again. -/
theorem comm_whole : iprop(lowP m c 0 ∗ highP m c 0 ∗ lowP m c 1 ∗ highP m c 1)
    ⊢ iprop(∃ f : Buf (Elt F) ((c : Thread nD τ).loc cc0_scratch1), ((c : Thread nD τ).loc cc0_scratch1) ↦{fullShare} f) := by
  unfold lowP highP
  iintro ⟨H1, H2, H3, H4⟩
  ihave HA := (pointsTo_join (ℓ := (c : Thread nD τ).loc cc0_scratch1) (lowI_disj_highI 0 0)) $$ [H1 H2]
  · isplitl [H1]; · iexact H1
    iexact H2
  ihave HB := (pointsTo_join (ℓ := (c : Thread nD τ).loc cc0_scratch1) (lowI_disj_highI 1 1)) $$ [H3 H4]
  · isplitl [H3]; · iexact H3
    iexact H4
  ihave HC := (pointsTo_join (ℓ := (c : Thread nD τ).loc cc0_scratch1) comm_disj) $$ [HA HB]
  · isplitl [HA]; · iexact HA
    iexact HB
  rw [comm_cover]
  iexists _
  iexact HC

/-- The communication buffer, by the slot. -/
theorem comm_slots (f : Buf (Elt F) ((c : Thread nD τ).loc cc0_scratch1)) :
    (((c : Thread nD τ).loc cc0_scratch1) ↦{fullShare} f : sProp 𝕄) ⊢ bigSep (Finset.univ : Finset (Fin 2 × Fin 12)) fun p => slotE (F := F) c p.1 p.2 := by
  show (((c : Thread nD τ).loc cc0_scratch1) ↦[Finset.univ]{fullShare} f : sProp 𝕄) ⊢ _
  rw [← slots_cover, pointsTo_biUnion _ _ fun a _ b _ hab => slotI_disj fun e => hab (Prod.ext e.1 e.2)]
  refine bigSep_mono fun p _ => ?_
  show (((c : Thread nD τ).loc cc0_scratch1) ↦[slotI p.1 p.2]{fullShare} f : sProp 𝕄) ⊢ slotE (F := F) c p.1 p.2
  unfold slotE
  iintro H
  iexists f
  unfold slotP
  iexact H

omit [FloatOps F] in
/-- A family over two is its two members. -/
theorem bigSep_univ_fin2 (Φ : Fin 2 → sProp 𝕄) : bigSep Finset.univ Φ = iprop(Φ 0 ∗ Φ 1) := by
  rw [show (Finset.univ : Finset (Fin 2)) = {0, 1} from rfl, bigSep_insert (by decide), bigSep_singleton]; rfl

/-- The output buffer and the result, by the half. -/
theorem obuf_halves (f : Buf (Elt F) ((c : Thread nD τ).loc cc0_scratch0)) :
    (((c : Thread nD τ).loc cc0_scratch0) ↦{fullShare} f : sProp 𝕄) ⊢ iprop(halfE (F := F) c 0 ∗ halfE (F := F) c 1) := by
  show (((c : Thread nD τ).loc cc0_scratch0) ↦[Finset.univ]{fullShare} f : sProp 𝕄) ⊢ _
  rw [← halves_cover, pointsTo_biUnion _ _ fun a _ b _ hab => halfI_disj hab, bigSep_univ_fin2]
  unfold halfE halfP
  iintro ⟨H1, H2⟩
  isplitl [H1]
  · iexists f; iexact H1
  · iexists f; iexact H2
/-- The result's buffer splits into its two halves of rows. -/
theorem res_halves (f : Buf (Elt F) ((c : Thread nD τ).loc main_v1)) :
    (((c : Thread nD τ).loc main_v1) ↦{fullShare} f : sProp 𝕄) ⊢ iprop(rowsE (F := F) c 0 ∗ rowsE (F := F) c 1) := by
  show (((c : Thread nD τ).loc main_v1) ↦[Finset.univ]{fullShare} f : sProp 𝕄) ⊢ _
  rw [← rows_cover, pointsTo_biUnion _ _ fun a _ b _ hab => rowsI_disj hab, bigSep_univ_fin2]
  unfold rowsE rowsP
  iintro ⟨H1, H2⟩
  isplitl [H1]
  · iexists f; iexact H1
  · iexists f; iexact H2
/-- The output buffer and the result, whole again: both copies have been waited for. -/
theorem out_whole : iprop(outPay m c 0 ∗ outPay m c 1)
    ⊢ iprop((∃ f : Buf (Elt F) ((c : Thread nD τ).loc cc0_scratch0), ((c : Thread nD τ).loc cc0_scratch0) ↦{fullShare} f)
      ∗ (((c : Thread nD τ).loc main_v1) ↦{fullShare} resF m c)) := by
  have e1 : iprop(rowsP c 0 (resF m c) ∗ rowsP c 1 (resF m c)) ⊢ (((c : Thread nD τ).loc main_v1) ↦{fullShare} resF m c : sProp 𝕄) := by
    show _ ⊢ (((c : Thread nD τ).loc main_v1) ↦[Finset.univ]{fullShare} resF m c : sProp 𝕄)
    rw [← rows_cover, pointsTo_biUnion _ _ fun a _ b _ hab => rowsI_disj hab, bigSep_univ_fin2]
    exact Entails.of_eq rfl
  have e2 : iprop(halfP c 0 (obufF m c) ∗ halfP c 1 (obufF m c)) ⊢ (((c : Thread nD τ).loc cc0_scratch0) ↦{fullShare} obufF m c : sProp 𝕄) := by
    show _ ⊢ (((c : Thread nD τ).loc cc0_scratch0) ↦[Finset.univ]{fullShare} obufF m c : sProp 𝕄)
    rw [← halves_cover, pointsTo_biUnion _ _ fun a _ b _ hab => halfI_disj hab, bigSep_univ_fin2]
    exact Entails.of_eq rfl
  unfold outPay
  iintro ⟨⟨H1, H2⟩, H3, H4⟩
  isplitl [H2 H4]
  · iexists obufF m c
    iapply e2
    isplitl [H2]; · iexact H2
    iexact H4
  · iapply e1
    isplitl [H1]; · iexact H1
    iexact H3

/-! ## Loads and stores -/

variable {α : Type} {Q : α → sProp (MT nD τ sig ℕ (Elt F) ℕ UU ℕ)} {k : PUnit → Prog (TpuEff nD τ sig (Elt F) Λ₀ .tc) α}

/-! The loads of the inputs and of the filled slots, by the names of their values. -/

/-- The load of the first half of `x`'s rows. -/
theorem wp_xlo {hl : xM.view.LoadsAt (Rect.unit (s := S2x2048x512) ![0, 0, 0] S2x1024x512.size inb_S2x2048x512_S2x1024x512_0_0_0).toLoadRect} {k : (S2x1024x512.Idx → Elt F .f32) → Prog (TpuEff nD τ sig (Elt F) Λ₀ .tc) α} :
    xP m c ⊢ iprop((xP m c -∗ wp frame (wpE (defs₀ (F := F)) 𝒱₀ (c : Thread nD τ) none) Set.univ (k (xlo m c)) Q)
      -∗ wp frame (wpE (defs₀ (F := F)) 𝒱₀ (c : Thread nD τ) none) Set.univ (.op (.load xM (Rect.unit (s := S2x2048x512) ![0, 0, 0] S2x1024x512.size inb_S2x2048x512_S2x1024x512_0_0_0).toLoadRect hl) k) Q) :=
  wp_load 𝒱₀ (c : Thread nD τ) none Set.univ (m := xM) (S := Finset.univ) (Finset.subset_univ _)
/-- The load of the second half of `x`'s rows. -/
theorem wp_xhi {hl : xM.view.LoadsAt (Rect.unit (s := S2x2048x512) ![0, 1024, 0] S2x1024x512.size inb_S2x2048x512_S2x1024x512_0_1024_0).toLoadRect} {k : (S2x1024x512.Idx → Elt F .f32) → Prog (TpuEff nD τ sig (Elt F) Λ₀ .tc) α} :
    xP m c ⊢ iprop((xP m c -∗ wp frame (wpE (defs₀ (F := F)) 𝒱₀ (c : Thread nD τ) none) Set.univ (k (xhi m c)) Q)
      -∗ wp frame (wpE (defs₀ (F := F)) 𝒱₀ (c : Thread nD τ) none) Set.univ (.op (.load xM (Rect.unit (s := S2x2048x512) ![0, 1024, 0] S2x1024x512.size inb_S2x2048x512_S2x1024x512_0_1024_0).toLoadRect hl) k) Q) :=
  wp_load 𝒱₀ (c : Thread nD τ) none Set.univ (m := xM) (S := Finset.univ) (Finset.subset_univ _)
/-- The load of the embedding. -/
theorem wp_tld {hl : tM.view.LoadsAt (Rect.unit (s := S2x128) ![0, 0] S2x128.size inb_S2x128_S2x128_0_0).toLoadRect} {k : (S2x128.Idx → Elt F .f32) → Prog (TpuEff nD τ sig (Elt F) Λ₀ .tc) α} :
    tP m c ⊢ iprop((tP m c -∗ wp frame (wpE (defs₀ (F := F)) 𝒱₀ (c : Thread nD τ) none) Set.univ (k (tld m c)) Q)
      -∗ wp frame (wpE (defs₀ (F := F)) 𝒱₀ (c : Thread nD τ) none) Set.univ (.op (.load tM (Rect.unit (s := S2x128) ![0, 0] S2x128.size inb_S2x128_S2x128_0_0).toLoadRect hl) k) Q) :=
  wp_load 𝒱₀ (c : Thread nD τ) none Set.univ (m := tM) (S := Finset.univ) (Finset.subset_univ _)
/-- The load of `W_scale`. -/
theorem wp_wsld {hl : wsM.view.LoadsAt (Rect.unit (s := S128x512) ![0, 0] S128x512.size inb_S128x512_S128x512_0_0).toLoadRect} {k : (S128x512.Idx → Elt F .f32) → Prog (TpuEff nD τ sig (Elt F) Λ₀ .tc) α} :
    wsP m c ⊢ iprop((wsP m c -∗ wp frame (wpE (defs₀ (F := F)) 𝒱₀ (c : Thread nD τ) none) Set.univ (k (wsld m c)) Q)
      -∗ wp frame (wpE (defs₀ (F := F)) 𝒱₀ (c : Thread nD τ) none) Set.univ (.op (.load wsM (Rect.unit (s := S128x512) ![0, 0] S128x512.size inb_S128x512_S128x512_0_0).toLoadRect hl) k) Q) :=
  wp_load 𝒱₀ (c : Thread nD τ) none Set.univ (m := wsM) (S := Finset.univ) (Finset.subset_univ _)
/-- The load of `W_shift`. -/
theorem wp_whld {hl : whM.view.LoadsAt (Rect.unit (s := S128x512) ![0, 0] S128x512.size inb_S128x512_S128x512_0_0).toLoadRect} {k : (S128x512.Idx → Elt F .f32) → Prog (TpuEff nD τ sig (Elt F) Λ₀ .tc) α} :
    whP m c ⊢ iprop((whP m c -∗ wp frame (wpE (defs₀ (F := F)) 𝒱₀ (c : Thread nD τ) none) Set.univ (k (whld m c)) Q)
      -∗ wp frame (wpE (defs₀ (F := F)) 𝒱₀ (c : Thread nD τ) none) Set.univ (.op (.load whM (Rect.unit (s := S128x512) ![0, 0] S128x512.size inb_S128x512_S128x512_0_0).toLoadRect hl) k) Q) :=
  wp_load 𝒱₀ (c : Thread nD τ) none Set.univ (m := whM) (S := Finset.univ) (Finset.subset_univ _)
/-- The load of half 0's slots of the second exchange. -/
theorem wp_high0 {hl : commM.view.LoadsAt (Rect.unit (s := S2x12x4x1024) ![0, 8, 0, 0] S1x4x4x1024.size inb_S2x12x4x1024_S1x4x4x1024_0_8_0_0).toLoadRect} {k : (S1x4x4x1024.Idx → Elt F .f32) → Prog (TpuEff nD τ sig (Elt F) Λ₀ .tc) α} :
    highP m c 0 ⊢ iprop((highP m c 0 -∗ wp frame (wpE (defs₀ (F := F)) 𝒱₀ (c : Thread nD τ) none) Set.univ (k (g2ld m c 0)) Q)
      -∗ wp frame (wpE (defs₀ (F := F)) 𝒱₀ (c : Thread nD τ) none) Set.univ (.op (.load commM (Rect.unit (s := S2x12x4x1024) ![0, 8, 0, 0] S1x4x4x1024.size inb_S2x12x4x1024_S1x4x4x1024_0_8_0_0).toLoadRect hl) k) Q) :=
  by
  have e : g2ld m c 0 = commM.view.readAt (Elt F) (Rect.unit (s := S2x12x4x1024) ![0, 8, 0, 0] S1x4x4x1024.size inb_S2x12x4x1024_S1x4x4x1024_0_8_0_0).toLoadRect (comm2F m c) := if_pos rfl
  rw [e]
  exact wp_load_rect 𝒱₀ (c : Thread nD τ) none Set.univ (m := commM) (r := Rect.unit (s := S2x12x4x1024) ![0, 8, 0, 0] S1x4x4x1024.size inb_S2x12x4x1024_S1x4x4x1024_0_8_0_0) (S := highI 0) load_high0
/-- The load of half 0's slots of the first exchange. -/
theorem wp_low0 {hl : commM.view.LoadsAt (Rect.unit (s := S2x12x4x1024) ![0, 0, 0, 0] S1x8x4x1024.size inb_S2x12x4x1024_S1x8x4x1024_0_0_0_0).toLoadRect} {k : (S1x8x4x1024.Idx → Elt F .f32) → Prog (TpuEff nD τ sig (Elt F) Λ₀ .tc) α} :
    lowP m c 0 ⊢ iprop((lowP m c 0 -∗ wp frame (wpE (defs₀ (F := F)) 𝒱₀ (c : Thread nD τ) none) Set.univ (k (commM.view.readAt (Elt F) (Rect.unit (s := S2x12x4x1024) ![0, 0, 0, 0] S1x8x4x1024.size inb_S2x12x4x1024_S1x8x4x1024_0_0_0_0).toLoadRect (comm1F m c))) Q)
      -∗ wp frame (wpE (defs₀ (F := F)) 𝒱₀ (c : Thread nD τ) none) Set.univ (.op (.load commM (Rect.unit (s := S2x12x4x1024) ![0, 0, 0, 0] S1x8x4x1024.size inb_S2x12x4x1024_S1x8x4x1024_0_0_0_0).toLoadRect hl) k) Q) :=
  wp_load_rect 𝒱₀ (c : Thread nD τ) none Set.univ (m := commM) (r := Rect.unit (s := S2x12x4x1024) ![0, 0, 0, 0] S1x8x4x1024.size inb_S2x12x4x1024_S1x8x4x1024_0_0_0_0) (S := lowI 0) load_low0
/-- The load of half 1's slots of the second exchange. -/
theorem wp_high1 {hl : commM.view.LoadsAt (Rect.unit (s := S2x12x4x1024) ![1, 8, 0, 0] S1x4x4x1024.size inb_S2x12x4x1024_S1x4x4x1024_1_8_0_0).toLoadRect} {k : (S1x4x4x1024.Idx → Elt F .f32) → Prog (TpuEff nD τ sig (Elt F) Λ₀ .tc) α} :
    highP m c 1 ⊢ iprop((highP m c 1 -∗ wp frame (wpE (defs₀ (F := F)) 𝒱₀ (c : Thread nD τ) none) Set.univ (k (g2ld m c 1)) Q)
      -∗ wp frame (wpE (defs₀ (F := F)) 𝒱₀ (c : Thread nD τ) none) Set.univ (.op (.load commM (Rect.unit (s := S2x12x4x1024) ![1, 8, 0, 0] S1x4x4x1024.size inb_S2x12x4x1024_S1x4x4x1024_1_8_0_0).toLoadRect hl) k) Q) :=
  by
  have e : g2ld m c 1 = commM.view.readAt (Elt F) (Rect.unit (s := S2x12x4x1024) ![1, 8, 0, 0] S1x4x4x1024.size inb_S2x12x4x1024_S1x4x4x1024_1_8_0_0).toLoadRect (comm2F m c) := if_neg (by decide)
  rw [e]
  exact wp_load_rect 𝒱₀ (c : Thread nD τ) none Set.univ (m := commM) (r := Rect.unit (s := S2x12x4x1024) ![1, 8, 0, 0] S1x4x4x1024.size inb_S2x12x4x1024_S1x4x4x1024_1_8_0_0) (S := highI 1) load_high1
/-- The load of half 1's slots of the first exchange. -/
theorem wp_low1 {hl : commM.view.LoadsAt (Rect.unit (s := S2x12x4x1024) ![1, 0, 0, 0] S1x8x4x1024.size inb_S2x12x4x1024_S1x8x4x1024_1_0_0_0).toLoadRect} {k : (S1x8x4x1024.Idx → Elt F .f32) → Prog (TpuEff nD τ sig (Elt F) Λ₀ .tc) α} :
    lowP m c 1 ⊢ iprop((lowP m c 1 -∗ wp frame (wpE (defs₀ (F := F)) 𝒱₀ (c : Thread nD τ) none) Set.univ (k (commM.view.readAt (Elt F) (Rect.unit (s := S2x12x4x1024) ![1, 0, 0, 0] S1x8x4x1024.size inb_S2x12x4x1024_S1x8x4x1024_1_0_0_0).toLoadRect (comm1F m c))) Q)
      -∗ wp frame (wpE (defs₀ (F := F)) 𝒱₀ (c : Thread nD τ) none) Set.univ (.op (.load commM (Rect.unit (s := S2x12x4x1024) ![1, 0, 0, 0] S1x8x4x1024.size inb_S2x12x4x1024_S1x8x4x1024_1_0_0_0).toLoadRect hl) k) Q) :=
  wp_load_rect 𝒱₀ (c : Thread nD τ) none Set.univ (m := commM) (r := Rect.unit (s := S2x12x4x1024) ![1, 0, 0, 0] S1x8x4x1024.size inb_S2x12x4x1024_S1x8x4x1024_1_0_0_0) (S := lowI 1) load_low1

/-- A load of a slot whose value is not used. -/
theorem wp_slot_load (h : Fin 2) (o : Fin 12) {hl : commM.view.LoadsAt (slotR h o).toLoadRect} {k : ((slotR h o).shape.Idx → Elt F .f32) → Prog (TpuEff nD τ sig (Elt F) Λ₀ .tc) α} :
    slotE (F := F) c h o ⊢ iprop((∀ v, slotE (F := F) c h o -∗ wp frame (wpE (defs₀ (F := F)) 𝒱₀ (c : Thread nD τ) none) Set.univ (k v) Q)
      -∗ wp frame (wpE (defs₀ (F := F)) 𝒱₀ (c : Thread nD τ) none) Set.univ (.op (.load commM (slotR h o).toLoadRect hl) k) Q) := by
  unfold slotE slotP
  iintro ⟨%f, H⟩ Hk
  iapply (wp_load_rect 𝒱₀ (c : Thread nD τ) none Set.univ (m := commM) (r := slotR h o) (S := (slotM h o).view.set) (access_slot h o).subset) $$ [H]
  · iexact H
  iintro H
  iapply Hk
  iexists f
  iexact H

/-- The store of the statistics of half `h` in slot 0. -/
theorem wp_stat_store (h : Fin 2) (w : FVec F S1x1x4x1024 .f32) (hw : w = statsV m c h) {hx : (commM.access (slotR h 0)).Stores Finset.univ} {hm : (Finset.univ : Finset (slotR h 0).shape.Idx) = Finset.univ ∨ ∀ a, (slotR h 0).stride a = 1} :
    slotE (F := F) c h 0 ⊢ iprop((srcP m c h 0 0 -∗ wp frame (wpE (defs₀ (F := F)) 𝒱₀ (c : Thread nD τ) none) Set.univ (k ⟨⟩) Q)
      -∗ wp frame (wpE (defs₀ (F := F)) 𝒱₀ (c : Thread nD τ) none) Set.univ (.op (.store commM (slotR h 0) w Finset.univ hx hm) k) Q) := by
  subst hw
  unfold slotE slotP srcP
  iintro ⟨%f, H⟩ Hk
  iapply (wp_store 𝒱₀ (c : Thread nD τ) none Set.univ (m := commM) (r := slotR h 0) (Mk := Finset.univ) (S := (slotM h 0).view.set) (access_slot h 0).subset) $$ [H]
  · iexact H
  iintro H
  iapply Hk
  unfold slotP
  iapply (Entails.of_eq (pointsTo_congr (store_stats m c h f)))
  iexact H

/-- The store of the group sums of half `h` in slot 8. -/
theorem wp_gsum_store (h : Fin 2) (w : FVec F S1x1x4x1024 .f32) (hw : w = gsumV m c h) {hx : (commM.access (slotR h 8)).Stores Finset.univ} {hm : (Finset.univ : Finset (slotR h 8).shape.Idx) = Finset.univ ∨ ∀ a, (slotR h 8).stride a = 1} :
    slotE (F := F) c h 8 ⊢ iprop((srcP m c h 8 0 -∗ wp frame (wpE (defs₀ (F := F)) 𝒱₀ (c : Thread nD τ) none) Set.univ (k ⟨⟩) Q)
      -∗ wp frame (wpE (defs₀ (F := F)) 𝒱₀ (c : Thread nD τ) none) Set.univ (.op (.store commM (slotR h 8) w Finset.univ hx hm) k) Q) := by
  subst hw
  unfold slotE slotP srcP
  iintro ⟨%f, H⟩ Hk
  iapply (wp_store 𝒱₀ (c : Thread nD τ) none Set.univ (m := commM) (r := slotR h 8) (Mk := Finset.univ) (S := (slotM h 8).view.set) (access_slot h 8).subset) $$ [H]
  · iexact H
  iintro H
  iapply Hk
  unfold slotP
  iapply (Entails.of_eq (pointsTo_congr (store_gsum m c h f)))
  iexact H

/-- A load of half of the output buffer whose value is not used. -/
theorem wp_half_load (h : Fin 2) {hl : obufM.view.LoadsAt (halfR h).toLoadRect} {k : ((halfR h).shape.Idx → Elt F .f32) → Prog (TpuEff nD τ sig (Elt F) Λ₀ .tc) α} :
    halfE (F := F) c h ⊢ iprop((∀ v, halfE (F := F) c h -∗ wp frame (wpE (defs₀ (F := F)) 𝒱₀ (c : Thread nD τ) none) Set.univ (k v) Q)
      -∗ wp frame (wpE (defs₀ (F := F)) 𝒱₀ (c : Thread nD τ) none) Set.univ (.op (.load obufM (halfR h).toLoadRect hl) k) Q) := by
  unfold halfE halfP
  iintro ⟨%f, H⟩ Hk
  iapply (wp_load_rect 𝒱₀ (c : Thread nD τ) none Set.univ (m := obufM) (r := halfR h) (S := (halfM h).view.set) (access_half h).subset) $$ [H]
  · iexact H
  iintro H
  iapply Hk
  iexists f
  iexact H

/-- The store of the rows of half `h`. -/
theorem wp_half_store (h : Fin 2) (w : FVec F S1x2x1024x512 .f32) (hw : w = outV m c h) {hx : (obufM.access (halfR h)).Stores Finset.univ} {hm : (Finset.univ : Finset (halfR h).shape.Idx) = Finset.univ ∨ ∀ a, (halfR h).stride a = 1} :
    halfE (F := F) c h ⊢ iprop((halfP c h (obufF m c) -∗ wp frame (wpE (defs₀ (F := F)) 𝒱₀ (c : Thread nD τ) none) Set.univ (k ⟨⟩) Q)
      -∗ wp frame (wpE (defs₀ (F := F)) 𝒱₀ (c : Thread nD τ) none) Set.univ (.op (.store obufM (halfR h) w Finset.univ hx hm) k) Q) := by
  subst hw
  unfold halfE halfP
  iintro ⟨%f, H⟩ Hk
  iapply (wp_store 𝒱₀ (c : Thread nD τ) none Set.univ (m := obufM) (r := halfR h) (Mk := Finset.univ) (S := (halfM h).view.set) (access_half h).subset) $$ [H]
  · iexact H
  iintro H
  iapply Hk
  iapply (Entails.of_eq (pointsTo_congr (store_half m c h f)))
  iexact H

end Cert.LnProof

end
-- ==== Proof.PartsA.lean ====
/-
# The kernel's parts: the barrier and the first transfers

Each part of the kernel at a symbolic device: what it needs and what it leaves.
-/
module

public import proofs.«01_k».proof.Proof.Memory

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

variable (m : (ℓ : Loc nD τ sig) → Buf (Elt F) ℓ) (K : Dev nD × Fin 51 → ℕ) (c : Dev nD)

/-- Part 2 of the kernel. -/
theorem part2 (h0 : xM.IsWhole) (h1 : tM.IsWhole) (h2 : wsM.IsWhole) (h3 : whM.IsWhole) (h4 : resM.IsWhole) (h5 : obufM.IsWhole) (h6 : commM.IsWhole) (v19 : BitVec 32) (v20 : BitVec 32) (v24 : BitVec 32) (v28 : BitVec 32) (v32 : BitVec 32) {Q : (Σ' (v40 : BitVec 32) (v44 : BitVec 32) (v48 : BitVec 32) (v52 : BitVec 32) (v56 : BitVec 32) (v60 : BitVec 32), Sems sig S_) → sProp (MT nD τ sig ℕ (Elt F) ℕ UU ℕ)} (l : List (SemLoc sig)) :
    iprop(records m K ∗ levAts (L 4) lv ∗ owBar (F := F) c 0 ∗ barT (F := F) c 1 ∗ barT (F := F) c 2)
      ⊢ iprop((owBar (F := F) c 2 -∗ ∀ a b d e f g, Q ⟨a, b, d, e, f, g, SemArray.scalar (sig.barrier 0 rfl)⟩)
        -∗ wp frame (wpE (defs₀ (F := F)) 𝒱₀ (c : Thread nD τ) none) Set.univ (k0_part2 xM h0 tM h1 wsM h2 whM h3 resM h4 obufM h5 commM h6 cc0_scratch2 cc0_scratch3 cc0_scratch4 c v19 v20 v24 v28 v32) Q) := by
  simp only [k0_part2_eq_skeleton]
  unfold k0_part2_skel
  simp only [semSignalWord, semWaitWord, Prog.lift, Prog.bind_op, Prog.bind_ret, Prog.pure_eq_ret, Prog.bind_assoc, one_toInt, ten_toInt]
  iintro ⟨#HR, #Hlev, Hw, HbarT_1, HbarT_2⟩ HQ
  iapply (wp_sig m K c 0 1 (dev1_eq c) (rfl : (1 : ℕ) = 1) rfl (by decide)) $$ [Hw HbarT_1]
  · isplitr; · iexact HR
    isplitl [Hw]; · iexact Hw
    iexact HbarT_1
  iintro Hw
  iapply (wp_sig m K c 1 2 (dev2_eq c) (rfl : (1 : ℕ) = 1) rfl (by decide)) $$ [Hw HbarT_2]
  · isplitr; · iexact HR
    isplitl [Hw]; · iexact Hw
    iexact HbarT_2
  iintro Hw
  rw [wp_ret]; imodintro
  ispecialize HQ $$ [Hw]
  · iexact Hw
  iapply HQ

/-- Part 3 of the kernel. -/
theorem part3 (h0 : xM.IsWhole) (h1 : tM.IsWhole) (h2 : wsM.IsWhole) (h3 : whM.IsWhole) (h4 : resM.IsWhole) (h5 : obufM.IsWhole) (h6 : commM.IsWhole) (v36 : BitVec 32) (v40 : BitVec 32) (v44 : BitVec 32) (v48 : BitVec 32) (v52 : BitVec 32) (v56 : BitVec 32) (v60 : BitVec 32) {Q : (FVec F S4x1024 .f32) → sProp (MT nD τ sig ℕ (Elt F) ℕ UU ℕ)} (l : List (SemLoc sig)) :
    iprop(records m K ∗ levAts (L 4) lv ∗ owBar (F := F) c 2 ∗ barT (F := F) c 3 ∗ barT (F := F) c 4 ∗ barT (F := F) c 5 ∗ barT (F := F) c 6 ∗ barT (F := F) c 7 ∗ barT (F := F) c 9 ∗ barT (F := F) c 10 ∗ barT (F := F) c 11 ∗ xP m c ∗ slotE (F := F) c 0 0)
      ⊢ iprop((owBar (F := F) c 10 ∗ xP m c ∗ slotE (F := F) c 0 0 -∗ Q (k0_pay1 (xlo m c)))
        -∗ wp frame (wpE (defs₀ (F := F)) 𝒱₀ (c : Thread nD τ) none) Set.univ (k0_part3 xM h0 tM h1 wsM h2 whM h3 resM h4 obufM h5 commM h6 cc0_scratch2 cc0_scratch3 cc0_scratch4 c v36 v40 v44 v48 v52 v56 v60 (SemArray.scalar (sig.barrier 0 rfl))) Q) := by
  simp only [k0_part3_eq_skeleton]
  unfold k0_part3_skel
  simp only [semSignalWord, semWaitWord, Prog.lift, Prog.bind_op, Prog.bind_ret, Prog.pure_eq_ret, Prog.bind_assoc, one_toInt, ten_toInt]
  iintro ⟨#HR, #Hlev, Hw, HbarT_3, HbarT_4, HbarT_5, HbarT_6, HbarT_7, HbarT_9, HbarT_10, HbarT_11, Hx, Hslot_0_0⟩ HQ
  iapply (wp_sig m K c 2 3 (dev3_eq c) (rfl : (1 : ℕ) = 1) rfl (by decide)) $$ [Hw HbarT_3]
  · isplitr; · iexact HR
    isplitl [Hw]; · iexact Hw
    iexact HbarT_3
  iintro Hw
  iapply (wp_sig m K c 3 4 (dev4_eq c) (rfl : (1 : ℕ) = 1) rfl (by decide)) $$ [Hw HbarT_4]
  · isplitr; · iexact HR
    isplitl [Hw]; · iexact Hw
    iexact HbarT_4
  iintro Hw
  iapply (wp_sig m K c 4 5 (dev5_eq c) (rfl : (1 : ℕ) = 1) rfl (by decide)) $$ [Hw HbarT_5]
  · isplitr; · iexact HR
    isplitl [Hw]; · iexact Hw
    iexact HbarT_5
  iintro Hw
  iapply (wp_sig m K c 5 6 (dev6_eq c) (rfl : (1 : ℕ) = 1) rfl (by decide)) $$ [Hw HbarT_6]
  · isplitr; · iexact HR
    isplitl [Hw]; · iexact Hw
    iexact HbarT_6
  iintro Hw
  iapply (wp_sig m K c 6 7 (dev7_eq c) (rfl : (1 : ℕ) = 1) rfl (by decide)) $$ [Hw HbarT_7]
  · isplitr; · iexact HR
    isplitl [Hw]; · iexact Hw
    iexact HbarT_7
  iintro Hw
  iapply (wp_sig m K c 7 9 (dev8_eq c) (rfl : (1 : ℕ) = 1) rfl (by decide)) $$ [Hw HbarT_9]
  · isplitr; · iexact HR
    isplitl [Hw]; · iexact Hw
    iexact HbarT_9
  iintro Hw
  iapply (wp_sig m K c 8 10 (dev9_eq c) (rfl : (1 : ℕ) = 1) rfl (by decide)) $$ [Hw HbarT_10]
  · isplitr; · iexact HR
    isplitl [Hw]; · iexact Hw
    iexact HbarT_10
  iintro Hw
  iapply (wp_sig m K c 9 11 (dev10_eq c) (rfl : (1 : ℕ) = 1) rfl (by decide)) $$ [Hw HbarT_11]
  · isplitr; · iexact HR
    isplitl [Hw]; · iexact Hw
    iexact HbarT_11
  iintro Hw
  iapply (wp_xlo m c) $$ [Hx]
  · iexact Hx
  iintro Hx
  iapply (wp_slot_load c 0 0) $$ [Hslot_0_0]
  · iexact Hslot_0_0
  iintro %vs Hslot_0_0
  rw [wp_ret]; imodintro
  iapply HQ
  isplitl [Hw]; · iexact Hw
  isplitl [Hx]; · iexact Hx
  iexact Hslot_0_0

/-- Part 4 of the kernel. -/
theorem part4 (h0 : xM.IsWhole) (h1 : tM.IsWhole) (h2 : wsM.IsWhole) (h3 : whM.IsWhole) (h4 : resM.IsWhole) (h5 : obufM.IsWhole) (h6 : commM.IsWhole) (v24 : BitVec 32) (v28 : BitVec 32) {Q : (PUnit) → sProp (MT nD τ sig ℕ (Elt F) ℕ UU ℕ)} (l : List (SemLoc sig)) :
    iprop(records m K ∗ levAts (L 4) lv ∗ slotE (F := F) c 0 0 ∗ owBar (F := F) c 10 ∗ zs (F := F) c l ∗ barW (F := F) c ∗ tokT (F := F) c 0 1 ∗ tokT (F := F) c 0 2)
      ⊢ iprop((zs (F := F) c (.reg barrier0 :: l) ∗ slotE (F := F) (peer c 1) 1 1 ∗ slotE (F := F) (peer c 2) 1 2 ∗ slotE (F := F) (peer c 3) 0 3 ∗ slotE (F := F) (peer c 3) 1 3 ∗ slotE (F := F) (peer c 4) 0 4 ∗ slotE (F := F) (peer c 4) 1 4 ∗ slotE (F := F) (peer c 5) 0 5 ∗ slotE (F := F) (peer c 5) 1 5 ∗ slotE (F := F) (peer c 6) 0 6 ∗ slotE (F := F) (peer c 6) 1 6 ∗ slotE (F := F) (peer c 7) 0 7 ∗ slotE (F := F) (peer c 7) 1 7 ∗ slotE (F := F) (peer c 9) 0 9 ∗ slotE (F := F) (peer c 9) 1 9 ∗ slotE (F := F) (peer c 10) 0 10 ∗ slotE (F := F) (peer c 10) 1 10 ∗ slotE (F := F) (peer c 11) 0 11 ∗ slotE (F := F) (peer c 11) 1 11 ∗ sT (F := F) c 0 1 ∗ srcP m c 0 0 2 ∗ ow (F := F) c 2 ∗ sT (F := F) c 0 2 -∗ Q ⟨⟩)
        -∗ wp frame (wpE (defs₀ (F := F)) 𝒱₀ (c : Thread nD τ) none) Set.univ (k0_part4 xM h0 tM h1 wsM h2 whM h3 resM h4 obufM h5 commM h6 cc0_scratch2 cc0_scratch3 cc0_scratch4 c v24 v28 (SemArray.scalar (sig.barrier 0 rfl)) (k0_pay1 (xlo m c))) Q) := by
  simp only [k0_part4_eq_skeleton]
  unfold k0_part4_skel
  simp only [semSignalWord, semWaitWord, Prog.lift, Prog.bind_op, Prog.bind_ret, Prog.pure_eq_ret, Prog.bind_assoc, one_toInt, ten_toInt]
  iintro ⟨#HR, #Hlev, Hslot_0_0, Hw, Hz, HbarW, Htok_0_1, Htok_0_2⟩ HQ
  iapply (wp_stat_store m c 0 _ (if_pos rfl).symm) $$ [Hslot_0_0]
  · iexact Hslot_0_0
  iintro Hsrc_0_0
  ihave Hw := (owBar_done c) $$ Hw
  iapply (wp_barwait m K c (rfl : (10 : ℕ) = 10) l) $$ [Hw HbarW Hz]
  · isplitr; · iexact HR
    isplitr; · iexact Hlev
    isplitl [Hw]; · iexact Hw
    isplitl [HbarW]; · iexact HbarW
    iexact Hz
  iintro ⟨Hw, Hz, Hpay⟩
  ihave Hpay := (bar_slots c) $$ Hpay
  icases Hpay with ⟨⟨Hdst_0_1, Hdst_1_1⟩, ⟨Hdst_0_2, Hdst_1_2⟩, ⟨Hdst_0_3, Hdst_1_3⟩, ⟨Hdst_0_4, Hdst_1_4⟩, ⟨Hdst_0_5, Hdst_1_5⟩, ⟨Hdst_0_6, Hdst_1_6⟩, ⟨Hdst_0_7, Hdst_1_7⟩, ⟨Hdst_0_9, Hdst_1_9⟩, ⟨Hdst_0_10, Hdst_1_10⟩, ⟨Hdst_0_11, Hdst_1_11⟩, -⟩
  iapply (wp_xfer m K c 0 0 0 1 0 rfl rfl (by decide) (dev11_eq c) rfl) $$ [Hsrc_0_0 Hw Htok_0_1 Hdst_0_1]
  · isplitr; · iexact HR
    isplitl [Hsrc_0_0]; · iexact Hsrc_0_0
    isplitl [Hw]; · iexact Hw
    isplitl [Htok_0_1]; · iexact Htok_0_1
    iexact Hdst_0_1
  iintro ⟨Hsrc_0_0, Hw, Hs_0_1⟩
  iapply (wp_xfer m K c 1 1 0 2 0 rfl rfl (by decide) (dev12_eq c) rfl) $$ [Hsrc_0_0 Hw Htok_0_2 Hdst_0_2]
  · isplitr; · iexact HR
    isplitl [Hsrc_0_0]; · iexact Hsrc_0_0
    isplitl [Hw]; · iexact Hw
    isplitl [Htok_0_2]; · iexact Htok_0_2
    iexact Hdst_0_2
  iintro ⟨Hsrc_0_0, Hw, Hs_0_2⟩
  rw [wp_ret]; imodintro
  iapply HQ
  isplitl [Hz]; · iexact Hz
  isplitl [Hdst_1_1]; · iexact Hdst_1_1
  isplitl [Hdst_1_2]; · iexact Hdst_1_2
  isplitl [Hdst_0_3]; · iexact Hdst_0_3
  isplitl [Hdst_1_3]; · iexact Hdst_1_3
  isplitl [Hdst_0_4]; · iexact Hdst_0_4
  isplitl [Hdst_1_4]; · iexact Hdst_1_4
  isplitl [Hdst_0_5]; · iexact Hdst_0_5
  isplitl [Hdst_1_5]; · iexact Hdst_1_5
  isplitl [Hdst_0_6]; · iexact Hdst_0_6
  isplitl [Hdst_1_6]; · iexact Hdst_1_6
  isplitl [Hdst_0_7]; · iexact Hdst_0_7
  isplitl [Hdst_1_7]; · iexact Hdst_1_7
  isplitl [Hdst_0_9]; · iexact Hdst_0_9
  isplitl [Hdst_1_9]; · iexact Hdst_1_9
  isplitl [Hdst_0_10]; · iexact Hdst_0_10
  isplitl [Hdst_1_10]; · iexact Hdst_1_10
  isplitl [Hdst_0_11]; · iexact Hdst_0_11
  isplitl [Hdst_1_11]; · iexact Hdst_1_11
  isplitl [Hs_0_1]; · iexact Hs_0_1
  isplitl [Hsrc_0_0]; · iexact Hsrc_0_0
  isplitl [Hw]; · iexact Hw
  iexact Hs_0_2

/-- Part 5 of the kernel. -/
theorem part5 (h0 : xM.IsWhole) (h1 : tM.IsWhole) (h2 : wsM.IsWhole) (h3 : whM.IsWhole) (h4 : resM.IsWhole) (h5 : obufM.IsWhole) (h6 : commM.IsWhole) (v32 : BitVec 32) (v36 : BitVec 32) (v40 : BitVec 32) {Q : (PUnit) → sProp (MT nD τ sig ℕ (Elt F) ℕ UU ℕ)} (l : List (SemLoc sig)) :
    iprop(records m K ∗ levAts (L 4) lv ∗ srcP m c 0 0 2 ∗ ow (F := F) c 2 ∗ tokT (F := F) c 0 3 ∗ slotE (F := F) (peer c 3) 0 3 ∗ tokT (F := F) c 0 4 ∗ slotE (F := F) (peer c 4) 0 4)
      ⊢ iprop((sT (F := F) c 0 3 ∗ srcP m c 0 0 4 ∗ ow (F := F) c 4 ∗ sT (F := F) c 0 4 -∗ Q ⟨⟩)
        -∗ wp frame (wpE (defs₀ (F := F)) 𝒱₀ (c : Thread nD τ) none) Set.univ (k0_part5 xM h0 tM h1 wsM h2 whM h3 resM h4 obufM h5 commM h6 cc0_scratch2 cc0_scratch3 cc0_scratch4 c v32 v36 v40) Q) := by
  simp only [k0_part5_eq_skeleton]
  unfold k0_part5_skel
  simp only [semSignalWord, semWaitWord, Prog.lift, Prog.bind_op, Prog.bind_ret, Prog.pure_eq_ret, Prog.bind_assoc, one_toInt, ten_toInt]
  iintro ⟨#HR, #Hlev, Hsrc_0_0, Hw, Htok_0_3, Hdst_0_3, Htok_0_4, Hdst_0_4⟩ HQ
  iapply (wp_xfer m K c 2 2 0 3 0 rfl rfl (by decide) (dev13_eq c) rfl) $$ [Hsrc_0_0 Hw Htok_0_3 Hdst_0_3]
  · isplitr; · iexact HR
    isplitl [Hsrc_0_0]; · iexact Hsrc_0_0
    isplitl [Hw]; · iexact Hw
    isplitl [Htok_0_3]; · iexact Htok_0_3
    iexact Hdst_0_3
  iintro ⟨Hsrc_0_0, Hw, Hs_0_3⟩
  iapply (wp_xfer m K c 3 3 0 4 0 rfl rfl (by decide) (dev14_eq c) rfl) $$ [Hsrc_0_0 Hw Htok_0_4 Hdst_0_4]
  · isplitr; · iexact HR
    isplitl [Hsrc_0_0]; · iexact Hsrc_0_0
    isplitl [Hw]; · iexact Hw
    isplitl [Htok_0_4]; · iexact Htok_0_4
    iexact Hdst_0_4
  iintro ⟨Hsrc_0_0, Hw, Hs_0_4⟩
  rw [wp_ret]; imodintro
  iapply HQ
  isplitl [Hs_0_3]; · iexact Hs_0_3
  isplitl [Hsrc_0_0]; · iexact Hsrc_0_0
  isplitl [Hw]; · iexact Hw
  iexact Hs_0_4

/-- Part 6 of the kernel. -/
theorem part6 (h0 : xM.IsWhole) (h1 : tM.IsWhole) (h2 : wsM.IsWhole) (h3 : whM.IsWhole) (h4 : resM.IsWhole) (h5 : obufM.IsWhole) (h6 : commM.IsWhole) (v44 : BitVec 32) (v48 : BitVec 32) {Q : (PUnit) → sProp (MT nD τ sig ℕ (Elt F) ℕ UU ℕ)} (l : List (SemLoc sig)) :
    iprop(records m K ∗ levAts (L 4) lv ∗ srcP m c 0 0 4 ∗ ow (F := F) c 4 ∗ tokT (F := F) c 0 5 ∗ slotE (F := F) (peer c 5) 0 5 ∗ tokT (F := F) c 0 6 ∗ slotE (F := F) (peer c 6) 0 6 ∗ tokT (F := F) c 0 7 ∗ slotE (F := F) (peer c 7) 0 7)
      ⊢ iprop((sT (F := F) c 0 5 ∗ sT (F := F) c 0 6 ∗ srcP m c 0 0 7 ∗ ow (F := F) c 7 ∗ sT (F := F) c 0 7 -∗ Q ⟨⟩)
        -∗ wp frame (wpE (defs₀ (F := F)) 𝒱₀ (c : Thread nD τ) none) Set.univ (k0_part6 xM h0 tM h1 wsM h2 whM h3 resM h4 obufM h5 commM h6 cc0_scratch2 cc0_scratch3 cc0_scratch4 c v44 v48) Q) := by
  simp only [k0_part6_eq_skeleton]
  unfold k0_part6_skel
  simp only [semSignalWord, semWaitWord, Prog.lift, Prog.bind_op, Prog.bind_ret, Prog.pure_eq_ret, Prog.bind_assoc, one_toInt, ten_toInt]
  iintro ⟨#HR, #Hlev, Hsrc_0_0, Hw, Htok_0_5, Hdst_0_5, Htok_0_6, Hdst_0_6, Htok_0_7, Hdst_0_7⟩ HQ
  iapply (wp_xfer m K c 4 4 0 5 0 rfl rfl (by decide) (dev15_eq c) rfl) $$ [Hsrc_0_0 Hw Htok_0_5 Hdst_0_5]
  · isplitr; · iexact HR
    isplitl [Hsrc_0_0]; · iexact Hsrc_0_0
    isplitl [Hw]; · iexact Hw
    isplitl [Htok_0_5]; · iexact Htok_0_5
    iexact Hdst_0_5
  iintro ⟨Hsrc_0_0, Hw, Hs_0_5⟩
  iapply (wp_xfer m K c 5 5 0 6 0 rfl rfl (by decide) (dev16_eq c) rfl) $$ [Hsrc_0_0 Hw Htok_0_6 Hdst_0_6]
  · isplitr; · iexact HR
    isplitl [Hsrc_0_0]; · iexact Hsrc_0_0
    isplitl [Hw]; · iexact Hw
    isplitl [Htok_0_6]; · iexact Htok_0_6
    iexact Hdst_0_6
  iintro ⟨Hsrc_0_0, Hw, Hs_0_6⟩
  iapply (wp_xfer m K c 6 6 0 7 0 rfl rfl (by decide) (dev17_eq c) rfl) $$ [Hsrc_0_0 Hw Htok_0_7 Hdst_0_7]
  · isplitr; · iexact HR
    isplitl [Hsrc_0_0]; · iexact Hsrc_0_0
    isplitl [Hw]; · iexact Hw
    isplitl [Htok_0_7]; · iexact Htok_0_7
    iexact Hdst_0_7
  iintro ⟨Hsrc_0_0, Hw, Hs_0_7⟩
  rw [wp_ret]; imodintro
  iapply HQ
  isplitl [Hs_0_5]; · iexact Hs_0_5
  isplitl [Hs_0_6]; · iexact Hs_0_6
  isplitl [Hsrc_0_0]; · iexact Hsrc_0_0
  isplitl [Hw]; · iexact Hw
  iexact Hs_0_7

end Cert.LnProof

end
-- ==== Proof.PartsB.lean ====
/-
# The kernel's parts: the statistics of the second half and its transfers

Each part of the kernel at a symbolic device: what it needs and what it leaves.
-/
module

public import proofs.«01_k».proof.Proof.Memory

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

variable (m : (ℓ : Loc nD τ sig) → Buf (Elt F) ℓ) (K : Dev nD × Fin 51 → ℕ) (c : Dev nD)

/-- Part 7 of the kernel. -/
theorem part7 (h0 : xM.IsWhole) (h1 : tM.IsWhole) (h2 : wsM.IsWhole) (h3 : whM.IsWhole) (h4 : resM.IsWhole) (h5 : obufM.IsWhole) (h6 : commM.IsWhole) (v24 : BitVec 32) (v28 : BitVec 32) {Q : (PUnit) → sProp (MT nD τ sig ℕ (Elt F) ℕ UU ℕ)} (l : List (SemLoc sig)) :
    iprop(records m K ∗ levAts (L 4) lv ∗ xP m c ∗ slotE (F := F) c 1 0 ∗ ow (F := F) c 7 ∗ tokT (F := F) c 1 1 ∗ slotE (F := F) (peer c 1) 1 1)
      ⊢ iprop((xP m c ∗ srcP m c 1 0 1 ∗ ow (F := F) c 8 ∗ sT (F := F) c 1 1 -∗ Q ⟨⟩)
        -∗ wp frame (wpE (defs₀ (F := F)) 𝒱₀ (c : Thread nD τ) none) Set.univ (k0_part7 xM h0 tM h1 wsM h2 whM h3 resM h4 obufM h5 commM h6 cc0_scratch2 cc0_scratch3 cc0_scratch4 c v24 v28) Q) := by
  simp only [k0_part7_eq_skeleton]
  unfold k0_part7_skel
  simp only [semSignalWord, semWaitWord, Prog.lift, Prog.bind_op, Prog.bind_ret, Prog.pure_eq_ret, Prog.bind_assoc, one_toInt, ten_toInt]
  iintro ⟨#HR, #Hlev, Hx, Hslot_1_0, Hw, Htok_1_1, Hdst_1_1⟩ HQ
  iapply (wp_xhi m c) $$ [Hx]
  · iexact Hx
  iintro Hx
  iapply (wp_slot_load c 1 0) $$ [Hslot_1_0]
  · iexact Hslot_1_0
  iintro %vs Hslot_1_0
  iapply (wp_stat_store m c 1 _ (if_neg (by decide)).symm) $$ [Hslot_1_0]
  · iexact Hslot_1_0
  iintro Hsrc_1_0
  iapply (wp_xfer m K c 7 0 1 1 0 rfl rfl (by decide) (dev18_eq c) rfl) $$ [Hsrc_1_0 Hw Htok_1_1 Hdst_1_1]
  · isplitr; · iexact HR
    isplitl [Hsrc_1_0]; · iexact Hsrc_1_0
    isplitl [Hw]; · iexact Hw
    isplitl [Htok_1_1]; · iexact Htok_1_1
    iexact Hdst_1_1
  iintro ⟨Hsrc_1_0, Hw, Hs_1_1⟩
  rw [wp_ret]; imodintro
  iapply HQ
  isplitl [Hx]; · iexact Hx
  isplitl [Hsrc_1_0]; · iexact Hsrc_1_0
  isplitl [Hw]; · iexact Hw
  iexact Hs_1_1

/-- Part 8 of the kernel. -/
theorem part8 (h0 : xM.IsWhole) (h1 : tM.IsWhole) (h2 : wsM.IsWhole) (h3 : whM.IsWhole) (h4 : resM.IsWhole) (h5 : obufM.IsWhole) (h6 : commM.IsWhole) (v32 : BitVec 32) (v36 : BitVec 32) {Q : (PUnit) → sProp (MT nD τ sig ℕ (Elt F) ℕ UU ℕ)} (l : List (SemLoc sig)) :
    iprop(records m K ∗ levAts (L 4) lv ∗ srcP m c 1 0 1 ∗ ow (F := F) c 8 ∗ tokT (F := F) c 1 2 ∗ slotE (F := F) (peer c 2) 1 2 ∗ tokT (F := F) c 1 3 ∗ slotE (F := F) (peer c 3) 1 3 ∗ tokT (F := F) c 1 4 ∗ slotE (F := F) (peer c 4) 1 4)
      ⊢ iprop((sT (F := F) c 1 2 ∗ sT (F := F) c 1 3 ∗ srcP m c 1 0 4 ∗ ow (F := F) c 11 ∗ sT (F := F) c 1 4 -∗ Q ⟨⟩)
        -∗ wp frame (wpE (defs₀ (F := F)) 𝒱₀ (c : Thread nD τ) none) Set.univ (k0_part8 xM h0 tM h1 wsM h2 whM h3 resM h4 obufM h5 commM h6 cc0_scratch2 cc0_scratch3 cc0_scratch4 c v32 v36) Q) := by
  simp only [k0_part8_eq_skeleton]
  unfold k0_part8_skel
  simp only [semSignalWord, semWaitWord, Prog.lift, Prog.bind_op, Prog.bind_ret, Prog.pure_eq_ret, Prog.bind_assoc, one_toInt, ten_toInt]
  iintro ⟨#HR, #Hlev, Hsrc_1_0, Hw, Htok_1_2, Hdst_1_2, Htok_1_3, Hdst_1_3, Htok_1_4, Hdst_1_4⟩ HQ
  iapply (wp_xfer m K c 8 1 1 2 0 rfl rfl (by decide) (dev19_eq c) rfl) $$ [Hsrc_1_0 Hw Htok_1_2 Hdst_1_2]
  · isplitr; · iexact HR
    isplitl [Hsrc_1_0]; · iexact Hsrc_1_0
    isplitl [Hw]; · iexact Hw
    isplitl [Htok_1_2]; · iexact Htok_1_2
    iexact Hdst_1_2
  iintro ⟨Hsrc_1_0, Hw, Hs_1_2⟩
  iapply (wp_xfer m K c 9 2 1 3 0 rfl rfl (by decide) (dev20_eq c) rfl) $$ [Hsrc_1_0 Hw Htok_1_3 Hdst_1_3]
  · isplitr; · iexact HR
    isplitl [Hsrc_1_0]; · iexact Hsrc_1_0
    isplitl [Hw]; · iexact Hw
    isplitl [Htok_1_3]; · iexact Htok_1_3
    iexact Hdst_1_3
  iintro ⟨Hsrc_1_0, Hw, Hs_1_3⟩
  iapply (wp_xfer m K c 10 3 1 4 0 rfl rfl (by decide) (dev21_eq c) rfl) $$ [Hsrc_1_0 Hw Htok_1_4 Hdst_1_4]
  · isplitr; · iexact HR
    isplitl [Hsrc_1_0]; · iexact Hsrc_1_0
    isplitl [Hw]; · iexact Hw
    isplitl [Htok_1_4]; · iexact Htok_1_4
    iexact Hdst_1_4
  iintro ⟨Hsrc_1_0, Hw, Hs_1_4⟩
  rw [wp_ret]; imodintro
  iapply HQ
  isplitl [Hs_1_2]; · iexact Hs_1_2
  isplitl [Hs_1_3]; · iexact Hs_1_3
  isplitl [Hsrc_1_0]; · iexact Hsrc_1_0
  isplitl [Hw]; · iexact Hw
  iexact Hs_1_4

/-- Part 9 of the kernel. -/
theorem part9 (h0 : xM.IsWhole) (h1 : tM.IsWhole) (h2 : wsM.IsWhole) (h3 : whM.IsWhole) (h4 : resM.IsWhole) (h5 : obufM.IsWhole) (h6 : commM.IsWhole) (v40 : BitVec 32) (v44 : BitVec 32) (v48 : BitVec 32) {Q : (Σ' (v230 : BitVec 32), BitVec 32) → sProp (MT nD τ sig ℕ (Elt F) ℕ UU ℕ)} (l : List (SemLoc sig)) :
    iprop(records m K ∗ levAts (L 4) lv ∗ srcP m c 1 0 4 ∗ ow (F := F) c 11 ∗ tokT (F := F) c 1 5 ∗ slotE (F := F) (peer c 5) 1 5 ∗ tokT (F := F) c 1 6 ∗ slotE (F := F) (peer c 6) 1 6)
      ⊢ iprop((sT (F := F) c 1 5 ∗ srcP m c 1 0 6 ∗ ow (F := F) c 13 ∗ sT (F := F) c 1 6 -∗ ∀ a b, Q ⟨a, b⟩)
        -∗ wp frame (wpE (defs₀ (F := F)) 𝒱₀ (c : Thread nD τ) none) Set.univ (k0_part9 xM h0 tM h1 wsM h2 whM h3 resM h4 obufM h5 commM h6 cc0_scratch2 cc0_scratch3 cc0_scratch4 c v40 v44 v48) Q) := by
  simp only [k0_part9_eq_skeleton]
  unfold k0_part9_skel
  simp only [semSignalWord, semWaitWord, Prog.lift, Prog.bind_op, Prog.bind_ret, Prog.pure_eq_ret, Prog.bind_assoc, one_toInt, ten_toInt]
  iintro ⟨#HR, #Hlev, Hsrc_1_0, Hw, Htok_1_5, Hdst_1_5, Htok_1_6, Hdst_1_6⟩ HQ
  iapply (wp_xfer m K c 11 4 1 5 0 rfl rfl (by decide) (dev22_eq c) rfl) $$ [Hsrc_1_0 Hw Htok_1_5 Hdst_1_5]
  · isplitr; · iexact HR
    isplitl [Hsrc_1_0]; · iexact Hsrc_1_0
    isplitl [Hw]; · iexact Hw
    isplitl [Htok_1_5]; · iexact Htok_1_5
    iexact Hdst_1_5
  iintro ⟨Hsrc_1_0, Hw, Hs_1_5⟩
  iapply (wp_xfer m K c 12 5 1 6 0 rfl rfl (by decide) (dev23_eq c) rfl) $$ [Hsrc_1_0 Hw Htok_1_6 Hdst_1_6]
  · isplitr; · iexact HR
    isplitl [Hsrc_1_0]; · iexact Hsrc_1_0
    isplitl [Hw]; · iexact Hw
    isplitl [Htok_1_6]; · iexact Htok_1_6
    iexact Hdst_1_6
  iintro ⟨Hsrc_1_0, Hw, Hs_1_6⟩
  rw [wp_ret]; imodintro
  ispecialize HQ $$ [Hs_1_5 Hsrc_1_0 Hw Hs_1_6]
  · isplitl [Hs_1_5]; · iexact Hs_1_5
    isplitl [Hsrc_1_0]; · iexact Hsrc_1_0
    isplitl [Hw]; · iexact Hw
    iexact Hs_1_6
  iapply HQ

/-- Part 10 of the kernel. -/
theorem part10 (h0 : xM.IsWhole) (h1 : tM.IsWhole) (h2 : wsM.IsWhole) (h3 : whM.IsWhole) (h4 : resM.IsWhole) (h5 : obufM.IsWhole) (h6 : commM.IsWhole) (v230 : BitVec 32) (c0_i32_265 : BitVec 32) {Q : (Σ' (v244 : FVec F S2x512 .f32), FVec F S2x512 .f32) → sProp (MT nD τ sig ℕ (Elt F) ℕ UU ℕ)} (l : List (SemLoc sig)) :
    iprop(records m K ∗ levAts (L 4) lv ∗ srcP m c 1 0 6 ∗ ow (F := F) c 13 ∗ tokT (F := F) c 1 7 ∗ slotE (F := F) (peer c 7) 1 7 ∗ tP m c ∗ wsP m c ∗ whP m c ∗ zs (F := F) c l ∗ sT (F := F) c 0 1)
      ⊢ iprop((srcP m c 1 0 7 ∗ sT (F := F) c 1 7 ∗ tP m c ∗ wsP m c ∗ whP m c ∗ ow (F := F) c 14 ∗ zs (F := F) c (.dma (sendS 0 1) :: l) ∗ sendPay m c 0 1 -∗ Q ⟨k0_pay4 (tld m c) (wsld m c), k0_pay5 (tld m c) (whld m c)⟩)
        -∗ wp frame (wpE (defs₀ (F := F)) 𝒱₀ (c : Thread nD τ) none) Set.univ (k0_part10 xM h0 tM h1 wsM h2 whM h3 resM h4 obufM h5 commM h6 cc0_scratch2 cc0_scratch3 cc0_scratch4 c v230 c0_i32_265) Q) := by
  simp only [k0_part10_eq_skeleton]
  unfold k0_part10_skel
  simp only [semSignalWord, semWaitWord, Prog.lift, Prog.bind_op, Prog.bind_ret, Prog.pure_eq_ret, Prog.bind_assoc, one_toInt, ten_toInt]
  iintro ⟨#HR, #Hlev, Hsrc_1_0, Hw, Htok_1_7, Hdst_1_7, Ht, Hws, Hwh, Hz, Hs_0_1⟩ HQ
  iapply (wp_xfer m K c 13 6 1 7 0 rfl rfl (by decide) (dev24_eq c) rfl) $$ [Hsrc_1_0 Hw Htok_1_7 Hdst_1_7]
  · isplitr; · iexact HR
    isplitl [Hsrc_1_0]; · iexact Hsrc_1_0
    isplitl [Hw]; · iexact Hw
    isplitl [Htok_1_7]; · iexact Htok_1_7
    iexact Hdst_1_7
  iintro ⟨Hsrc_1_0, Hw, Hs_1_7⟩
  iapply (wp_tld m c) $$ [Ht]
  · iexact Ht
  iintro Ht
  iapply (wp_wsld m c) $$ [Hws]
  · iexact Hws
  iintro Hws
  iapply (wp_tld m c) $$ [Ht]
  · iexact Ht
  iintro Ht
  iapply (wp_whld m c) $$ [Hwh]
  · iexact Hwh
  iintro Hwh
  iapply (wp_swait m K c 14 0 1 0 (by decide) l) $$ [Hw Hs_0_1 Hz]
  · isplitr; · iexact HR
    isplitr; · iexact Hlev
    isplitl [Hw]; · iexact Hw
    isplitl [Hs_0_1]; · iexact Hs_0_1
    iexact Hz
  iintro ⟨Hw, Hz, Hq_0_1⟩
  rw [wp_ret]; imodintro
  iapply HQ
  isplitl [Hsrc_1_0]; · iexact Hsrc_1_0
  isplitl [Hs_1_7]; · iexact Hs_1_7
  isplitl [Ht]; · iexact Ht
  isplitl [Hws]; · iexact Hws
  isplitl [Hwh]; · iexact Hwh
  isplitl [Hw]; · iexact Hw
  isplitl [Hz]; · iexact Hz
  iexact Hq_0_1

end Cert.LnProof

end
-- ==== Proof.PartsC.lean ====
/-
# The kernel's parts: the waits of the first exchange of the first half

Each part of the kernel at a symbolic device: what it needs and what it leaves.
-/
module

public import proofs.«01_k».proof.Proof.Memory

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

variable (m : (ℓ : Loc nD τ sig) → Buf (Elt F) ℓ) (K : Dev nD × Fin 51 → ℕ) (c : Dev nD)

/-- Part 11 of the kernel. -/
theorem part11 (h0 : xM.IsWhole) (h1 : tM.IsWhole) (h2 : wsM.IsWhole) (h3 : whM.IsWhole) (h4 : resM.IsWhole) (h5 : obufM.IsWhole) (h6 : commM.IsWhole) (v24 : BitVec 32) (v28 : BitVec 32) {Q : (PUnit) → sProp (MT nD τ sig ℕ (Elt F) ℕ UU ℕ)} (l : List (SemLoc sig)) :
    iprop(records m K ∗ levAts (L 4) lv ∗ zs (F := F) c l ∗ ow (F := F) c 14 ∗ rT (F := F) c 0 1 ∗ sT (F := F) c 0 2 ∗ rT (F := F) c 0 2)
      ⊢ iprop((recvPay m c 0 1 ∗ sendPay m c 0 2 ∗ ow (F := F) c 14 ∗ zs (F := F) c (.dma (recvS 0 2) :: (.dma (sendS 0 2) :: (.dma (recvS 0 1) :: l))) ∗ recvPay m c 0 2 -∗ Q ⟨⟩)
        -∗ wp frame (wpE (defs₀ (F := F)) 𝒱₀ (c : Thread nD τ) none) Set.univ (k0_part11 xM h0 tM h1 wsM h2 whM h3 resM h4 obufM h5 commM h6 cc0_scratch2 cc0_scratch3 cc0_scratch4 v24 v28) Q) := by
  simp only [k0_part11_eq_skeleton]
  unfold k0_part11_skel
  simp only [semSignalWord, semWaitWord, Prog.lift, Prog.bind_op, Prog.bind_ret, Prog.pure_eq_ret, Prog.bind_assoc, one_toInt, ten_toInt]
  iintro ⟨#HR, #Hlev, Hz, Hw, Hr_0_1, Hs_0_2, Hr_0_2⟩ HQ
  iapply (wp_rwait m K c 14 0 1 0 (by decide) (by decide) l) $$ [Hw Hr_0_1 Hz]
  · isplitr; · iexact HR
    isplitr; · iexact Hlev
    isplitl [Hw]; · iexact Hw
    isplitl [Hr_0_1]; · iexact Hr_0_1
    iexact Hz
  iintro ⟨Hw, Hz, Hv_0_1⟩
  iapply (wp_swait m K c 14 0 2 0 (by decide) (.dma (recvS 0 1) :: l)) $$ [Hw Hs_0_2 Hz]
  · isplitr; · iexact HR
    isplitr; · iexact Hlev
    isplitl [Hw]; · iexact Hw
    isplitl [Hs_0_2]; · iexact Hs_0_2
    iexact Hz
  iintro ⟨Hw, Hz, Hq_0_2⟩
  iapply (wp_rwait m K c 14 0 2 0 (by decide) (by decide) (.dma (sendS 0 2) :: (.dma (recvS 0 1) :: l))) $$ [Hw Hr_0_2 Hz]
  · isplitr; · iexact HR
    isplitr; · iexact Hlev
    isplitl [Hw]; · iexact Hw
    isplitl [Hr_0_2]; · iexact Hr_0_2
    iexact Hz
  iintro ⟨Hw, Hz, Hv_0_2⟩
  rw [wp_ret]; imodintro
  iapply HQ
  isplitl [Hv_0_1]; · iexact Hv_0_1
  isplitl [Hq_0_2]; · iexact Hq_0_2
  isplitl [Hw]; · iexact Hw
  isplitl [Hz]; · iexact Hz
  iexact Hv_0_2

/-- Part 12 of the kernel. -/
theorem part12 (h0 : xM.IsWhole) (h1 : tM.IsWhole) (h2 : wsM.IsWhole) (h3 : whM.IsWhole) (h4 : resM.IsWhole) (h5 : obufM.IsWhole) (h6 : commM.IsWhole) (v32 : BitVec 32) {Q : (PUnit) → sProp (MT nD τ sig ℕ (Elt F) ℕ UU ℕ)} (l : List (SemLoc sig)) :
    iprop(records m K ∗ levAts (L 4) lv ∗ zs (F := F) c l ∗ ow (F := F) c 14 ∗ sT (F := F) c 0 3 ∗ rT (F := F) c 0 3)
      ⊢ iprop((sendPay m c 0 3 ∗ ow (F := F) c 14 ∗ zs (F := F) c (.dma (recvS 0 3) :: (.dma (sendS 0 3) :: l)) ∗ recvPay m c 0 3 -∗ Q ⟨⟩)
        -∗ wp frame (wpE (defs₀ (F := F)) 𝒱₀ (c : Thread nD τ) none) Set.univ (k0_part12 xM h0 tM h1 wsM h2 whM h3 resM h4 obufM h5 commM h6 cc0_scratch2 cc0_scratch3 cc0_scratch4 v32) Q) := by
  simp only [k0_part12_eq_skeleton]
  unfold k0_part12_skel
  simp only [semSignalWord, semWaitWord, Prog.lift, Prog.bind_op, Prog.bind_ret, Prog.pure_eq_ret, Prog.bind_assoc, one_toInt, ten_toInt]
  iintro ⟨#HR, #Hlev, Hz, Hw, Hs_0_3, Hr_0_3⟩ HQ
  iapply (wp_swait m K c 14 0 3 0 (by decide) l) $$ [Hw Hs_0_3 Hz]
  · isplitr; · iexact HR
    isplitr; · iexact Hlev
    isplitl [Hw]; · iexact Hw
    isplitl [Hs_0_3]; · iexact Hs_0_3
    iexact Hz
  iintro ⟨Hw, Hz, Hq_0_3⟩
  iapply (wp_rwait m K c 14 0 3 0 (by decide) (by decide) (.dma (sendS 0 3) :: l)) $$ [Hw Hr_0_3 Hz]
  · isplitr; · iexact HR
    isplitr; · iexact Hlev
    isplitl [Hw]; · iexact Hw
    isplitl [Hr_0_3]; · iexact Hr_0_3
    iexact Hz
  iintro ⟨Hw, Hz, Hv_0_3⟩
  rw [wp_ret]; imodintro
  iapply HQ
  isplitl [Hq_0_3]; · iexact Hq_0_3
  isplitl [Hw]; · iexact Hw
  isplitl [Hz]; · iexact Hz
  iexact Hv_0_3

/-- Part 13 of the kernel. -/
theorem part13 (h0 : xM.IsWhole) (h1 : tM.IsWhole) (h2 : wsM.IsWhole) (h3 : whM.IsWhole) (h4 : resM.IsWhole) (h5 : obufM.IsWhole) (h6 : commM.IsWhole) (v36 : BitVec 32) (v40 : BitVec 32) {Q : (PUnit) → sProp (MT nD τ sig ℕ (Elt F) ℕ UU ℕ)} (l : List (SemLoc sig)) :
    iprop(records m K ∗ levAts (L 4) lv ∗ zs (F := F) c l ∗ ow (F := F) c 14 ∗ sT (F := F) c 0 4 ∗ rT (F := F) c 0 4 ∗ sT (F := F) c 0 5)
      ⊢ iprop((sendPay m c 0 4 ∗ recvPay m c 0 4 ∗ ow (F := F) c 14 ∗ zs (F := F) c (.dma (sendS 0 5) :: (.dma (recvS 0 4) :: (.dma (sendS 0 4) :: l))) ∗ sendPay m c 0 5 -∗ Q ⟨⟩)
        -∗ wp frame (wpE (defs₀ (F := F)) 𝒱₀ (c : Thread nD τ) none) Set.univ (k0_part13 xM h0 tM h1 wsM h2 whM h3 resM h4 obufM h5 commM h6 cc0_scratch2 cc0_scratch3 cc0_scratch4 v36 v40) Q) := by
  simp only [k0_part13_eq_skeleton]
  unfold k0_part13_skel
  simp only [semSignalWord, semWaitWord, Prog.lift, Prog.bind_op, Prog.bind_ret, Prog.pure_eq_ret, Prog.bind_assoc, one_toInt, ten_toInt]
  iintro ⟨#HR, #Hlev, Hz, Hw, Hs_0_4, Hr_0_4, Hs_0_5⟩ HQ
  iapply (wp_swait m K c 14 0 4 0 (by decide) l) $$ [Hw Hs_0_4 Hz]
  · isplitr; · iexact HR
    isplitr; · iexact Hlev
    isplitl [Hw]; · iexact Hw
    isplitl [Hs_0_4]; · iexact Hs_0_4
    iexact Hz
  iintro ⟨Hw, Hz, Hq_0_4⟩
  iapply (wp_rwait m K c 14 0 4 0 (by decide) (by decide) (.dma (sendS 0 4) :: l)) $$ [Hw Hr_0_4 Hz]
  · isplitr; · iexact HR
    isplitr; · iexact Hlev
    isplitl [Hw]; · iexact Hw
    isplitl [Hr_0_4]; · iexact Hr_0_4
    iexact Hz
  iintro ⟨Hw, Hz, Hv_0_4⟩
  iapply (wp_swait m K c 14 0 5 0 (by decide) (.dma (recvS 0 4) :: (.dma (sendS 0 4) :: l))) $$ [Hw Hs_0_5 Hz]
  · isplitr; · iexact HR
    isplitr; · iexact Hlev
    isplitl [Hw]; · iexact Hw
    isplitl [Hs_0_5]; · iexact Hs_0_5
    iexact Hz
  iintro ⟨Hw, Hz, Hq_0_5⟩
  rw [wp_ret]; imodintro
  iapply HQ
  isplitl [Hq_0_4]; · iexact Hq_0_4
  isplitl [Hv_0_4]; · iexact Hv_0_4
  isplitl [Hw]; · iexact Hw
  isplitl [Hz]; · iexact Hz
  iexact Hq_0_5

/-- Part 14 of the kernel. -/
theorem part14 (h0 : xM.IsWhole) (h1 : tM.IsWhole) (h2 : wsM.IsWhole) (h3 : whM.IsWhole) (h4 : resM.IsWhole) (h5 : obufM.IsWhole) (h6 : commM.IsWhole) (v44 : BitVec 32) {Q : (PUnit) → sProp (MT nD τ sig ℕ (Elt F) ℕ UU ℕ)} (l : List (SemLoc sig)) :
    iprop(records m K ∗ levAts (L 4) lv ∗ zs (F := F) c l ∗ ow (F := F) c 14 ∗ rT (F := F) c 0 5 ∗ sT (F := F) c 0 6 ∗ rT (F := F) c 0 6)
      ⊢ iprop((recvPay m c 0 5 ∗ sendPay m c 0 6 ∗ ow (F := F) c 14 ∗ zs (F := F) c (.dma (recvS 0 6) :: (.dma (sendS 0 6) :: (.dma (recvS 0 5) :: l))) ∗ recvPay m c 0 6 -∗ Q ⟨⟩)
        -∗ wp frame (wpE (defs₀ (F := F)) 𝒱₀ (c : Thread nD τ) none) Set.univ (k0_part14 xM h0 tM h1 wsM h2 whM h3 resM h4 obufM h5 commM h6 cc0_scratch2 cc0_scratch3 cc0_scratch4 v44) Q) := by
  simp only [k0_part14_eq_skeleton]
  unfold k0_part14_skel
  simp only [semSignalWord, semWaitWord, Prog.lift, Prog.bind_op, Prog.bind_ret, Prog.pure_eq_ret, Prog.bind_assoc, one_toInt, ten_toInt]
  iintro ⟨#HR, #Hlev, Hz, Hw, Hr_0_5, Hs_0_6, Hr_0_6⟩ HQ
  iapply (wp_rwait m K c 14 0 5 0 (by decide) (by decide) l) $$ [Hw Hr_0_5 Hz]
  · isplitr; · iexact HR
    isplitr; · iexact Hlev
    isplitl [Hw]; · iexact Hw
    isplitl [Hr_0_5]; · iexact Hr_0_5
    iexact Hz
  iintro ⟨Hw, Hz, Hv_0_5⟩
  iapply (wp_swait m K c 14 0 6 0 (by decide) (.dma (recvS 0 5) :: l)) $$ [Hw Hs_0_6 Hz]
  · isplitr; · iexact HR
    isplitr; · iexact Hlev
    isplitl [Hw]; · iexact Hw
    isplitl [Hs_0_6]; · iexact Hs_0_6
    iexact Hz
  iintro ⟨Hw, Hz, Hq_0_6⟩
  iapply (wp_rwait m K c 14 0 6 0 (by decide) (by decide) (.dma (sendS 0 6) :: (.dma (recvS 0 5) :: l))) $$ [Hw Hr_0_6 Hz]
  · isplitr; · iexact HR
    isplitr; · iexact Hlev
    isplitl [Hw]; · iexact Hw
    isplitl [Hr_0_6]; · iexact Hr_0_6
    iexact Hz
  iintro ⟨Hw, Hz, Hv_0_6⟩
  rw [wp_ret]; imodintro
  iapply HQ
  isplitl [Hv_0_5]; · iexact Hv_0_5
  isplitl [Hq_0_6]; · iexact Hq_0_6
  isplitl [Hw]; · iexact Hw
  isplitl [Hz]; · iexact Hz
  iexact Hv_0_6

/-- Part 15 of the kernel. -/
theorem part15 (h0 : xM.IsWhole) (h1 : tM.IsWhole) (h2 : wsM.IsWhole) (h3 : whM.IsWhole) (h4 : resM.IsWhole) (h5 : obufM.IsWhole) (h6 : commM.IsWhole) (v48 : BitVec 32) {Q : (BitVec 32) → sProp (MT nD τ sig ℕ (Elt F) ℕ UU ℕ)} (l : List (SemLoc sig)) :
    iprop(records m K ∗ levAts (L 4) lv ∗ zs (F := F) c l ∗ ow (F := F) c 14 ∗ sT (F := F) c 0 7 ∗ rT (F := F) c 0 7 ∗ srcP m c 0 0 7 ∗ sendPay m c 0 1 ∗ sendPay m c 0 2 ∗ sendPay m c 0 3 ∗ sendPay m c 0 4 ∗ sendPay m c 0 5 ∗ sendPay m c 0 6 ∗ recvPay m c 0 1 ∗ recvPay m c 0 2 ∗ recvPay m c 0 3 ∗ recvPay m c 0 4 ∗ recvPay m c 0 5 ∗ recvPay m c 0 6 ∗ slotE (F := F) c 0 8)
      ⊢ iprop((ow (F := F) c 14 ∗ zs (F := F) c (.dma (recvS 0 7) :: (.dma (sendS 0 7) :: l)) ∗ lowP m c 0 ∗ srcP m c 0 8 0 -∗ Q 1#32)
        -∗ wp frame (wpE (defs₀ (F := F)) 𝒱₀ (c : Thread nD τ) none) Set.univ (k0_part15 xM h0 tM h1 wsM h2 whM h3 resM h4 obufM h5 commM h6 cc0_scratch2 cc0_scratch3 cc0_scratch4 v48) Q) := by
  simp only [k0_part15_eq_skeleton]
  unfold k0_part15_skel
  simp only [semSignalWord, semWaitWord, Prog.lift, Prog.bind_op, Prog.bind_ret, Prog.pure_eq_ret, Prog.bind_assoc, one_toInt, ten_toInt]
  iintro ⟨#HR, #Hlev, Hz, Hw, Hs_0_7, Hr_0_7, Hsrc_0_0, Hq_0_1, Hq_0_2, Hq_0_3, Hq_0_4, Hq_0_5, Hq_0_6, Hv_0_1, Hv_0_2, Hv_0_3, Hv_0_4, Hv_0_5, Hv_0_6, Hslot_0_8⟩ HQ
  iapply (wp_swait m K c 14 0 7 0 (by decide) l) $$ [Hw Hs_0_7 Hz]
  · isplitr; · iexact HR
    isplitr; · iexact Hlev
    isplitl [Hw]; · iexact Hw
    isplitl [Hs_0_7]; · iexact Hs_0_7
    iexact Hz
  iintro ⟨Hw, Hz, Hq_0_7⟩
  iapply (wp_rwait m K c 14 0 7 0 (by decide) (by decide) (.dma (sendS 0 7) :: l)) $$ [Hw Hr_0_7 Hz]
  · isplitr; · iexact HR
    isplitr; · iexact Hlev
    isplitl [Hw]; · iexact Hw
    isplitl [Hr_0_7]; · iexact Hr_0_7
    iexact Hz
  iintro ⟨Hw, Hz, Hv_0_7⟩
  ihave Hsrc_0_0 := (src_back_low m c 0) $$ [Hsrc_0_0 Hq_0_1 Hq_0_2 Hq_0_3 Hq_0_4 Hq_0_5 Hq_0_6 Hq_0_7]
  · isplitl [Hsrc_0_0]; · iexact Hsrc_0_0
    isplitl [Hq_0_1]; · iexact Hq_0_1
    isplitl [Hq_0_2]; · iexact Hq_0_2
    isplitl [Hq_0_3]; · iexact Hq_0_3
    isplitl [Hq_0_4]; · iexact Hq_0_4
    isplitl [Hq_0_5]; · iexact Hq_0_5
    isplitl [Hq_0_6]; · iexact Hq_0_6
    iexact Hq_0_7
  ihave Hlow_0 := (join_low m c 0) $$ [Hsrc_0_0 Hv_0_1 Hv_0_2 Hv_0_3 Hv_0_4 Hv_0_5 Hv_0_6 Hv_0_7]
  · isplitl [Hsrc_0_0]; · iexact Hsrc_0_0
    isplitl [Hv_0_1]; · iexact Hv_0_1
    isplitl [Hv_0_2]; · iexact Hv_0_2
    isplitl [Hv_0_3]; · iexact Hv_0_3
    isplitl [Hv_0_4]; · iexact Hv_0_4
    isplitl [Hv_0_5]; · iexact Hv_0_5
    isplitl [Hv_0_6]; · iexact Hv_0_6
    iexact Hv_0_7
  iapply (wp_low0 m c) $$ [Hlow_0]
  · iexact Hlow_0
  iintro Hlow_0
  iapply (wp_slot_load c 0 8) $$ [Hslot_0_8]
  · iexact Hslot_0_8
  iintro %vs Hslot_0_8
  iapply (wp_gsum_store m c 0 _ (if_pos rfl).symm) $$ [Hslot_0_8]
  · iexact Hslot_0_8
  iintro Hsrc_0_8
  rw [wp_ret]; imodintro
  iapply HQ
  isplitl [Hw]; · iexact Hw
  isplitl [Hz]; · iexact Hz
  isplitl [Hlow_0]; · iexact Hlow_0
  iexact Hsrc_0_8

/-- Part 16 of the kernel. -/
theorem part16 (h0 : xM.IsWhole) (h1 : tM.IsWhole) (h2 : wsM.IsWhole) (h3 : whM.IsWhole) (h4 : resM.IsWhole) (h5 : obufM.IsWhole) (h6 : commM.IsWhole) (v52 : BitVec 32) (v56 : BitVec 32) (v60 : BitVec 32) (c1_i32_484 : BitVec 32) {Q : (PUnit) → sProp (MT nD τ sig ℕ (Elt F) ℕ UU ℕ)} (l : List (SemLoc sig)) :
    iprop(records m K ∗ levAts (L 4) lv ∗ srcP m c 0 8 0 ∗ ow (F := F) c 14 ∗ tokT (F := F) c 0 9 ∗ slotE (F := F) (peer c 9) 0 9 ∗ tokT (F := F) c 0 10 ∗ slotE (F := F) (peer c 10) 0 10)
      ⊢ iprop((sT (F := F) c 0 9 ∗ srcP m c 0 8 2 ∗ ow (F := F) c 16 ∗ sT (F := F) c 0 10 -∗ Q ⟨⟩)
        -∗ wp frame (wpE (defs₀ (F := F)) 𝒱₀ (c : Thread nD τ) none) Set.univ (k0_part16 xM h0 tM h1 wsM h2 whM h3 resM h4 obufM h5 commM h6 cc0_scratch2 cc0_scratch3 cc0_scratch4 c v52 v56 v60 c1_i32_484) Q) := by
  simp only [k0_part16_eq_skeleton]
  unfold k0_part16_skel
  simp only [semSignalWord, semWaitWord, Prog.lift, Prog.bind_op, Prog.bind_ret, Prog.pure_eq_ret, Prog.bind_assoc, one_toInt, ten_toInt]
  iintro ⟨#HR, #Hlev, Hsrc_0_8, Hw, Htok_0_9, Hdst_0_9, Htok_0_10, Hdst_0_10⟩ HQ
  iapply (wp_xfer m K c 14 0 0 9 8 rfl rfl (by decide) (dev25_eq c) rfl) $$ [Hsrc_0_8 Hw Htok_0_9 Hdst_0_9]
  · isplitr; · iexact HR
    isplitl [Hsrc_0_8]; · iexact Hsrc_0_8
    isplitl [Hw]; · iexact Hw
    isplitl [Htok_0_9]; · iexact Htok_0_9
    iexact Hdst_0_9
  iintro ⟨Hsrc_0_8, Hw, Hs_0_9⟩
  iapply (wp_xfer m K c 15 1 0 10 8 rfl rfl (by decide) (dev26_eq c) rfl) $$ [Hsrc_0_8 Hw Htok_0_10 Hdst_0_10]
  · isplitr; · iexact HR
    isplitl [Hsrc_0_8]; · iexact Hsrc_0_8
    isplitl [Hw]; · iexact Hw
    isplitl [Htok_0_10]; · iexact Htok_0_10
    iexact Hdst_0_10
  iintro ⟨Hsrc_0_8, Hw, Hs_0_10⟩
  rw [wp_ret]; imodintro
  iapply HQ
  isplitl [Hs_0_9]; · iexact Hs_0_9
  isplitl [Hsrc_0_8]; · iexact Hsrc_0_8
  isplitl [Hw]; · iexact Hw
  iexact Hs_0_10

end Cert.LnProof

end
-- ==== Proof.PartsD.lean ====
/-
# The kernel's parts: the waits of the first exchange of the second half

Each part of the kernel at a symbolic device: what it needs and what it leaves.
-/
module

public import proofs.«01_k».proof.Proof.Memory

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

variable (m : (ℓ : Loc nD τ sig) → Buf (Elt F) ℓ) (K : Dev nD × Fin 51 → ℕ) (c : Dev nD)

/-- Part 17 of the kernel. -/
theorem part17 (h0 : xM.IsWhole) (h1 : tM.IsWhole) (h2 : wsM.IsWhole) (h3 : whM.IsWhole) (h4 : resM.IsWhole) (h5 : obufM.IsWhole) (h6 : commM.IsWhole) (v24 : BitVec 32) {Q : (PUnit) → sProp (MT nD τ sig ℕ (Elt F) ℕ UU ℕ)} (l : List (SemLoc sig)) :
    iprop(records m K ∗ levAts (L 4) lv ∗ srcP m c 0 8 2 ∗ ow (F := F) c 16 ∗ tokT (F := F) c 0 11 ∗ slotE (F := F) (peer c 11) 0 11 ∗ zs (F := F) c l ∗ sT (F := F) c 1 1 ∗ rT (F := F) c 1 1)
      ⊢ iprop((srcP m c 0 8 3 ∗ sT (F := F) c 0 11 ∗ sendPay m c 1 1 ∗ ow (F := F) c 17 ∗ zs (F := F) c (.dma (recvS 1 1) :: (.dma (sendS 1 1) :: l)) ∗ recvPay m c 1 1 -∗ Q ⟨⟩)
        -∗ wp frame (wpE (defs₀ (F := F)) 𝒱₀ (c : Thread nD τ) none) Set.univ (k0_part17 xM h0 tM h1 wsM h2 whM h3 resM h4 obufM h5 commM h6 cc0_scratch2 cc0_scratch3 cc0_scratch4 c v24) Q) := by
  simp only [k0_part17_eq_skeleton]
  unfold k0_part17_skel
  simp only [semSignalWord, semWaitWord, Prog.lift, Prog.bind_op, Prog.bind_ret, Prog.pure_eq_ret, Prog.bind_assoc, one_toInt, ten_toInt]
  iintro ⟨#HR, #Hlev, Hsrc_0_8, Hw, Htok_0_11, Hdst_0_11, Hz, Hs_1_1, Hr_1_1⟩ HQ
  iapply (wp_xfer m K c 16 2 0 11 8 rfl rfl (by decide) (dev27_eq c) rfl) $$ [Hsrc_0_8 Hw Htok_0_11 Hdst_0_11]
  · isplitr; · iexact HR
    isplitl [Hsrc_0_8]; · iexact Hsrc_0_8
    isplitl [Hw]; · iexact Hw
    isplitl [Htok_0_11]; · iexact Htok_0_11
    iexact Hdst_0_11
  iintro ⟨Hsrc_0_8, Hw, Hs_0_11⟩
  iapply (wp_swait m K c 17 1 1 0 (by decide) l) $$ [Hw Hs_1_1 Hz]
  · isplitr; · iexact HR
    isplitr; · iexact Hlev
    isplitl [Hw]; · iexact Hw
    isplitl [Hs_1_1]; · iexact Hs_1_1
    iexact Hz
  iintro ⟨Hw, Hz, Hq_1_1⟩
  iapply (wp_rwait m K c 17 1 1 0 (by decide) (by decide) (.dma (sendS 1 1) :: l)) $$ [Hw Hr_1_1 Hz]
  · isplitr; · iexact HR
    isplitr; · iexact Hlev
    isplitl [Hw]; · iexact Hw
    isplitl [Hr_1_1]; · iexact Hr_1_1
    iexact Hz
  iintro ⟨Hw, Hz, Hv_1_1⟩
  rw [wp_ret]; imodintro
  iapply HQ
  isplitl [Hsrc_0_8]; · iexact Hsrc_0_8
  isplitl [Hs_0_11]; · iexact Hs_0_11
  isplitl [Hq_1_1]; · iexact Hq_1_1
  isplitl [Hw]; · iexact Hw
  isplitl [Hz]; · iexact Hz
  iexact Hv_1_1

/-- Part 18 of the kernel. -/
theorem part18 (h0 : xM.IsWhole) (h1 : tM.IsWhole) (h2 : wsM.IsWhole) (h3 : whM.IsWhole) (h4 : resM.IsWhole) (h5 : obufM.IsWhole) (h6 : commM.IsWhole) (v28 : BitVec 32) {Q : (PUnit) → sProp (MT nD τ sig ℕ (Elt F) ℕ UU ℕ)} (l : List (SemLoc sig)) :
    iprop(records m K ∗ levAts (L 4) lv ∗ zs (F := F) c l ∗ ow (F := F) c 17 ∗ sT (F := F) c 1 2 ∗ rT (F := F) c 1 2 ∗ sT (F := F) c 1 3)
      ⊢ iprop((sendPay m c 1 2 ∗ recvPay m c 1 2 ∗ ow (F := F) c 17 ∗ zs (F := F) c (.dma (sendS 1 3) :: (.dma (recvS 1 2) :: (.dma (sendS 1 2) :: l))) ∗ sendPay m c 1 3 -∗ Q ⟨⟩)
        -∗ wp frame (wpE (defs₀ (F := F)) 𝒱₀ (c : Thread nD τ) none) Set.univ (k0_part18 xM h0 tM h1 wsM h2 whM h3 resM h4 obufM h5 commM h6 cc0_scratch2 cc0_scratch3 cc0_scratch4 v28) Q) := by
  simp only [k0_part18_eq_skeleton]
  unfold k0_part18_skel
  simp only [semSignalWord, semWaitWord, Prog.lift, Prog.bind_op, Prog.bind_ret, Prog.pure_eq_ret, Prog.bind_assoc, one_toInt, ten_toInt]
  iintro ⟨#HR, #Hlev, Hz, Hw, Hs_1_2, Hr_1_2, Hs_1_3⟩ HQ
  iapply (wp_swait m K c 17 1 2 0 (by decide) l) $$ [Hw Hs_1_2 Hz]
  · isplitr; · iexact HR
    isplitr; · iexact Hlev
    isplitl [Hw]; · iexact Hw
    isplitl [Hs_1_2]; · iexact Hs_1_2
    iexact Hz
  iintro ⟨Hw, Hz, Hq_1_2⟩
  iapply (wp_rwait m K c 17 1 2 0 (by decide) (by decide) (.dma (sendS 1 2) :: l)) $$ [Hw Hr_1_2 Hz]
  · isplitr; · iexact HR
    isplitr; · iexact Hlev
    isplitl [Hw]; · iexact Hw
    isplitl [Hr_1_2]; · iexact Hr_1_2
    iexact Hz
  iintro ⟨Hw, Hz, Hv_1_2⟩
  iapply (wp_swait m K c 17 1 3 0 (by decide) (.dma (recvS 1 2) :: (.dma (sendS 1 2) :: l))) $$ [Hw Hs_1_3 Hz]
  · isplitr; · iexact HR
    isplitr; · iexact Hlev
    isplitl [Hw]; · iexact Hw
    isplitl [Hs_1_3]; · iexact Hs_1_3
    iexact Hz
  iintro ⟨Hw, Hz, Hq_1_3⟩
  rw [wp_ret]; imodintro
  iapply HQ
  isplitl [Hq_1_2]; · iexact Hq_1_2
  isplitl [Hv_1_2]; · iexact Hv_1_2
  isplitl [Hw]; · iexact Hw
  isplitl [Hz]; · iexact Hz
  iexact Hq_1_3

/-- Part 19 of the kernel. -/
theorem part19 (h0 : xM.IsWhole) (h1 : tM.IsWhole) (h2 : wsM.IsWhole) (h3 : whM.IsWhole) (h4 : resM.IsWhole) (h5 : obufM.IsWhole) (h6 : commM.IsWhole) (v32 : BitVec 32) (v36 : BitVec 32) {Q : (PUnit) → sProp (MT nD τ sig ℕ (Elt F) ℕ UU ℕ)} (l : List (SemLoc sig)) :
    iprop(records m K ∗ levAts (L 4) lv ∗ zs (F := F) c l ∗ ow (F := F) c 17 ∗ rT (F := F) c 1 3 ∗ sT (F := F) c 1 4 ∗ rT (F := F) c 1 4)
      ⊢ iprop((recvPay m c 1 3 ∗ sendPay m c 1 4 ∗ ow (F := F) c 17 ∗ zs (F := F) c (.dma (recvS 1 4) :: (.dma (sendS 1 4) :: (.dma (recvS 1 3) :: l))) ∗ recvPay m c 1 4 -∗ Q ⟨⟩)
        -∗ wp frame (wpE (defs₀ (F := F)) 𝒱₀ (c : Thread nD τ) none) Set.univ (k0_part19 xM h0 tM h1 wsM h2 whM h3 resM h4 obufM h5 commM h6 cc0_scratch2 cc0_scratch3 cc0_scratch4 v32 v36) Q) := by
  simp only [k0_part19_eq_skeleton]
  unfold k0_part19_skel
  simp only [semSignalWord, semWaitWord, Prog.lift, Prog.bind_op, Prog.bind_ret, Prog.pure_eq_ret, Prog.bind_assoc, one_toInt, ten_toInt]
  iintro ⟨#HR, #Hlev, Hz, Hw, Hr_1_3, Hs_1_4, Hr_1_4⟩ HQ
  iapply (wp_rwait m K c 17 1 3 0 (by decide) (by decide) l) $$ [Hw Hr_1_3 Hz]
  · isplitr; · iexact HR
    isplitr; · iexact Hlev
    isplitl [Hw]; · iexact Hw
    isplitl [Hr_1_3]; · iexact Hr_1_3
    iexact Hz
  iintro ⟨Hw, Hz, Hv_1_3⟩
  iapply (wp_swait m K c 17 1 4 0 (by decide) (.dma (recvS 1 3) :: l)) $$ [Hw Hs_1_4 Hz]
  · isplitr; · iexact HR
    isplitr; · iexact Hlev
    isplitl [Hw]; · iexact Hw
    isplitl [Hs_1_4]; · iexact Hs_1_4
    iexact Hz
  iintro ⟨Hw, Hz, Hq_1_4⟩
  iapply (wp_rwait m K c 17 1 4 0 (by decide) (by decide) (.dma (sendS 1 4) :: (.dma (recvS 1 3) :: l))) $$ [Hw Hr_1_4 Hz]
  · isplitr; · iexact HR
    isplitr; · iexact Hlev
    isplitl [Hw]; · iexact Hw
    isplitl [Hr_1_4]; · iexact Hr_1_4
    iexact Hz
  iintro ⟨Hw, Hz, Hv_1_4⟩
  rw [wp_ret]; imodintro
  iapply HQ
  isplitl [Hv_1_3]; · iexact Hv_1_3
  isplitl [Hq_1_4]; · iexact Hq_1_4
  isplitl [Hw]; · iexact Hw
  isplitl [Hz]; · iexact Hz
  iexact Hv_1_4

/-- Part 20 of the kernel. -/
theorem part20 (h0 : xM.IsWhole) (h1 : tM.IsWhole) (h2 : wsM.IsWhole) (h3 : whM.IsWhole) (h4 : resM.IsWhole) (h5 : obufM.IsWhole) (h6 : commM.IsWhole) (v40 : BitVec 32) {Q : (PUnit) → sProp (MT nD τ sig ℕ (Elt F) ℕ UU ℕ)} (l : List (SemLoc sig)) :
    iprop(records m K ∗ levAts (L 4) lv ∗ zs (F := F) c l ∗ ow (F := F) c 17 ∗ sT (F := F) c 1 5 ∗ rT (F := F) c 1 5)
      ⊢ iprop((sendPay m c 1 5 ∗ ow (F := F) c 17 ∗ zs (F := F) c (.dma (recvS 1 5) :: (.dma (sendS 1 5) :: l)) ∗ recvPay m c 1 5 -∗ Q ⟨⟩)
        -∗ wp frame (wpE (defs₀ (F := F)) 𝒱₀ (c : Thread nD τ) none) Set.univ (k0_part20 xM h0 tM h1 wsM h2 whM h3 resM h4 obufM h5 commM h6 cc0_scratch2 cc0_scratch3 cc0_scratch4 v40) Q) := by
  simp only [k0_part20_eq_skeleton]
  unfold k0_part20_skel
  simp only [semSignalWord, semWaitWord, Prog.lift, Prog.bind_op, Prog.bind_ret, Prog.pure_eq_ret, Prog.bind_assoc, one_toInt, ten_toInt]
  iintro ⟨#HR, #Hlev, Hz, Hw, Hs_1_5, Hr_1_5⟩ HQ
  iapply (wp_swait m K c 17 1 5 0 (by decide) l) $$ [Hw Hs_1_5 Hz]
  · isplitr; · iexact HR
    isplitr; · iexact Hlev
    isplitl [Hw]; · iexact Hw
    isplitl [Hs_1_5]; · iexact Hs_1_5
    iexact Hz
  iintro ⟨Hw, Hz, Hq_1_5⟩
  iapply (wp_rwait m K c 17 1 5 0 (by decide) (by decide) (.dma (sendS 1 5) :: l)) $$ [Hw Hr_1_5 Hz]
  · isplitr; · iexact HR
    isplitr; · iexact Hlev
    isplitl [Hw]; · iexact Hw
    isplitl [Hr_1_5]; · iexact Hr_1_5
    iexact Hz
  iintro ⟨Hw, Hz, Hv_1_5⟩
  rw [wp_ret]; imodintro
  iapply HQ
  isplitl [Hq_1_5]; · iexact Hq_1_5
  isplitl [Hw]; · iexact Hw
  isplitl [Hz]; · iexact Hz
  iexact Hv_1_5

/-- Part 21 of the kernel. -/
theorem part21 (h0 : xM.IsWhole) (h1 : tM.IsWhole) (h2 : wsM.IsWhole) (h3 : whM.IsWhole) (h4 : resM.IsWhole) (h5 : obufM.IsWhole) (h6 : commM.IsWhole) (v44 : BitVec 32) (v48 : BitVec 32) {Q : (PUnit) → sProp (MT nD τ sig ℕ (Elt F) ℕ UU ℕ)} (l : List (SemLoc sig)) :
    iprop(records m K ∗ levAts (L 4) lv ∗ zs (F := F) c l ∗ ow (F := F) c 17 ∗ sT (F := F) c 1 6 ∗ rT (F := F) c 1 6 ∗ sT (F := F) c 1 7)
      ⊢ iprop((sendPay m c 1 6 ∗ recvPay m c 1 6 ∗ ow (F := F) c 17 ∗ zs (F := F) c (.dma (sendS 1 7) :: (.dma (recvS 1 6) :: (.dma (sendS 1 6) :: l))) ∗ sendPay m c 1 7 -∗ Q ⟨⟩)
        -∗ wp frame (wpE (defs₀ (F := F)) 𝒱₀ (c : Thread nD τ) none) Set.univ (k0_part21 xM h0 tM h1 wsM h2 whM h3 resM h4 obufM h5 commM h6 cc0_scratch2 cc0_scratch3 cc0_scratch4 v44 v48) Q) := by
  simp only [k0_part21_eq_skeleton]
  unfold k0_part21_skel
  simp only [semSignalWord, semWaitWord, Prog.lift, Prog.bind_op, Prog.bind_ret, Prog.pure_eq_ret, Prog.bind_assoc, one_toInt, ten_toInt]
  iintro ⟨#HR, #Hlev, Hz, Hw, Hs_1_6, Hr_1_6, Hs_1_7⟩ HQ
  iapply (wp_swait m K c 17 1 6 0 (by decide) l) $$ [Hw Hs_1_6 Hz]
  · isplitr; · iexact HR
    isplitr; · iexact Hlev
    isplitl [Hw]; · iexact Hw
    isplitl [Hs_1_6]; · iexact Hs_1_6
    iexact Hz
  iintro ⟨Hw, Hz, Hq_1_6⟩
  iapply (wp_rwait m K c 17 1 6 0 (by decide) (by decide) (.dma (sendS 1 6) :: l)) $$ [Hw Hr_1_6 Hz]
  · isplitr; · iexact HR
    isplitr; · iexact Hlev
    isplitl [Hw]; · iexact Hw
    isplitl [Hr_1_6]; · iexact Hr_1_6
    iexact Hz
  iintro ⟨Hw, Hz, Hv_1_6⟩
  iapply (wp_swait m K c 17 1 7 0 (by decide) (.dma (recvS 1 6) :: (.dma (sendS 1 6) :: l))) $$ [Hw Hs_1_7 Hz]
  · isplitr; · iexact HR
    isplitr; · iexact Hlev
    isplitl [Hw]; · iexact Hw
    isplitl [Hs_1_7]; · iexact Hs_1_7
    iexact Hz
  iintro ⟨Hw, Hz, Hq_1_7⟩
  rw [wp_ret]; imodintro
  iapply HQ
  isplitl [Hq_1_6]; · iexact Hq_1_6
  isplitl [Hv_1_6]; · iexact Hv_1_6
  isplitl [Hw]; · iexact Hw
  isplitl [Hz]; · iexact Hz
  iexact Hq_1_7

end Cert.LnProof

end
-- ==== Proof.PartsE.lean ====
/-
# The kernel's parts: the second exchange and the first half of the output

Each part of the kernel at a symbolic device: what it needs and what it leaves.
-/
module

public import proofs.«01_k».proof.Proof.Memory

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

variable (m : (ℓ : Loc nD τ sig) → Buf (Elt F) ℓ) (K : Dev nD × Fin 51 → ℕ) (c : Dev nD)

/-- Part 22 of the kernel. -/
theorem part22 (h0 : xM.IsWhole) (h1 : tM.IsWhole) (h2 : wsM.IsWhole) (h3 : whM.IsWhole) (h4 : resM.IsWhole) (h5 : obufM.IsWhole) (h6 : commM.IsWhole) (v52 : BitVec 32) (v56 : BitVec 32) {Q : (PUnit) → sProp (MT nD τ sig ℕ (Elt F) ℕ UU ℕ)} (l : List (SemLoc sig)) :
    iprop(records m K ∗ levAts (L 4) lv ∗ zs (F := F) c l ∗ ow (F := F) c 17 ∗ rT (F := F) c 1 7 ∗ srcP m c 1 0 7 ∗ sendPay m c 1 1 ∗ sendPay m c 1 2 ∗ sendPay m c 1 3 ∗ sendPay m c 1 4 ∗ sendPay m c 1 5 ∗ sendPay m c 1 6 ∗ sendPay m c 1 7 ∗ recvPay m c 1 1 ∗ recvPay m c 1 2 ∗ recvPay m c 1 3 ∗ recvPay m c 1 4 ∗ recvPay m c 1 5 ∗ recvPay m c 1 6 ∗ slotE (F := F) c 1 8 ∗ tokT (F := F) c 1 9 ∗ slotE (F := F) (peer c 9) 1 9)
      ⊢ iprop((zs (F := F) c (.dma (recvS 1 7) :: l) ∗ lowP m c 1 ∗ srcP m c 1 8 1 ∗ ow (F := F) c 18 ∗ sT (F := F) c 1 9 -∗ Q ⟨⟩)
        -∗ wp frame (wpE (defs₀ (F := F)) 𝒱₀ (c : Thread nD τ) none) Set.univ (k0_part22 xM h0 tM h1 wsM h2 whM h3 resM h4 obufM h5 commM h6 cc0_scratch2 cc0_scratch3 cc0_scratch4 c v52 v56) Q) := by
  simp only [k0_part22_eq_skeleton]
  unfold k0_part22_skel
  simp only [semSignalWord, semWaitWord, Prog.lift, Prog.bind_op, Prog.bind_ret, Prog.pure_eq_ret, Prog.bind_assoc, one_toInt, ten_toInt]
  iintro ⟨#HR, #Hlev, Hz, Hw, Hr_1_7, Hsrc_1_0, Hq_1_1, Hq_1_2, Hq_1_3, Hq_1_4, Hq_1_5, Hq_1_6, Hq_1_7, Hv_1_1, Hv_1_2, Hv_1_3, Hv_1_4, Hv_1_5, Hv_1_6, Hslot_1_8, Htok_1_9, Hdst_1_9⟩ HQ
  iapply (wp_rwait m K c 17 1 7 0 (by decide) (by decide) l) $$ [Hw Hr_1_7 Hz]
  · isplitr; · iexact HR
    isplitr; · iexact Hlev
    isplitl [Hw]; · iexact Hw
    isplitl [Hr_1_7]; · iexact Hr_1_7
    iexact Hz
  iintro ⟨Hw, Hz, Hv_1_7⟩
  ihave Hsrc_1_0 := (src_back_low m c 1) $$ [Hsrc_1_0 Hq_1_1 Hq_1_2 Hq_1_3 Hq_1_4 Hq_1_5 Hq_1_6 Hq_1_7]
  · isplitl [Hsrc_1_0]; · iexact Hsrc_1_0
    isplitl [Hq_1_1]; · iexact Hq_1_1
    isplitl [Hq_1_2]; · iexact Hq_1_2
    isplitl [Hq_1_3]; · iexact Hq_1_3
    isplitl [Hq_1_4]; · iexact Hq_1_4
    isplitl [Hq_1_5]; · iexact Hq_1_5
    isplitl [Hq_1_6]; · iexact Hq_1_6
    iexact Hq_1_7
  ihave Hlow_1 := (join_low m c 1) $$ [Hsrc_1_0 Hv_1_1 Hv_1_2 Hv_1_3 Hv_1_4 Hv_1_5 Hv_1_6 Hv_1_7]
  · isplitl [Hsrc_1_0]; · iexact Hsrc_1_0
    isplitl [Hv_1_1]; · iexact Hv_1_1
    isplitl [Hv_1_2]; · iexact Hv_1_2
    isplitl [Hv_1_3]; · iexact Hv_1_3
    isplitl [Hv_1_4]; · iexact Hv_1_4
    isplitl [Hv_1_5]; · iexact Hv_1_5
    isplitl [Hv_1_6]; · iexact Hv_1_6
    iexact Hv_1_7
  iapply (wp_low1 m c) $$ [Hlow_1]
  · iexact Hlow_1
  iintro Hlow_1
  iapply (wp_slot_load c 1 8) $$ [Hslot_1_8]
  · iexact Hslot_1_8
  iintro %vs Hslot_1_8
  iapply (wp_gsum_store m c 1 _ (if_neg (by decide)).symm) $$ [Hslot_1_8]
  · iexact Hslot_1_8
  iintro Hsrc_1_8
  iapply (wp_xfer m K c 17 0 1 9 8 rfl rfl (by decide) (dev28_eq c) rfl) $$ [Hsrc_1_8 Hw Htok_1_9 Hdst_1_9]
  · isplitr; · iexact HR
    isplitl [Hsrc_1_8]; · iexact Hsrc_1_8
    isplitl [Hw]; · iexact Hw
    isplitl [Htok_1_9]; · iexact Htok_1_9
    iexact Hdst_1_9
  iintro ⟨Hsrc_1_8, Hw, Hs_1_9⟩
  rw [wp_ret]; imodintro
  iapply HQ
  isplitl [Hz]; · iexact Hz
  isplitl [Hlow_1]; · iexact Hlow_1
  isplitl [Hsrc_1_8]; · iexact Hsrc_1_8
  isplitl [Hw]; · iexact Hw
  iexact Hs_1_9

/-- Part 23 of the kernel. -/
theorem part23 (h0 : xM.IsWhole) (h1 : tM.IsWhole) (h2 : wsM.IsWhole) (h3 : whM.IsWhole) (h4 : resM.IsWhole) (h5 : obufM.IsWhole) (h6 : commM.IsWhole) (v60 : BitVec 32) {Q : (PUnit) → sProp (MT nD τ sig ℕ (Elt F) ℕ UU ℕ)} (l : List (SemLoc sig)) :
    iprop(records m K ∗ levAts (L 4) lv ∗ srcP m c 1 8 1 ∗ ow (F := F) c 18 ∗ tokT (F := F) c 1 10 ∗ slotE (F := F) (peer c 10) 1 10 ∗ tokT (F := F) c 1 11 ∗ slotE (F := F) (peer c 11) 1 11 ∗ zs (F := F) c l ∗ sT (F := F) c 0 9)
      ⊢ iprop((sT (F := F) c 1 10 ∗ srcP m c 1 8 3 ∗ sT (F := F) c 1 11 ∗ ow (F := F) c 20 ∗ zs (F := F) c (.dma (sendS 0 9) :: l) ∗ sendPay m c 0 9 -∗ Q ⟨⟩)
        -∗ wp frame (wpE (defs₀ (F := F)) 𝒱₀ (c : Thread nD τ) none) Set.univ (k0_part23 xM h0 tM h1 wsM h2 whM h3 resM h4 obufM h5 commM h6 cc0_scratch2 cc0_scratch3 cc0_scratch4 c v60) Q) := by
  simp only [k0_part23_eq_skeleton]
  unfold k0_part23_skel
  simp only [semSignalWord, semWaitWord, Prog.lift, Prog.bind_op, Prog.bind_ret, Prog.pure_eq_ret, Prog.bind_assoc, one_toInt, ten_toInt]
  iintro ⟨#HR, #Hlev, Hsrc_1_8, Hw, Htok_1_10, Hdst_1_10, Htok_1_11, Hdst_1_11, Hz, Hs_0_9⟩ HQ
  iapply (wp_xfer m K c 18 1 1 10 8 rfl rfl (by decide) (dev29_eq c) rfl) $$ [Hsrc_1_8 Hw Htok_1_10 Hdst_1_10]
  · isplitr; · iexact HR
    isplitl [Hsrc_1_8]; · iexact Hsrc_1_8
    isplitl [Hw]; · iexact Hw
    isplitl [Htok_1_10]; · iexact Htok_1_10
    iexact Hdst_1_10
  iintro ⟨Hsrc_1_8, Hw, Hs_1_10⟩
  iapply (wp_xfer m K c 19 2 1 11 8 rfl rfl (by decide) (dev30_eq c) rfl) $$ [Hsrc_1_8 Hw Htok_1_11 Hdst_1_11]
  · isplitr; · iexact HR
    isplitl [Hsrc_1_8]; · iexact Hsrc_1_8
    isplitl [Hw]; · iexact Hw
    isplitl [Htok_1_11]; · iexact Htok_1_11
    iexact Hdst_1_11
  iintro ⟨Hsrc_1_8, Hw, Hs_1_11⟩
  iapply (wp_swait m K c 20 0 9 8 (by decide) l) $$ [Hw Hs_0_9 Hz]
  · isplitr; · iexact HR
    isplitr; · iexact Hlev
    isplitl [Hw]; · iexact Hw
    isplitl [Hs_0_9]; · iexact Hs_0_9
    iexact Hz
  iintro ⟨Hw, Hz, Hq_0_9⟩
  rw [wp_ret]; imodintro
  iapply HQ
  isplitl [Hs_1_10]; · iexact Hs_1_10
  isplitl [Hsrc_1_8]; · iexact Hsrc_1_8
  isplitl [Hs_1_11]; · iexact Hs_1_11
  isplitl [Hw]; · iexact Hw
  isplitl [Hz]; · iexact Hz
  iexact Hq_0_9

/-- Part 24 of the kernel. -/
theorem part24 (h0 : xM.IsWhole) (h1 : tM.IsWhole) (h2 : wsM.IsWhole) (h3 : whM.IsWhole) (h4 : resM.IsWhole) (h5 : obufM.IsWhole) (h6 : commM.IsWhole) (v52 : BitVec 32) (v56 : BitVec 32) {Q : (PUnit) → sProp (MT nD τ sig ℕ (Elt F) ℕ UU ℕ)} (l : List (SemLoc sig)) :
    iprop(records m K ∗ levAts (L 4) lv ∗ zs (F := F) c l ∗ ow (F := F) c 20 ∗ rT (F := F) c 0 9 ∗ sT (F := F) c 0 10)
      ⊢ iprop((recvPay m c 0 9 ∗ ow (F := F) c 20 ∗ zs (F := F) c (.dma (sendS 0 10) :: (.dma (recvS 0 9) :: l)) ∗ sendPay m c 0 10 -∗ Q ⟨⟩)
        -∗ wp frame (wpE (defs₀ (F := F)) 𝒱₀ (c : Thread nD τ) none) Set.univ (k0_part24 xM h0 tM h1 wsM h2 whM h3 resM h4 obufM h5 commM h6 cc0_scratch2 cc0_scratch3 cc0_scratch4 v52 v56) Q) := by
  simp only [k0_part24_eq_skeleton]
  unfold k0_part24_skel
  simp only [semSignalWord, semWaitWord, Prog.lift, Prog.bind_op, Prog.bind_ret, Prog.pure_eq_ret, Prog.bind_assoc, one_toInt, ten_toInt]
  iintro ⟨#HR, #Hlev, Hz, Hw, Hr_0_9, Hs_0_10⟩ HQ
  iapply (wp_rwait m K c 20 0 9 8 (by decide) (by decide) l) $$ [Hw Hr_0_9 Hz]
  · isplitr; · iexact HR
    isplitr; · iexact Hlev
    isplitl [Hw]; · iexact Hw
    isplitl [Hr_0_9]; · iexact Hr_0_9
    iexact Hz
  iintro ⟨Hw, Hz, Hv_0_9⟩
  iapply (wp_swait m K c 20 0 10 8 (by decide) (.dma (recvS 0 9) :: l)) $$ [Hw Hs_0_10 Hz]
  · isplitr; · iexact HR
    isplitr; · iexact Hlev
    isplitl [Hw]; · iexact Hw
    isplitl [Hs_0_10]; · iexact Hs_0_10
    iexact Hz
  iintro ⟨Hw, Hz, Hq_0_10⟩
  rw [wp_ret]; imodintro
  iapply HQ
  isplitl [Hv_0_9]; · iexact Hv_0_9
  isplitl [Hw]; · iexact Hw
  isplitl [Hz]; · iexact Hz
  iexact Hq_0_10

/-- Part 25 of the kernel. -/
theorem part25 (h0 : xM.IsWhole) (h1 : tM.IsWhole) (h2 : wsM.IsWhole) (h3 : whM.IsWhole) (h4 : resM.IsWhole) (h5 : obufM.IsWhole) (h6 : commM.IsWhole) (v60 : BitVec 32) {Q : (Σ' (v565 : FVec F S2x1024 .f32), FVec F S2x1024 .f32) → sProp (MT nD τ sig ℕ (Elt F) ℕ UU ℕ)} (l : List (SemLoc sig)) :
    iprop(records m K ∗ levAts (L 4) lv ∗ zs (F := F) c l ∗ ow (F := F) c 20 ∗ rT (F := F) c 0 10 ∗ sT (F := F) c 0 11 ∗ rT (F := F) c 0 11 ∗ srcP m c 0 8 3 ∗ sendPay m c 0 9 ∗ sendPay m c 0 10 ∗ recvPay m c 0 9)
      ⊢ iprop((ow (F := F) c 20 ∗ zs (F := F) c (.dma (recvS 0 11) :: (.dma (sendS 0 11) :: (.dma (recvS 0 10) :: l))) ∗ highP m c 0 -∗ Q ⟨k0_pay9 (g2ld m c 0), k0_pay10 (g2ld m c 0)⟩)
        -∗ wp frame (wpE (defs₀ (F := F)) 𝒱₀ (c : Thread nD τ) none) Set.univ (k0_part25 xM h0 tM h1 wsM h2 whM h3 resM h4 obufM h5 commM h6 cc0_scratch2 cc0_scratch3 cc0_scratch4 v60) Q) := by
  simp only [k0_part25_eq_skeleton]
  unfold k0_part25_skel
  simp only [semSignalWord, semWaitWord, Prog.lift, Prog.bind_op, Prog.bind_ret, Prog.pure_eq_ret, Prog.bind_assoc, one_toInt, ten_toInt]
  iintro ⟨#HR, #Hlev, Hz, Hw, Hr_0_10, Hs_0_11, Hr_0_11, Hsrc_0_8, Hq_0_9, Hq_0_10, Hv_0_9⟩ HQ
  iapply (wp_rwait m K c 20 0 10 8 (by decide) (by decide) l) $$ [Hw Hr_0_10 Hz]
  · isplitr; · iexact HR
    isplitr; · iexact Hlev
    isplitl [Hw]; · iexact Hw
    isplitl [Hr_0_10]; · iexact Hr_0_10
    iexact Hz
  iintro ⟨Hw, Hz, Hv_0_10⟩
  iapply (wp_swait m K c 20 0 11 8 (by decide) (.dma (recvS 0 10) :: l)) $$ [Hw Hs_0_11 Hz]
  · isplitr; · iexact HR
    isplitr; · iexact Hlev
    isplitl [Hw]; · iexact Hw
    isplitl [Hs_0_11]; · iexact Hs_0_11
    iexact Hz
  iintro ⟨Hw, Hz, Hq_0_11⟩
  iapply (wp_rwait m K c 20 0 11 8 (by decide) (by decide) (.dma (sendS 0 11) :: (.dma (recvS 0 10) :: l))) $$ [Hw Hr_0_11 Hz]
  · isplitr; · iexact HR
    isplitr; · iexact Hlev
    isplitl [Hw]; · iexact Hw
    isplitl [Hr_0_11]; · iexact Hr_0_11
    iexact Hz
  iintro ⟨Hw, Hz, Hv_0_11⟩
  ihave Hsrc_0_8 := (src_back_high m c 0) $$ [Hsrc_0_8 Hq_0_9 Hq_0_10 Hq_0_11]
  · isplitl [Hsrc_0_8]; · iexact Hsrc_0_8
    isplitl [Hq_0_9]; · iexact Hq_0_9
    isplitl [Hq_0_10]; · iexact Hq_0_10
    iexact Hq_0_11
  ihave Hhigh_0 := (join_high m c 0) $$ [Hsrc_0_8 Hv_0_9 Hv_0_10 Hv_0_11]
  · isplitl [Hsrc_0_8]; · iexact Hsrc_0_8
    isplitl [Hv_0_9]; · iexact Hv_0_9
    isplitl [Hv_0_10]; · iexact Hv_0_10
    iexact Hv_0_11
  iapply (wp_high0 m c) $$ [Hhigh_0]
  · iexact Hhigh_0
  iintro Hhigh_0
  rw [wp_ret]; imodintro
  iapply HQ
  isplitl [Hw]; · iexact Hw
  isplitl [Hz]; · iexact Hz
  iexact Hhigh_0

/-- Part 26 of the kernel. -/
theorem part26 (h0 : xM.IsWhole) (h1 : tM.IsWhole) (h2 : wsM.IsWhole) (h3 : whM.IsWhole) (h4 : resM.IsWhole) (h5 : obufM.IsWhole) (h6 : commM.IsWhole)  {Q : (PUnit) → sProp (MT nD τ sig ℕ (Elt F) ℕ UU ℕ)} (l : List (SemLoc sig)) :
    iprop(records m K ∗ levAts (L 4) lv ∗ xP m c ∗ halfE (F := F) c 0 ∗ rowsE (F := F) c 0 ∗ outT (F := F) c 0)
      ⊢ iprop((xP m c ∗ copT (F := F) c 0 -∗ Q ⟨⟩)
        -∗ wp frame (wpE (defs₀ (F := F)) 𝒱₀ (c : Thread nD τ) none) Set.univ (k0_part26 xM h0 tM h1 wsM h2 whM h3 resM h4 obufM h5 commM h6 cc0_scratch2 cc0_scratch3 cc0_scratch4 (k0_pay4 (tld m c) (wsld m c)) (k0_pay5 (tld m c) (whld m c)) (k0_pay9 (g2ld m c 0)) (k0_pay10 (g2ld m c 0))) Q) := by
  simp only [k0_part26_eq_skeleton]
  unfold k0_part26_skel
  simp only [semSignalWord, semWaitWord, Prog.lift, Prog.bind_op, Prog.bind_ret, Prog.pure_eq_ret, Prog.bind_assoc, one_toInt, ten_toInt]
  iintro ⟨#HR, #Hlev, Hx, Hhalf_0, Hrows_0, HoutT_0⟩ HQ
  iapply (wp_xlo m c) $$ [Hx]
  · iexact Hx
  iintro Hx
  iapply (wp_half_load c 0) $$ [Hhalf_0]
  · iexact Hhalf_0
  iintro %vd0 Hhalf_0
  iapply (wp_half_store m c 0 _ (if_pos rfl).symm) $$ [Hhalf_0]
  · iexact Hhalf_0
  iintro Hhalf_0
  unfold rowsE
  icases Hrows_0 with ⟨%fr, Hrows_0⟩
  iapply (wp_out m K c 0 fr) $$ [Hhalf_0 Hrows_0 HoutT_0]
  · isplitr; · iexact HR
    isplitl [Hhalf_0]; · iexact Hhalf_0
    isplitl [Hrows_0]; · iexact Hrows_0
    iexact HoutT_0
  iintro Hcop_0
  rw [wp_ret]; imodintro
  iapply HQ
  isplitl [Hx]; · iexact Hx
  iexact Hcop_0

end Cert.LnProof

end
-- ==== Proof.PartsF.lean ====
/-
# The kernel's parts: the last waits and the second half of the output

Each part of the kernel at a symbolic device: what it needs and what it leaves.
-/
module

public import proofs.«01_k».proof.Proof.Memory

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

variable (m : (ℓ : Loc nD τ sig) → Buf (Elt F) ℓ) (K : Dev nD × Fin 51 → ℕ) (c : Dev nD)

/-- Part 27 of the kernel. -/
theorem part27 (h0 : xM.IsWhole) (h1 : tM.IsWhole) (h2 : wsM.IsWhole) (h3 : whM.IsWhole) (h4 : resM.IsWhole) (h5 : obufM.IsWhole) (h6 : commM.IsWhole) (v52 : BitVec 32) {Q : (PUnit) → sProp (MT nD τ sig ℕ (Elt F) ℕ UU ℕ)} (l : List (SemLoc sig)) :
    iprop(records m K ∗ levAts (L 4) lv ∗ zs (F := F) c l ∗ ow (F := F) c 20 ∗ sT (F := F) c 1 9 ∗ rT (F := F) c 1 9 ∗ sT (F := F) c 1 10)
      ⊢ iprop((sendPay m c 1 9 ∗ recvPay m c 1 9 ∗ ow (F := F) c 20 ∗ zs (F := F) c (.dma (sendS 1 10) :: (.dma (recvS 1 9) :: (.dma (sendS 1 9) :: l))) ∗ sendPay m c 1 10 -∗ Q ⟨⟩)
        -∗ wp frame (wpE (defs₀ (F := F)) 𝒱₀ (c : Thread nD τ) none) Set.univ (k0_part27 xM h0 tM h1 wsM h2 whM h3 resM h4 obufM h5 commM h6 cc0_scratch2 cc0_scratch3 cc0_scratch4 v52) Q) := by
  simp only [k0_part27_eq_skeleton]
  unfold k0_part27_skel
  simp only [semSignalWord, semWaitWord, Prog.lift, Prog.bind_op, Prog.bind_ret, Prog.pure_eq_ret, Prog.bind_assoc, one_toInt, ten_toInt]
  iintro ⟨#HR, #Hlev, Hz, Hw, Hs_1_9, Hr_1_9, Hs_1_10⟩ HQ
  iapply (wp_swait m K c 20 1 9 8 (by decide) l) $$ [Hw Hs_1_9 Hz]
  · isplitr; · iexact HR
    isplitr; · iexact Hlev
    isplitl [Hw]; · iexact Hw
    isplitl [Hs_1_9]; · iexact Hs_1_9
    iexact Hz
  iintro ⟨Hw, Hz, Hq_1_9⟩
  iapply (wp_rwait m K c 20 1 9 8 (by decide) (by decide) (.dma (sendS 1 9) :: l)) $$ [Hw Hr_1_9 Hz]
  · isplitr; · iexact HR
    isplitr; · iexact Hlev
    isplitl [Hw]; · iexact Hw
    isplitl [Hr_1_9]; · iexact Hr_1_9
    iexact Hz
  iintro ⟨Hw, Hz, Hv_1_9⟩
  iapply (wp_swait m K c 20 1 10 8 (by decide) (.dma (recvS 1 9) :: (.dma (sendS 1 9) :: l))) $$ [Hw Hs_1_10 Hz]
  · isplitr; · iexact HR
    isplitr; · iexact Hlev
    isplitl [Hw]; · iexact Hw
    isplitl [Hs_1_10]; · iexact Hs_1_10
    iexact Hz
  iintro ⟨Hw, Hz, Hq_1_10⟩
  rw [wp_ret]; imodintro
  iapply HQ
  isplitl [Hq_1_9]; · iexact Hq_1_9
  isplitl [Hv_1_9]; · iexact Hv_1_9
  isplitl [Hw]; · iexact Hw
  isplitl [Hz]; · iexact Hz
  iexact Hq_1_10

/-- Part 28 of the kernel. -/
theorem part28 (h0 : xM.IsWhole) (h1 : tM.IsWhole) (h2 : wsM.IsWhole) (h3 : whM.IsWhole) (h4 : resM.IsWhole) (h5 : obufM.IsWhole) (h6 : commM.IsWhole) (v56 : BitVec 32) (v60 : BitVec 32) {Q : (PUnit) → sProp (MT nD τ sig ℕ (Elt F) ℕ UU ℕ)} (l : List (SemLoc sig)) :
    iprop(records m K ∗ levAts (L 4) lv ∗ zs (F := F) c l ∗ ow (F := F) c 20 ∗ rT (F := F) c 1 10 ∗ sT (F := F) c 1 11 ∗ rT (F := F) c 1 11)
      ⊢ iprop((recvPay m c 1 10 ∗ sendPay m c 1 11 ∗ ow (F := F) c 20 ∗ zs (F := F) c (.dma (recvS 1 11) :: (.dma (sendS 1 11) :: (.dma (recvS 1 10) :: l))) ∗ recvPay m c 1 11 -∗ Q ⟨⟩)
        -∗ wp frame (wpE (defs₀ (F := F)) 𝒱₀ (c : Thread nD τ) none) Set.univ (k0_part28 xM h0 tM h1 wsM h2 whM h3 resM h4 obufM h5 commM h6 cc0_scratch2 cc0_scratch3 cc0_scratch4 v56 v60) Q) := by
  simp only [k0_part28_eq_skeleton]
  unfold k0_part28_skel
  simp only [semSignalWord, semWaitWord, Prog.lift, Prog.bind_op, Prog.bind_ret, Prog.pure_eq_ret, Prog.bind_assoc, one_toInt, ten_toInt]
  iintro ⟨#HR, #Hlev, Hz, Hw, Hr_1_10, Hs_1_11, Hr_1_11⟩ HQ
  iapply (wp_rwait m K c 20 1 10 8 (by decide) (by decide) l) $$ [Hw Hr_1_10 Hz]
  · isplitr; · iexact HR
    isplitr; · iexact Hlev
    isplitl [Hw]; · iexact Hw
    isplitl [Hr_1_10]; · iexact Hr_1_10
    iexact Hz
  iintro ⟨Hw, Hz, Hv_1_10⟩
  iapply (wp_swait m K c 20 1 11 8 (by decide) (.dma (recvS 1 10) :: l)) $$ [Hw Hs_1_11 Hz]
  · isplitr; · iexact HR
    isplitr; · iexact Hlev
    isplitl [Hw]; · iexact Hw
    isplitl [Hs_1_11]; · iexact Hs_1_11
    iexact Hz
  iintro ⟨Hw, Hz, Hq_1_11⟩
  iapply (wp_rwait m K c 20 1 11 8 (by decide) (by decide) (.dma (sendS 1 11) :: (.dma (recvS 1 10) :: l))) $$ [Hw Hr_1_11 Hz]
  · isplitr; · iexact HR
    isplitr; · iexact Hlev
    isplitl [Hw]; · iexact Hw
    isplitl [Hr_1_11]; · iexact Hr_1_11
    iexact Hz
  iintro ⟨Hw, Hz, Hv_1_11⟩
  rw [wp_ret]; imodintro
  iapply HQ
  isplitl [Hv_1_10]; · iexact Hv_1_10
  isplitl [Hq_1_11]; · iexact Hq_1_11
  isplitl [Hw]; · iexact Hw
  isplitl [Hz]; · iexact Hz
  iexact Hv_1_11

/-- Part 29 of the kernel. -/
theorem part29 (h0 : xM.IsWhole) (h1 : tM.IsWhole) (h2 : wsM.IsWhole) (h3 : whM.IsWhole) (h4 : resM.IsWhole) (h5 : obufM.IsWhole) (h6 : commM.IsWhole)  {Q : (PUnit) → sProp (MT nD τ sig ℕ (Elt F) ℕ UU ℕ)} (l : List (SemLoc sig)) :
    iprop(records m K ∗ levAts (L 4) lv ∗ srcP m c 1 8 3 ∗ sendPay m c 1 9 ∗ sendPay m c 1 10 ∗ sendPay m c 1 11 ∗ recvPay m c 1 9 ∗ recvPay m c 1 10 ∗ recvPay m c 1 11 ∗ xP m c ∗ halfE (F := F) c 1)
      ⊢ iprop((highP m c 1 ∗ xP m c ∗ halfP c 1 (obufF m c) -∗ Q ⟨⟩)
        -∗ wp frame (wpE (defs₀ (F := F)) 𝒱₀ (c : Thread nD τ) none) Set.univ (k0_part29 xM h0 tM h1 wsM h2 whM h3 resM h4 obufM h5 commM h6 cc0_scratch2 cc0_scratch3 cc0_scratch4 (k0_pay4 (tld m c) (wsld m c)) (k0_pay5 (tld m c) (whld m c))) Q) := by
  simp only [k0_part29_eq_skeleton]
  unfold k0_part29_skel
  simp only [semSignalWord, semWaitWord, Prog.lift, Prog.bind_op, Prog.bind_ret, Prog.pure_eq_ret, Prog.bind_assoc, one_toInt, ten_toInt]
  iintro ⟨#HR, #Hlev, Hsrc_1_8, Hq_1_9, Hq_1_10, Hq_1_11, Hv_1_9, Hv_1_10, Hv_1_11, Hx, Hhalf_1⟩ HQ
  ihave Hsrc_1_8 := (src_back_high m c 1) $$ [Hsrc_1_8 Hq_1_9 Hq_1_10 Hq_1_11]
  · isplitl [Hsrc_1_8]; · iexact Hsrc_1_8
    isplitl [Hq_1_9]; · iexact Hq_1_9
    isplitl [Hq_1_10]; · iexact Hq_1_10
    iexact Hq_1_11
  ihave Hhigh_1 := (join_high m c 1) $$ [Hsrc_1_8 Hv_1_9 Hv_1_10 Hv_1_11]
  · isplitl [Hsrc_1_8]; · iexact Hsrc_1_8
    isplitl [Hv_1_9]; · iexact Hv_1_9
    isplitl [Hv_1_10]; · iexact Hv_1_10
    iexact Hv_1_11
  iapply (wp_high1 m c) $$ [Hhigh_1]
  · iexact Hhigh_1
  iintro Hhigh_1
  iapply (wp_xhi m c) $$ [Hx]
  · iexact Hx
  iintro Hx
  iapply (wp_half_load c 1) $$ [Hhalf_1]
  · iexact Hhalf_1
  iintro %vd1 Hhalf_1
  iapply (wp_half_store m c 1 _ (if_neg (by decide)).symm) $$ [Hhalf_1]
  · iexact Hhalf_1
  iintro Hhalf_1
  rw [wp_ret]; imodintro
  iapply HQ
  isplitl [Hhigh_1]; · iexact Hhigh_1
  isplitl [Hx]; · iexact Hx
  iexact Hhalf_1

end Cert.LnProof

end
-- ==== Proof.Body.lean ====
/-
# The kernel's body

The parts of the kernel, one after the other, at a symbolic device.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

variable (m : (ℓ : Loc nD τ sig) → Buf (Elt F) ℓ) (K : Dev nD × Fin 51 → ℕ) (c : Dev nD)

/-- The semaphores a device waits at, the last one first: each is at zero after its wait. -/
def closedL : List (SemLoc sig) :=
  [.dma (outS 1), .dma (outS 0), .dma (recvS 1 11), .dma (sendS 1 11), .dma (recvS 1 10), .dma (sendS 1 10), .dma (recvS 1 9), .dma (sendS 1 9), .dma (recvS 0 11), .dma (sendS 0 11), .dma (recvS 0 10), .dma (sendS 0 10), .dma (recvS 0 9), .dma (sendS 0 9), .dma (recvS 1 7), .dma (sendS 1 7), .dma (recvS 1 6), .dma (sendS 1 6), .dma (recvS 1 5), .dma (sendS 1 5), .dma (recvS 1 4), .dma (sendS 1 4), .dma (recvS 1 3), .dma (sendS 1 3), .dma (recvS 1 2), .dma (sendS 1 2), .dma (recvS 1 1), .dma (sendS 1 1), .dma (recvS 0 7), .dma (sendS 0 7), .dma (recvS 0 6), .dma (sendS 0 6), .dma (recvS 0 5), .dma (sendS 0 5), .dma (recvS 0 4), .dma (sendS 0 4), .dma (recvS 0 3), .dma (sendS 0 3), .dma (recvS 0 2), .dma (sendS 0 2), .dma (recvS 0 1), .dma (sendS 0 1), .reg barrier0]

set_option maxHeartbeats 4000000 in
/-- The whole body: what a device needs and what it leaves. -/
theorem body_run (h0 : xM.IsWhole) (h1 : tM.IsWhole) (h2 : wsM.IsWhole) (h3 : whM.IsWhole) (h4 : resM.IsWhole) (h5 : obufM.IsWhole) (h6 : commM.IsWhole) {Q : PUnit → sProp (MT nD τ sig ℕ (Elt F) ℕ UU ℕ)} :
    iprop(records m K ∗ levAts (L 4) lv ∗ owBar (F := F) c 0 ∗ zs (F := F) c [] ∗ xP m c ∗ tP m c ∗ wsP m c ∗ whP m c ∗ barT (F := F) c 1 ∗ barT (F := F) c 2 ∗ barT (F := F) c 3 ∗ barT (F := F) c 4 ∗ barT (F := F) c 5 ∗ barT (F := F) c 6 ∗ barT (F := F) c 7 ∗ barT (F := F) c 9 ∗ barT (F := F) c 10 ∗ barT (F := F) c 11 ∗ barW (F := F) c ∗ slotE (F := F) c 0 0 ∗ slotE (F := F) c 0 8 ∗ slotE (F := F) c 1 0 ∗ slotE (F := F) c 1 8 ∗ tokT (F := F) c 0 1 ∗ tokT (F := F) c 0 2 ∗ tokT (F := F) c 0 3 ∗ tokT (F := F) c 0 4 ∗ tokT (F := F) c 0 5 ∗ tokT (F := F) c 0 6 ∗ tokT (F := F) c 0 7 ∗ tokT (F := F) c 0 9 ∗ tokT (F := F) c 0 10 ∗ tokT (F := F) c 0 11 ∗ tokT (F := F) c 1 1 ∗ tokT (F := F) c 1 2 ∗ tokT (F := F) c 1 3 ∗ tokT (F := F) c 1 4 ∗ tokT (F := F) c 1 5 ∗ tokT (F := F) c 1 6 ∗ tokT (F := F) c 1 7 ∗ tokT (F := F) c 1 9 ∗ tokT (F := F) c 1 10 ∗ tokT (F := F) c 1 11 ∗ rT (F := F) c 0 1 ∗ rT (F := F) c 0 2 ∗ rT (F := F) c 0 3 ∗ rT (F := F) c 0 4 ∗ rT (F := F) c 0 5 ∗ rT (F := F) c 0 6 ∗ rT (F := F) c 0 7 ∗ rT (F := F) c 0 9 ∗ rT (F := F) c 0 10 ∗ rT (F := F) c 0 11 ∗ rT (F := F) c 1 1 ∗ rT (F := F) c 1 2 ∗ rT (F := F) c 1 3 ∗ rT (F := F) c 1 4 ∗ rT (F := F) c 1 5 ∗ rT (F := F) c 1 6 ∗ rT (F := F) c 1 7 ∗ rT (F := F) c 1 9 ∗ rT (F := F) c 1 10 ∗ rT (F := F) c 1 11 ∗ halfE (F := F) c 0 ∗ halfE (F := F) c 1 ∗ rowsE (F := F) c 0 ∗ rowsE (F := F) c 1 ∗ outT (F := F) c 0 ∗ outT (F := F) c 1)
      ⊢ iprop((ow (F := F) c 20 ∗ zs (F := F) c closedL ∗ xP m c ∗ tP m c ∗ wsP m c ∗ whP m c ∗ lowP m c 0 ∗ highP m c 0 ∗ lowP m c 1 ∗ highP m c 1 ∗ outPay m c 0 ∗ outPay m c 1 -∗ Q ⟨⟩)
        -∗ wp frame (wpE (defs₀ (F := F)) 𝒱₀ (c : Thread nD τ) none) Set.univ (cc0_body xM h0 tM h1 wsM h2 whM h3 resM h4 obufM h5 commM h6 cc0_scratch2 cc0_scratch3 cc0_scratch4) Q) := by
  simp only [cc0_body_eq_skeleton]
  unfold cc0_body_skel
  simp only [k0_part30_eq_skeleton]
  unfold k0_part30_skel
  simp only [k0_part1_eq_skeleton]
  unfold k0_part1_skel
  simp only [semSignalWord, semWaitWord, Prog.lift, Prog.bind_op, Prog.bind_ret, Prog.pure_eq_ret, Prog.bind_assoc, one_toInt, ten_toInt, wp_deviceId]
  iintro ⟨#HR, #Hlev, Hw, Hz, Hx, Ht, Hws, Hwh, HbarT_1, HbarT_2, HbarT_3, HbarT_4, HbarT_5, HbarT_6, HbarT_7, HbarT_9, HbarT_10, HbarT_11, HbarW, Hslot_0_0, Hslot_0_8, Hslot_1_0, Hslot_1_8, Htok_0_1, Htok_0_2, Htok_0_3, Htok_0_4, Htok_0_5, Htok_0_6, Htok_0_7, Htok_0_9, Htok_0_10, Htok_0_11, Htok_1_1, Htok_1_2, Htok_1_3, Htok_1_4, Htok_1_5, Htok_1_6, Htok_1_7, Htok_1_9, Htok_1_10, Htok_1_11, Hr_0_1, Hr_0_2, Hr_0_3, Hr_0_4, Hr_0_5, Hr_0_6, Hr_0_7, Hr_0_9, Hr_0_10, Hr_0_11, Hr_1_1, Hr_1_2, Hr_1_3, Hr_1_4, Hr_1_5, Hr_1_6, Hr_1_7, Hr_1_9, Hr_1_10, Hr_1_11, Hhalf_0, Hhalf_1, Hrows_0, Hrows_1, HoutT_0, HoutT_1⟩ HQ
  rw [wp_bind]
  iapply (part2 m K c h0 h1 h2 h3 h4 h5 h6 _ _ _ _ _ []) $$ [Hw HbarT_1 HbarT_2]
  · isplitr; · iexact HR
    isplitr; · iexact Hlev
    isplitl [Hw]; · iexact Hw
    isplitl [HbarT_1]; · iexact HbarT_1
    iexact HbarT_2
  iintro Hw %v40 %v44 %v48 %v52 %v56 %v60
  try dsimp only
  rw [wp_bind]
  iapply (part3 m K c h0 h1 h2 h3 h4 h5 h6 _ _ _ _ _ _ _ []) $$ [Hw HbarT_3 HbarT_4 HbarT_5 HbarT_6 HbarT_7 HbarT_9 HbarT_10 HbarT_11 Hx Hslot_0_0]
  · isplitr; · iexact HR
    isplitr; · iexact Hlev
    isplitl [Hw]; · iexact Hw
    isplitl [HbarT_3]; · iexact HbarT_3
    isplitl [HbarT_4]; · iexact HbarT_4
    isplitl [HbarT_5]; · iexact HbarT_5
    isplitl [HbarT_6]; · iexact HbarT_6
    isplitl [HbarT_7]; · iexact HbarT_7
    isplitl [HbarT_9]; · iexact HbarT_9
    isplitl [HbarT_10]; · iexact HbarT_10
    isplitl [HbarT_11]; · iexact HbarT_11
    isplitl [Hx]; · iexact Hx
    iexact Hslot_0_0
  iintro ⟨Hw, Hx, Hslot_0_0⟩
  try dsimp only
  rw [wp_bind]
  iapply (part4 m K c h0 h1 h2 h3 h4 h5 h6 _ _ []) $$ [Hslot_0_0 Hw Hz HbarW Htok_0_1 Htok_0_2]
  · isplitr; · iexact HR
    isplitr; · iexact Hlev
    isplitl [Hslot_0_0]; · iexact Hslot_0_0
    isplitl [Hw]; · iexact Hw
    isplitl [Hz]; · iexact Hz
    isplitl [HbarW]; · iexact HbarW
    isplitl [Htok_0_1]; · iexact Htok_0_1
    iexact Htok_0_2
  iintro ⟨Hz, Hdst_1_1, Hdst_1_2, Hdst_0_3, Hdst_1_3, Hdst_0_4, Hdst_1_4, Hdst_0_5, Hdst_1_5, Hdst_0_6, Hdst_1_6, Hdst_0_7, Hdst_1_7, Hdst_0_9, Hdst_1_9, Hdst_0_10, Hdst_1_10, Hdst_0_11, Hdst_1_11, Hs_0_1, Hsrc_0_0, Hw, Hs_0_2⟩
  try dsimp only
  rw [wp_bind]
  iapply (part5 m K c h0 h1 h2 h3 h4 h5 h6 _ _ _ (.reg barrier0 :: [])) $$ [Hsrc_0_0 Hw Htok_0_3 Hdst_0_3 Htok_0_4 Hdst_0_4]
  · isplitr; · iexact HR
    isplitr; · iexact Hlev
    isplitl [Hsrc_0_0]; · iexact Hsrc_0_0
    isplitl [Hw]; · iexact Hw
    isplitl [Htok_0_3]; · iexact Htok_0_3
    isplitl [Hdst_0_3]; · iexact Hdst_0_3
    isplitl [Htok_0_4]; · iexact Htok_0_4
    iexact Hdst_0_4
  iintro ⟨Hs_0_3, Hsrc_0_0, Hw, Hs_0_4⟩
  try dsimp only
  rw [wp_bind]
  iapply (part6 m K c h0 h1 h2 h3 h4 h5 h6 _ _ (.reg barrier0 :: [])) $$ [Hsrc_0_0 Hw Htok_0_5 Hdst_0_5 Htok_0_6 Hdst_0_6 Htok_0_7 Hdst_0_7]
  · isplitr; · iexact HR
    isplitr; · iexact Hlev
    isplitl [Hsrc_0_0]; · iexact Hsrc_0_0
    isplitl [Hw]; · iexact Hw
    isplitl [Htok_0_5]; · iexact Htok_0_5
    isplitl [Hdst_0_5]; · iexact Hdst_0_5
    isplitl [Htok_0_6]; · iexact Htok_0_6
    isplitl [Hdst_0_6]; · iexact Hdst_0_6
    isplitl [Htok_0_7]; · iexact Htok_0_7
    iexact Hdst_0_7
  iintro ⟨Hs_0_5, Hs_0_6, Hsrc_0_0, Hw, Hs_0_7⟩
  try dsimp only
  rw [wp_bind]
  iapply (part7 m K c h0 h1 h2 h3 h4 h5 h6 _ _ (.reg barrier0 :: [])) $$ [Hx Hslot_1_0 Hw Htok_1_1 Hdst_1_1]
  · isplitr; · iexact HR
    isplitr; · iexact Hlev
    isplitl [Hx]; · iexact Hx
    isplitl [Hslot_1_0]; · iexact Hslot_1_0
    isplitl [Hw]; · iexact Hw
    isplitl [Htok_1_1]; · iexact Htok_1_1
    iexact Hdst_1_1
  iintro ⟨Hx, Hsrc_1_0, Hw, Hs_1_1⟩
  try dsimp only
  rw [wp_bind]
  iapply (part8 m K c h0 h1 h2 h3 h4 h5 h6 _ _ (.reg barrier0 :: [])) $$ [Hsrc_1_0 Hw Htok_1_2 Hdst_1_2 Htok_1_3 Hdst_1_3 Htok_1_4 Hdst_1_4]
  · isplitr; · iexact HR
    isplitr; · iexact Hlev
    isplitl [Hsrc_1_0]; · iexact Hsrc_1_0
    isplitl [Hw]; · iexact Hw
    isplitl [Htok_1_2]; · iexact Htok_1_2
    isplitl [Hdst_1_2]; · iexact Hdst_1_2
    isplitl [Htok_1_3]; · iexact Htok_1_3
    isplitl [Hdst_1_3]; · iexact Hdst_1_3
    isplitl [Htok_1_4]; · iexact Htok_1_4
    iexact Hdst_1_4
  iintro ⟨Hs_1_2, Hs_1_3, Hsrc_1_0, Hw, Hs_1_4⟩
  try dsimp only
  rw [wp_bind]
  iapply (part9 m K c h0 h1 h2 h3 h4 h5 h6 _ _ _ (.reg barrier0 :: [])) $$ [Hsrc_1_0 Hw Htok_1_5 Hdst_1_5 Htok_1_6 Hdst_1_6]
  · isplitr; · iexact HR
    isplitr; · iexact Hlev
    isplitl [Hsrc_1_0]; · iexact Hsrc_1_0
    isplitl [Hw]; · iexact Hw
    isplitl [Htok_1_5]; · iexact Htok_1_5
    isplitl [Hdst_1_5]; · iexact Hdst_1_5
    isplitl [Htok_1_6]; · iexact Htok_1_6
    iexact Hdst_1_6
  iintro ⟨Hs_1_5, Hsrc_1_0, Hw, Hs_1_6⟩ %v230 %v265
  try dsimp only
  rw [wp_bind]
  iapply (part10 m K c h0 h1 h2 h3 h4 h5 h6 _ _ (.reg barrier0 :: [])) $$ [Hsrc_1_0 Hw Htok_1_7 Hdst_1_7 Ht Hws Hwh Hz Hs_0_1]
  · isplitr; · iexact HR
    isplitr; · iexact Hlev
    isplitl [Hsrc_1_0]; · iexact Hsrc_1_0
    isplitl [Hw]; · iexact Hw
    isplitl [Htok_1_7]; · iexact Htok_1_7
    isplitl [Hdst_1_7]; · iexact Hdst_1_7
    isplitl [Ht]; · iexact Ht
    isplitl [Hws]; · iexact Hws
    isplitl [Hwh]; · iexact Hwh
    isplitl [Hz]; · iexact Hz
    iexact Hs_0_1
  iintro ⟨Hsrc_1_0, Hs_1_7, Ht, Hws, Hwh, Hw, Hz, Hq_0_1⟩
  try dsimp only
  rw [wp_bind]
  iapply (part11 m K c h0 h1 h2 h3 h4 h5 h6 _ _ (.dma (sendS 0 1) :: (.reg barrier0 :: []))) $$ [Hz Hw Hr_0_1 Hs_0_2 Hr_0_2]
  · isplitr; · iexact HR
    isplitr; · iexact Hlev
    isplitl [Hz]; · iexact Hz
    isplitl [Hw]; · iexact Hw
    isplitl [Hr_0_1]; · iexact Hr_0_1
    isplitl [Hs_0_2]; · iexact Hs_0_2
    iexact Hr_0_2
  iintro ⟨Hv_0_1, Hq_0_2, Hw, Hz, Hv_0_2⟩
  try dsimp only
  rw [wp_bind]
  iapply (part12 m K c h0 h1 h2 h3 h4 h5 h6 _ (.dma (recvS 0 2) :: (.dma (sendS 0 2) :: (.dma (recvS 0 1) :: (.dma (sendS 0 1) :: (.reg barrier0 :: [])))))) $$ [Hz Hw Hs_0_3 Hr_0_3]
  · isplitr; · iexact HR
    isplitr; · iexact Hlev
    isplitl [Hz]; · iexact Hz
    isplitl [Hw]; · iexact Hw
    isplitl [Hs_0_3]; · iexact Hs_0_3
    iexact Hr_0_3
  iintro ⟨Hq_0_3, Hw, Hz, Hv_0_3⟩
  try dsimp only
  rw [wp_bind]
  iapply (part13 m K c h0 h1 h2 h3 h4 h5 h6 _ _ (.dma (recvS 0 3) :: (.dma (sendS 0 3) :: (.dma (recvS 0 2) :: (.dma (sendS 0 2) :: (.dma (recvS 0 1) :: (.dma (sendS 0 1) :: (.reg barrier0 :: [])))))))) $$ [Hz Hw Hs_0_4 Hr_0_4 Hs_0_5]
  · isplitr; · iexact HR
    isplitr; · iexact Hlev
    isplitl [Hz]; · iexact Hz
    isplitl [Hw]; · iexact Hw
    isplitl [Hs_0_4]; · iexact Hs_0_4
    isplitl [Hr_0_4]; · iexact Hr_0_4
    iexact Hs_0_5
  iintro ⟨Hq_0_4, Hv_0_4, Hw, Hz, Hq_0_5⟩
  try dsimp only
  rw [wp_bind]
  iapply (part14 m K c h0 h1 h2 h3 h4 h5 h6 _ (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: []))))))))))) $$ [Hz Hw Hr_0_5 Hs_0_6 Hr_0_6]
  · isplitr; · iexact HR
    isplitr; · iexact Hlev
    isplitl [Hz]; · iexact Hz
    isplitl [Hw]; · iexact Hw
    isplitl [Hr_0_5]; · iexact Hr_0_5
    isplitl [Hs_0_6]; · iexact Hs_0_6
    iexact Hr_0_6
  iintro ⟨Hv_0_5, Hq_0_6, Hw, Hz, Hv_0_6⟩
  try dsimp only
  rw [wp_bind]
  iapply (part15 m K c h0 h1 h2 h3 h4 h5 h6 _ (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))) $$ [Hz Hw Hs_0_7 Hr_0_7 Hsrc_0_0 Hq_0_1 Hq_0_2 Hq_0_3 Hq_0_4 Hq_0_5 Hq_0_6 Hv_0_1 Hv_0_2 Hv_0_3 Hv_0_4 Hv_0_5 Hv_0_6 Hslot_0_8]
  · isplitr; · iexact HR
    isplitr; · iexact Hlev
    isplitl [Hz]; · iexact Hz
    isplitl [Hw]; · iexact Hw
    isplitl [Hs_0_7]; · iexact Hs_0_7
    isplitl [Hr_0_7]; · iexact Hr_0_7
    isplitl [Hsrc_0_0]; · iexact Hsrc_0_0
    isplitl [Hq_0_1]; · iexact Hq_0_1
    isplitl [Hq_0_2]; · iexact Hq_0_2
    isplitl [Hq_0_3]; · iexact Hq_0_3
    isplitl [Hq_0_4]; · iexact Hq_0_4
    isplitl [Hq_0_5]; · iexact Hq_0_5
    isplitl [Hq_0_6]; · iexact Hq_0_6
    isplitl [Hv_0_1]; · iexact Hv_0_1
    isplitl [Hv_0_2]; · iexact Hv_0_2
    isplitl [Hv_0_3]; · iexact Hv_0_3
    isplitl [Hv_0_4]; · iexact Hv_0_4
    isplitl [Hv_0_5]; · iexact Hv_0_5
    isplitl [Hv_0_6]; · iexact Hv_0_6
    iexact Hslot_0_8
  iintro ⟨Hw, Hz, Hlow_0, Hsrc_0_8⟩
  try dsimp only
  rw [wp_bind]
  iapply (part16 m K c h0 h1 h2 h3 h4 h5 h6 _ _ _ _ (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))) $$ [Hsrc_0_8 Hw Htok_0_9 Hdst_0_9 Htok_0_10 Hdst_0_10]
  · isplitr; · iexact HR
    isplitr; · iexact Hlev
    isplitl [Hsrc_0_8]; · iexact Hsrc_0_8
    isplitl [Hw]; · iexact Hw
    isplitl [Htok_0_9]; · iexact Htok_0_9
    isplitl [Hdst_0_9]; · iexact Hdst_0_9
    isplitl [Htok_0_10]; · iexact Htok_0_10
    iexact Hdst_0_10
  iintro ⟨Hs_0_9, Hsrc_0_8, Hw, Hs_0_10⟩
  try dsimp only
  rw [wp_bind]
  iapply (part17 m K c h0 h1 h2 h3 h4 h5 h6 _ (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))) $$ [Hsrc_0_8 Hw Htok_0_11 Hdst_0_11 Hz Hs_1_1 Hr_1_1]
  · isplitr; · iexact HR
    isplitr; · iexact Hlev
    isplitl [Hsrc_0_8]; · iexact Hsrc_0_8
    isplitl [Hw]; · iexact Hw
    isplitl [Htok_0_11]; · iexact Htok_0_11
    isplitl [Hdst_0_11]; · iexact Hdst_0_11
    isplitl [Hz]; · iexact Hz
    isplitl [Hs_1_1]; · iexact Hs_1_1
    iexact Hr_1_1
  iintro ⟨Hsrc_0_8, Hs_0_11, Hq_1_1, Hw, Hz, Hv_1_1⟩
  try dsimp only
  rw [wp_bind]
  iapply (part18 m K c h0 h1 h2 h3 h4 h5 h6 _ (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))))) $$ [Hz Hw Hs_1_2 Hr_1_2 Hs_1_3]
  · isplitr; · iexact HR
    isplitr; · iexact Hlev
    isplitl [Hz]; · iexact Hz
    isplitl [Hw]; · iexact Hw
    isplitl [Hs_1_2]; · iexact Hs_1_2
    isplitl [Hr_1_2]; · iexact Hr_1_2
    iexact Hs_1_3
  iintro ⟨Hq_1_2, Hv_1_2, Hw, Hz, Hq_1_3⟩
  try dsimp only
  rw [wp_bind]
  iapply (part19 m K c h0 h1 h2 h3 h4 h5 h6 _ _ (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: []))))))))))))))))))))) $$ [Hz Hw Hr_1_3 Hs_1_4 Hr_1_4]
  · isplitr; · iexact HR
    isplitr; · iexact Hlev
    isplitl [Hz]; · iexact Hz
    isplitl [Hw]; · iexact Hw
    isplitl [Hr_1_3]; · iexact Hr_1_3
    isplitl [Hs_1_4]; · iexact Hs_1_4
    iexact Hr_1_4
  iintro ⟨Hv_1_3, Hq_1_4, Hw, Hz, Hv_1_4⟩
  try dsimp only
  rw [wp_bind]
  iapply (part20 m K c h0 h1 h2 h3 h4 h5 h6 _ (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))))))))))) $$ [Hz Hw Hs_1_5 Hr_1_5]
  · isplitr; · iexact HR
    isplitr; · iexact Hlev
    isplitl [Hz]; · iexact Hz
    isplitl [Hw]; · iexact Hw
    isplitl [Hs_1_5]; · iexact Hs_1_5
    iexact Hr_1_5
  iintro ⟨Hq_1_5, Hw, Hz, Hv_1_5⟩
  try dsimp only
  rw [wp_bind]
  iapply (part21 m K c h0 h1 h2 h3 h4 h5 h6 _ _ (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))))))))))))) $$ [Hz Hw Hs_1_6 Hr_1_6 Hs_1_7]
  · isplitr; · iexact HR
    isplitr; · iexact Hlev
    isplitl [Hz]; · iexact Hz
    isplitl [Hw]; · iexact Hw
    isplitl [Hs_1_6]; · iexact Hs_1_6
    isplitl [Hr_1_6]; · iexact Hr_1_6
    iexact Hs_1_7
  iintro ⟨Hq_1_6, Hv_1_6, Hw, Hz, Hq_1_7⟩
  try dsimp only
  rw [wp_bind]
  iapply (part22 m K c h0 h1 h2 h3 h4 h5 h6 _ _ (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: []))))))))))))))))))))))))))))) $$ [Hz Hw Hr_1_7 Hsrc_1_0 Hq_1_1 Hq_1_2 Hq_1_3 Hq_1_4 Hq_1_5 Hq_1_6 Hq_1_7 Hv_1_1 Hv_1_2 Hv_1_3 Hv_1_4 Hv_1_5 Hv_1_6 Hslot_1_8 Htok_1_9 Hdst_1_9]
  · isplitr; · iexact HR
    isplitr; · iexact Hlev
    isplitl [Hz]; · iexact Hz
    isplitl [Hw]; · iexact Hw
    isplitl [Hr_1_7]; · iexact Hr_1_7
    isplitl [Hsrc_1_0]; · iexact Hsrc_1_0
    isplitl [Hq_1_1]; · iexact Hq_1_1
    isplitl [Hq_1_2]; · iexact Hq_1_2
    isplitl [Hq_1_3]; · iexact Hq_1_3
    isplitl [Hq_1_4]; · iexact Hq_1_4
    isplitl [Hq_1_5]; · iexact Hq_1_5
    isplitl [Hq_1_6]; · iexact Hq_1_6
    isplitl [Hq_1_7]; · iexact Hq_1_7
    isplitl [Hv_1_1]; · iexact Hv_1_1
    isplitl [Hv_1_2]; · iexact Hv_1_2
    isplitl [Hv_1_3]; · iexact Hv_1_3
    isplitl [Hv_1_4]; · iexact Hv_1_4
    isplitl [Hv_1_5]; · iexact Hv_1_5
    isplitl [Hv_1_6]; · iexact Hv_1_6
    isplitl [Hslot_1_8]; · iexact Hslot_1_8
    isplitl [Htok_1_9]; · iexact Htok_1_9
    iexact Hdst_1_9
  iintro ⟨Hz, Hlow_1, Hsrc_1_8, Hw, Hs_1_9⟩
  try dsimp only
  rw [wp_bind]
  iapply (part23 m K c h0 h1 h2 h3 h4 h5 h6 _ (.dma (recvS 1 7) :: (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))))))))))))))))) $$ [Hsrc_1_8 Hw Htok_1_10 Hdst_1_10 Htok_1_11 Hdst_1_11 Hz Hs_0_9]
  · isplitr; · iexact HR
    isplitr; · iexact Hlev
    isplitl [Hsrc_1_8]; · iexact Hsrc_1_8
    isplitl [Hw]; · iexact Hw
    isplitl [Htok_1_10]; · iexact Htok_1_10
    isplitl [Hdst_1_10]; · iexact Hdst_1_10
    isplitl [Htok_1_11]; · iexact Htok_1_11
    isplitl [Hdst_1_11]; · iexact Hdst_1_11
    isplitl [Hz]; · iexact Hz
    iexact Hs_0_9
  iintro ⟨Hs_1_10, Hsrc_1_8, Hs_1_11, Hw, Hz, Hq_0_9⟩
  try dsimp only
  rw [wp_bind]
  iapply (part24 m K c h0 h1 h2 h3 h4 h5 h6 _ _ (.dma (sendS 0 9) :: (.dma (recvS 1 7) :: (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: []))))))))))))))))))))))))))))))) $$ [Hz Hw Hr_0_9 Hs_0_10]
  · isplitr; · iexact HR
    isplitr; · iexact Hlev
    isplitl [Hz]; · iexact Hz
    isplitl [Hw]; · iexact Hw
    isplitl [Hr_0_9]; · iexact Hr_0_9
    iexact Hs_0_10
  iintro ⟨Hv_0_9, Hw, Hz, Hq_0_10⟩
  try dsimp only
  rw [wp_bind]
  iapply (part25 m K c h0 h1 h2 h3 h4 h5 h6 _ (.dma (sendS 0 10) :: (.dma (recvS 0 9) :: (.dma (sendS 0 9) :: (.dma (recvS 1 7) :: (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: []))))))))))))))))))))))))))))))))) $$ [Hz Hw Hr_0_10 Hs_0_11 Hr_0_11 Hsrc_0_8 Hq_0_9 Hq_0_10 Hv_0_9]
  · isplitr; · iexact HR
    isplitr; · iexact Hlev
    isplitl [Hz]; · iexact Hz
    isplitl [Hw]; · iexact Hw
    isplitl [Hr_0_10]; · iexact Hr_0_10
    isplitl [Hs_0_11]; · iexact Hs_0_11
    isplitl [Hr_0_11]; · iexact Hr_0_11
    isplitl [Hsrc_0_8]; · iexact Hsrc_0_8
    isplitl [Hq_0_9]; · iexact Hq_0_9
    isplitl [Hq_0_10]; · iexact Hq_0_10
    iexact Hv_0_9
  iintro ⟨Hw, Hz, Hhigh_0⟩
  try dsimp only
  rw [wp_bind]
  iapply (part26 m K c h0 h1 h2 h3 h4 h5 h6  (.dma (recvS 0 11) :: (.dma (sendS 0 11) :: (.dma (recvS 0 10) :: (.dma (sendS 0 10) :: (.dma (recvS 0 9) :: (.dma (sendS 0 9) :: (.dma (recvS 1 7) :: (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))))))))))))))))))))))) $$ [Hx Hhalf_0 Hrows_0 HoutT_0]
  · isplitr; · iexact HR
    isplitr; · iexact Hlev
    isplitl [Hx]; · iexact Hx
    isplitl [Hhalf_0]; · iexact Hhalf_0
    isplitl [Hrows_0]; · iexact Hrows_0
    iexact HoutT_0
  iintro ⟨Hx, Hcop_0⟩
  try dsimp only
  rw [wp_bind]
  iapply (part27 m K c h0 h1 h2 h3 h4 h5 h6 _ (.dma (recvS 0 11) :: (.dma (sendS 0 11) :: (.dma (recvS 0 10) :: (.dma (sendS 0 10) :: (.dma (recvS 0 9) :: (.dma (sendS 0 9) :: (.dma (recvS 1 7) :: (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))))))))))))))))))))))) $$ [Hz Hw Hs_1_9 Hr_1_9 Hs_1_10]
  · isplitr; · iexact HR
    isplitr; · iexact Hlev
    isplitl [Hz]; · iexact Hz
    isplitl [Hw]; · iexact Hw
    isplitl [Hs_1_9]; · iexact Hs_1_9
    isplitl [Hr_1_9]; · iexact Hr_1_9
    iexact Hs_1_10
  iintro ⟨Hq_1_9, Hv_1_9, Hw, Hz, Hq_1_10⟩
  try dsimp only
  rw [wp_bind]
  iapply (part28 m K c h0 h1 h2 h3 h4 h5 h6 _ _ (.dma (sendS 1 10) :: (.dma (recvS 1 9) :: (.dma (sendS 1 9) :: (.dma (recvS 0 11) :: (.dma (sendS 0 11) :: (.dma (recvS 0 10) :: (.dma (sendS 0 10) :: (.dma (recvS 0 9) :: (.dma (sendS 0 9) :: (.dma (recvS 1 7) :: (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: []))))))))))))))))))))))))))))))))))))))) $$ [Hz Hw Hr_1_10 Hs_1_11 Hr_1_11]
  · isplitr; · iexact HR
    isplitr; · iexact Hlev
    isplitl [Hz]; · iexact Hz
    isplitl [Hw]; · iexact Hw
    isplitl [Hr_1_10]; · iexact Hr_1_10
    isplitl [Hs_1_11]; · iexact Hs_1_11
    iexact Hr_1_11
  iintro ⟨Hv_1_10, Hq_1_11, Hw, Hz, Hv_1_11⟩
  try dsimp only
  rw [wp_bind]
  iapply (part29 m K c h0 h1 h2 h3 h4 h5 h6  (.dma (recvS 1 11) :: (.dma (sendS 1 11) :: (.dma (recvS 1 10) :: (.dma (sendS 1 10) :: (.dma (recvS 1 9) :: (.dma (sendS 1 9) :: (.dma (recvS 0 11) :: (.dma (sendS 0 11) :: (.dma (recvS 0 10) :: (.dma (sendS 0 10) :: (.dma (recvS 0 9) :: (.dma (sendS 0 9) :: (.dma (recvS 1 7) :: (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))))))))))))))))))))))))))))) $$ [Hsrc_1_8 Hq_1_9 Hq_1_10 Hq_1_11 Hv_1_9 Hv_1_10 Hv_1_11 Hx Hhalf_1]
  · isplitr; · iexact HR
    isplitr; · iexact Hlev
    isplitl [Hsrc_1_8]; · iexact Hsrc_1_8
    isplitl [Hq_1_9]; · iexact Hq_1_9
    isplitl [Hq_1_10]; · iexact Hq_1_10
    isplitl [Hq_1_11]; · iexact Hq_1_11
    isplitl [Hv_1_9]; · iexact Hv_1_9
    isplitl [Hv_1_10]; · iexact Hv_1_10
    isplitl [Hv_1_11]; · iexact Hv_1_11
    isplitl [Hx]; · iexact Hx
    iexact Hhalf_1
  iintro ⟨Hhigh_1, Hx, Hhalf_1⟩
  try dsimp only
  unfold rowsE
  icases Hrows_1 with ⟨%fr, Hrows_1⟩
  iapply (wp_out m K c 1 fr) $$ [Hhalf_1 Hrows_1 HoutT_1]
  · isplitr; · iexact HR
    isplitl [Hhalf_1]; · iexact Hhalf_1
    isplitl [Hrows_1]; · iexact Hrows_1
    iexact HoutT_1
  iintro Hcop_1
  iapply (wp_owait m K c 20 0 (.dma (recvS 1 11) :: (.dma (sendS 1 11) :: (.dma (recvS 1 10) :: (.dma (sendS 1 10) :: (.dma (recvS 1 9) :: (.dma (sendS 1 9) :: (.dma (recvS 0 11) :: (.dma (sendS 0 11) :: (.dma (recvS 0 10) :: (.dma (sendS 0 10) :: (.dma (recvS 0 9) :: (.dma (sendS 0 9) :: (.dma (recvS 1 7) :: (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: [])))))))))))))))))))))))))))))))))))))))))) $$ [Hw Hcop_0 Hz]
  · isplitr; · iexact HR
    isplitr; · iexact Hlev
    isplitl [Hw]; · iexact Hw
    isplitl [Hcop_0]; · iexact Hcop_0
    iexact Hz
  iintro ⟨Hw, Hz, HoutP_0⟩
  iapply (wp_owait m K c 20 1 (.dma (outS 0) :: (.dma (recvS 1 11) :: (.dma (sendS 1 11) :: (.dma (recvS 1 10) :: (.dma (sendS 1 10) :: (.dma (recvS 1 9) :: (.dma (sendS 1 9) :: (.dma (recvS 0 11) :: (.dma (sendS 0 11) :: (.dma (recvS 0 10) :: (.dma (sendS 0 10) :: (.dma (recvS 0 9) :: (.dma (sendS 0 9) :: (.dma (recvS 1 7) :: (.dma (sendS 1 7) :: (.dma (recvS 1 6) :: (.dma (sendS 1 6) :: (.dma (recvS 1 5) :: (.dma (sendS 1 5) :: (.dma (recvS 1 4) :: (.dma (sendS 1 4) :: (.dma (recvS 1 3) :: (.dma (sendS 1 3) :: (.dma (recvS 1 2) :: (.dma (sendS 1 2) :: (.dma (recvS 1 1) :: (.dma (sendS 1 1) :: (.dma (recvS 0 7) :: (.dma (sendS 0 7) :: (.dma (recvS 0 6) :: (.dma (sendS 0 6) :: (.dma (recvS 0 5) :: (.dma (sendS 0 5) :: (.dma (recvS 0 4) :: (.dma (sendS 0 4) :: (.dma (recvS 0 3) :: (.dma (sendS 0 3) :: (.dma (recvS 0 2) :: (.dma (sendS 0 2) :: (.dma (recvS 0 1) :: (.dma (sendS 0 1) :: (.reg barrier0 :: []))))))))))))))))))))))))))))))))))))))))))) $$ [Hw Hcop_1 Hz]
  · isplitr; · iexact HR
    isplitr; · iexact Hlev
    isplitl [Hw]; · iexact Hw
    isplitl [Hcop_1]; · iexact Hcop_1
    iexact Hz
  iintro ⟨Hw, Hz, HoutP_1⟩
  rw [wp_ret]; imodintro
  iapply HQ
  isplitl [Hw]; · iexact Hw
  isplitl [Hz]; · iexact Hz
  isplitl [Hx]; · iexact Hx
  isplitl [Ht]; · iexact Ht
  isplitl [Hws]; · iexact Hws
  isplitl [Hwh]; · iexact Hwh
  isplitl [Hlow_0]; · iexact Hlow_0
  isplitl [Hhigh_0]; · iexact Hhigh_0
  isplitl [Hlow_1]; · iexact Hlow_1
  isplitl [Hhigh_1]; · iexact Hhigh_1
  isplitl [HoutP_0]; · iexact HoutP_0
  iexact HoutP_1

end Cert.LnProof

end
-- ==== Proof.Deal.lean ====
/-
# Dealing the launch's resources

The launch makes, for every semaphore, its position and its duty tokens, and for every device the credit of what
the others owe it.  Here they are dealt: the token of a transfer's arrival and of a barrier unit goes to the device
that sends it, everything else stays with its device.
-/
module

public import proofs.«01_k».proof.Proof.Body

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

local notation "𝕄" => MT nD τ sig ℕ (Elt F) ℕ UU ℕ

variable (m : (ℓ : Loc nD τ sig) → Buf (Elt F) ℓ)

/-! ## The cells by what they are for -/

/-- The numbers of the output semaphores are different. -/
theorem kOut_inj : Function.Injective kOut := by decide +kernel
/-- The numbers of the send semaphores are different. -/
theorem kSend_inj : Function.Injective fun p : Fin 2 × Fin 12 => kSend p.1 p.2 := by decide +kernel
/-- The numbers of the receive semaphores are different. -/
theorem kRecv_inj : Function.Injective fun p : Fin 2 × Fin 12 => kRecv p.1 p.2 := by decide +kernel
/-- The 51 semaphores are the output, send and receive ones and the barrier's. -/
theorem cells_cover : (Finset.univ : Finset (Fin 51)) = Finset.univ.map ⟨kOut, kOut_inj⟩
    ∪ (Finset.univ.map ⟨fun p : Fin 2 × Fin 12 => kSend p.1 p.2, kSend_inj⟩ ∪ (Finset.univ.map ⟨fun p : Fin 2 × Fin 12 => kRecv p.1 p.2, kRecv_inj⟩ ∪ {50})) := by decide +kernel
/-- No output semaphore is of another kind. -/
theorem cells_disj1 : Disjoint (Finset.univ.map ⟨kOut, kOut_inj⟩)
    (Finset.univ.map ⟨fun p : Fin 2 × Fin 12 => kSend p.1 p.2, kSend_inj⟩ ∪ (Finset.univ.map ⟨fun p : Fin 2 × Fin 12 => kRecv p.1 p.2, kRecv_inj⟩ ∪ {50})) := by decide +kernel
/-- No send semaphore is a receive semaphore or the barrier's. -/
theorem cells_disj2 : Disjoint (Finset.univ.map ⟨fun p : Fin 2 × Fin 12 => kSend p.1 p.2, kSend_inj⟩)
    (Finset.univ.map ⟨fun p : Fin 2 × Fin 12 => kRecv p.1 p.2, kRecv_inj⟩ ∪ {50}) := by decide +kernel
/-- No receive semaphore is the barrier's. -/
theorem cells_disj3 : Disjoint (Finset.univ.map ⟨fun p : Fin 2 × Fin 12 => kRecv p.1 p.2, kRecv_inj⟩) {50} := by decide +kernel

omit [FloatOps F] in
/-- Assertions about a device's cells, by the use of the cell. -/
theorem cells_split (Φ : SemLoc sig → sProp 𝕄) : bigSep Finset.univ (fun k : Fin 51 => Φ (ksem k))
    = iprop(bigSep Finset.univ (fun h : Fin 2 => Φ (.dma (outS h))) ∗ bigSep Finset.univ (fun p : Fin 2 × Fin 12 => Φ (.dma (sendS p.1 p.2)))
      ∗ bigSep Finset.univ (fun p : Fin 2 × Fin 12 => Φ (.dma (recvS p.1 p.2))) ∗ Φ (.reg barrier0)) := by
  rw [cells_cover, bigSep_union cells_disj1, bigSep_union cells_disj2, bigSep_union cells_disj3, bigSep_map, bigSep_map, bigSep_map, bigSep_singleton, ksem_bar]
  exact congrArg₂ BI.sep (bigSep_congr fun h _ => congrArg Φ (ksem_out h)) (congrArg₂ BI.sep (bigSep_congr fun p _ => congrArg Φ (ksem_send p.1 p.2))
    (congrArg₂ BI.sep (bigSep_congr fun p _ => congrArg Φ (ksem_recv p.1 p.2)) rfl))

/-! ## The used and the unused slots -/

/-- The pairs of a half and a slot that a copy fills. -/
def actP : Finset (Fin 2 × Fin 12) := Finset.univ.filter fun p => p.2 ∈ act
/-- The pairs of a half and a slot that the device fills itself. -/
def idleP : Finset (Fin 2 × Fin 12) := {(0, 0), (0, 8), (1, 0), (1, 8)}
/-- The pairs that a copy fills, as a list, half by half. -/
def actL : List (Fin 2 × Fin 12) := [(0, 1), (0, 2), (0, 3), (0, 4), (0, 5), (0, 6), (0, 7), (0, 9), (0, 10), (0, 11), (1, 1), (1, 2), (1, 3), (1, 4), (1, 5), (1, 6), (1, 7), (1, 9), (1, 10), (1, 11)]
/-- Every pair is filled by a copy or by the device. -/
theorem pairs_cover : (Finset.univ : Finset (Fin 2 × Fin 12)) = actP ∪ idleP := by decide +kernel
/-- No pair is filled by both. -/
theorem pairs_disj : Disjoint actP idleP := by decide +kernel
/-- The list `actL` holds just the pairs that a copy fills. -/
theorem actL_eq : actL.toFinset = actP := by decide +kernel
/-- The list `actL` holds each pair once. -/
theorem actL_nodup : actL.Nodup := by decide +kernel
/-- The list of copies, in the order of their starts, holds just the pairs that a copy fills. -/
theorem xferL_eq : xferL.toFinset = actP := by decide +kernel
/-- Each pair is copied once. -/
theorem xferL_nodup : xferL.Nodup := by decide +kernel
/-- The list of barrier signals holds just the offsets of the peers. -/
theorem barL_eq : barL.toFinset = act := by decide +kernel
/-- Each peer is signalled once. -/
theorem barL_nodup : barL.Nodup := by decide +kernel

omit [FloatOps F] in
/-- A family over all pairs splits into those that a copy fills and the others. -/
theorem pairs_split (Φ : Fin 2 × Fin 12 → sProp 𝕄) : bigSep Finset.univ Φ = iprop(bigSep actP Φ ∗ bigSep idleP Φ) := by
  rw [pairs_cover]; exact bigSep_union pairs_disj
omit [FloatOps F] in
/-- A family over the pairs that a copy fills, written out. -/
theorem act_list (Φ : Fin 2 × Fin 12 → sProp 𝕄) : bigSep actP Φ ⊢ iprop(Φ (0, 1) ∗ Φ (0, 2) ∗ Φ (0, 3) ∗ Φ (0, 4) ∗ Φ (0, 5) ∗ Φ (0, 6) ∗ Φ (0, 7) ∗ Φ (0, 9) ∗ Φ (0, 10) ∗ Φ (0, 11) ∗ Φ (1, 1) ∗ Φ (1, 2) ∗ Φ (1, 3) ∗ Φ (1, 4) ∗ Φ (1, 5) ∗ Φ (1, 6) ∗ Φ (1, 7) ∗ Φ (1, 9) ∗ Φ (1, 10) ∗ Φ (1, 11) ∗ emp) := by
  rw [seqL_of Φ actP actL actL_nodup actL_eq]; exact Entails.of_eq rfl
omit [FloatOps F] in
/-- A family over the other pairs, written out. -/
theorem idle_list (Φ : Fin 2 × Fin 12 → sProp 𝕄) : bigSep idleP Φ ⊢ iprop(Φ (0, 0) ∗ Φ (0, 8) ∗ Φ (1, 0) ∗ Φ (1, 8) ∗ emp) := by
  rw [seqL_of Φ idleP [(0, 0), (0, 8), (1, 0), (1, 8)] (by decide) (by decide)]; exact Entails.of_eq rfl
omit [FloatOps F] in
/-- A family over the peers' offsets, written out. -/
theorem bar_list (Φ : Fin 12 → sProp 𝕄) : bigSep act Φ ⊢ iprop(Φ 1 ∗ Φ 2 ∗ Φ 3 ∗ Φ 4 ∗ Φ 5 ∗ Φ 6 ∗ Φ 7 ∗ Φ 9 ∗ Φ 10 ∗ Φ 11 ∗ emp) := by
  rw [seqL_of Φ act barL barL_nodup barL_eq]; exact Entails.of_eq rfl
omit [FloatOps F] in
/-- The slots of one half, each under the opposite slot's name. -/
theorem act_opp (Φ : Fin 2 × Fin 12 → sProp 𝕄) : bigSep actP Φ ⊢ bigSep act (fun o => iprop(Φ (0, opp o) ∗ Φ (1, opp o))) := by
  rw [bigSep_sep', seqL_of (fun o => Φ (0, opp o)) act barL barL_nodup barL_eq, seqL_of (fun o => Φ (1, opp o)) act barL barL_nodup barL_eq]
  refine (act_list Φ).trans ?_
  iintro ⟨H0_1, H0_2, H0_3, H0_4, H0_5, H0_6, H0_7, H0_9, H0_10, H0_11, H1_1, H1_2, H1_3, H1_4, H1_5, H1_6, H1_7, H1_9, H1_10, H1_11, -⟩
  isplitl [H0_7 H0_6 H0_5 H0_4 H0_3 H0_2 H0_1 H0_11 H0_10 H0_9]
  · iapply (show iprop(Φ (0, 7) ∗ Φ (0, 6) ∗ Φ (0, 5) ∗ Φ (0, 4) ∗ Φ (0, 3) ∗ Φ (0, 2) ∗ Φ (0, 1) ∗ Φ (0, 11) ∗ Φ (0, 10) ∗ Φ (0, 9) ∗ emp) ⊢ seqL (fun o => Φ (0, opp o)) barL from Entails.of_eq rfl)
    isplitl [H0_7]; · iexact H0_7
    isplitl [H0_6]; · iexact H0_6
    isplitl [H0_5]; · iexact H0_5
    isplitl [H0_4]; · iexact H0_4
    isplitl [H0_3]; · iexact H0_3
    isplitl [H0_2]; · iexact H0_2
    isplitl [H0_1]; · iexact H0_1
    isplitl [H0_11]; · iexact H0_11
    isplitl [H0_10]; · iexact H0_10
    isplitl [H0_9]; · iexact H0_9
    iempintro
  · iapply (show iprop(Φ (1, 7) ∗ Φ (1, 6) ∗ Φ (1, 5) ∗ Φ (1, 4) ∗ Φ (1, 3) ∗ Φ (1, 2) ∗ Φ (1, 1) ∗ Φ (1, 11) ∗ Φ (1, 10) ∗ Φ (1, 9) ∗ emp) ⊢ seqL (fun o => Φ (1, opp o)) barL from Entails.of_eq rfl)
    isplitl [H1_7]; · iexact H1_7
    isplitl [H1_6]; · iexact H1_6
    isplitl [H1_5]; · iexact H1_5
    isplitl [H1_4]; · iexact H1_4
    isplitl [H1_3]; · iexact H1_3
    isplitl [H1_2]; · iexact H1_2
    isplitl [H1_1]; · iexact H1_1
    isplitl [H1_11]; · iexact H1_11
    isplitl [H1_10]; · iexact H1_10
    isplitl [H1_9]; · iexact H1_9
    iempintro

/-! ## The tokens -/

/-- The kernel's own semaphores are different. -/
theorem osem_inj : Function.Injective osem := by decide +kernel
/-- The 51 semaphores of a device are different. -/
theorem ksem_inj : Function.Injective ksem := by decide +kernel
/-- The semaphores of all devices are different. -/
theorem kcell_inj : Function.Injective (kcell : Dev nD × Fin 51 → GSem nD τ sig) := by
  rintro ⟨c, k⟩ ⟨c', k'⟩ h
  have h1 : c = c' := congrArg (fun g : GSem nD τ sig => g.1.1) h
  have h2 : k = k' := ksem_inj (congrArg Prod.snd h)
  rw [h1, h2]
/-- All devices' semaphores. -/
def ringCells : Finset (GSem nD τ sig) := Finset.univ.map ⟨kcell, kcell_inj⟩
/-- A token for every cell and every duty name. -/
abbrev tokOf (x : Dev nD × Fin 51 × Fin 12) : GSem nD τ sig × ℕ × Fin 12 := (kcell (x.1, x.2.1), 0, x.2.2)
/-- The tokens' names are different. -/
theorem tokOf_inj : Function.Injective tokOf := by
  rintro ⟨c, k, d⟩ ⟨c', k', d'⟩ h
  have h1 := kcell_inj (congrArg (fun x : GSem nD τ sig × ℕ × Fin 12 => x.1) h)
  have h2 : d = d' := congrArg (fun x : GSem nD τ sig × ℕ × Fin 12 => x.2.2) h
  have h3 : c = c' := congrArg Prod.fst h1
  have h4 : k = k' := congrArg Prod.snd h1
  rw [h2, h3, h4]
/-- The tokens of all duties. -/
def ringToks : Finset (GSem nD τ sig × ℕ × Fin 12) := Finset.univ.map ⟨tokOf, tokOf_inj⟩

/-- The ghost state at the start. -/
def u₀ : UU := (initOf (Pipeline.cells cfgs cellOf_inj) (Pipeline.launchToks cfgs cellOf_inj), initOf ringCells ringToks)

/-- The tokens of device `c`'s own cells. -/
def toks (c : Dev nD) : sProp 𝕄 :=
  iprop(bigSep Finset.univ (fun h : Fin 2 => dutyTok ER (outCell c h) 0 0) ∗ bigSep Finset.univ (fun p : Fin 2 × Fin 12 => dutyTok ER (sendCell c p.1 p.2) 0 0)
    ∗ bigSep Finset.univ (fun p : Fin 2 × Fin 12 => dutyTok ER (recvCell c p.1 p.2) 0 0) ∗ bigSep Finset.univ (fun o : Fin 12 => dutyTok ER (barCell c) 0 o))
/-- The tokens device `c` pays with. -/
def payToks (c : Dev nD) : sProp 𝕄 :=
  iprop(bigSep Finset.univ (fun h : Fin 2 => dutyTok ER (outCell c h) 0 0) ∗ bigSep Finset.univ (fun p : Fin 2 × Fin 12 => dutyTok ER (sendCell c p.1 p.2) 0 0)
    ∗ bigSep Finset.univ (fun p : Fin 2 × Fin 12 => dutyTok ER (recvCell (peer c p.2) p.1 p.2) 0 0) ∗ bigSep Finset.univ (fun o : Fin 12 => dutyTok ER (barCell (peer c o)) 0 o))

omit [FloatOps F] in
/-- A device's tokens, sorted by the kind of semaphore. -/
theorem toks_of (c : Dev nD) : bigSep Finset.univ (fun y : Fin 51 × Fin 12 => (dutyTok ER (kcell (c, y.1)) 0 y.2 : sProp 𝕄)) ⊢ toks c := by
  rw [bigSep_univ_prod]
  refine (Entails.of_eq (cells_split fun s => bigSep Finset.univ fun d : Fin 12 => (dutyTok ER ((c : Thread nD τ), s) 0 d : sProp 𝕄))).trans ?_
  unfold toks
  iintro ⟨H1, H2, H3, H4⟩
  isplitl [H1]
  · iapply (show _ ⊢ bigSep Finset.univ (fun h : Fin 2 => (dutyTok ER (outCell c h) 0 0 : sProp 𝕄)) from bigSep_mono fun h _ => bigSep_elim (Finset.mem_univ 0)); iexact H1
  isplitl [H2]
  · iapply (show _ ⊢ bigSep Finset.univ (fun p : Fin 2 × Fin 12 => (dutyTok ER (sendCell c p.1 p.2) 0 0 : sProp 𝕄)) from bigSep_mono fun p _ => bigSep_elim (Finset.mem_univ 0)); iexact H2
  isplitl [H3]
  · iapply (show _ ⊢ bigSep Finset.univ (fun p : Fin 2 × Fin 12 => (dutyTok ER (recvCell c p.1 p.2) 0 0 : sProp 𝕄)) from bigSep_mono fun p _ => bigSep_elim (Finset.mem_univ 0)); iexact H3
  iexact H4

/-- Stepping by a pair's slot, and by a slot. -/
def swingP : Dev nD × (Fin 2 × Fin 12) ≃ Dev nD × (Fin 2 × Fin 12) :=
  ⟨fun x => (peer x.1 x.2.2, x.2), fun x => (peer x.1 (opp x.2.2), x.2), fun x => Prod.ext (peer_opp x.1 x.2.2) rfl, fun x => Prod.ext (opp_peer x.1 x.2.2) rfl⟩
/-- Every pair of a device and an offset, sent to the peer at that offset and the same offset. -/
def swingO : Dev nD × Fin 12 ≃ Dev nD × Fin 12 :=
  ⟨fun x => (peer x.1 x.2, x.2), fun x => (peer x.1 (opp x.2), x.2), fun x => Prod.ext (peer_opp x.1 x.2) rfl, fun x => Prod.ext (opp_peer x.1 x.2) rfl⟩

omit [FloatOps F] in
/-- The tokens of the receives, dealt from the receivers to the senders. -/
theorem deal_recv : bigSep Finset.univ (fun c : Dev nD => bigSep Finset.univ fun p : Fin 2 × Fin 12 => (dutyTok ER (recvCell c p.1 p.2) 0 0 : sProp 𝕄))
    = bigSep Finset.univ (fun c : Dev nD => bigSep Finset.univ fun p : Fin 2 × Fin 12 => (dutyTok ER (recvCell (peer c p.2) p.1 p.2) 0 0 : sProp 𝕄)) :=
  ((bigSep_univ_prod fun x : Dev nD × (Fin 2 × Fin 12) => (dutyTok ER (recvCell x.1 x.2.1 x.2.2) 0 0 : sProp 𝕄)).symm.trans
    (bigSep_univ_equiv swingP _)).trans (bigSep_univ_prod _)
omit [FloatOps F] in
/-- The tokens of the barrier, dealt from the signalled to the signallers. -/
theorem deal_bar : bigSep Finset.univ (fun c : Dev nD => bigSep Finset.univ fun o : Fin 12 => (dutyTok ER (barCell c) 0 o : sProp 𝕄))
    = bigSep Finset.univ (fun c : Dev nD => bigSep Finset.univ fun o : Fin 12 => (dutyTok ER (barCell (peer c o)) 0 o : sProp 𝕄)) :=
  ((bigSep_univ_prod fun x : Dev nD × Fin 12 => (dutyTok ER (barCell x.1) 0 x.2 : sProp 𝕄)).symm.trans
    (bigSep_univ_equiv swingO _)).trans (bigSep_univ_prod _)
omit [FloatOps F] in
/-- The arrivals' and the barrier's tokens, dealt to their payers. -/
theorem deal : bigSep Finset.univ (fun c : Dev nD => (toks c : sProp 𝕄)) = bigSep Finset.univ (fun c : Dev nD => payToks c) := by
  unfold toks payToks
  rw [bigSep_sep', bigSep_sep', bigSep_sep', bigSep_sep', bigSep_sep', bigSep_sep', deal_recv, deal_bar]

/-! ## The ghost state, made and dealt -/

/-- What the launch makes for device `c`. -/
def G (c : Dev nD) : sProp 𝕄 :=
  iprop(bigSep Finset.univ (fun k : Fin 51 => roundState ER (Rd m) (kcell (c, k)) 0)
    ∗ bigSep Finset.univ (fun k : Fin 51 => iprop(atPos ER (kcell (c, k)) 0 ∅ 0 ∗ reached ER (kcell (c, k)) 0)) ∗ toks c)
/-- Device `c`'s positions. -/
def posns (c : Dev nD) : sProp 𝕄 := bigSep Finset.univ (fun k : Fin 51 => atPos ER (kcell (c, k)) 0 ∅ 0)
/-- What device `c` starts with. -/
def G' (c : Dev nD) : sProp 𝕄 := iprop((∃ K, records m K) ∗ posns c ∗ payToks c)

/-- The initial ghost state gives every device its share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 51 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
/-- Outside the kernel's scope lies one semaphore, the barrier's, at zero. -/
theorem unscopedSems0_eq (c : Dev nD) : (unscopedSems0 c : sProp 𝕄) = semVal (barCell c) 0 := by
  unfold unscopedSems0; rw [bigSep_eq_bigSepL_of_eq [SemLoc.reg barrier0] (by decide) (by decide)]; rfl
set_option backward.proofsInPublic true in
/-- The number of one of the kernel's own semaphores among all 51. -/
def kOwn (k : Fin 50) : Fin 51 := ⟨k.val, by omega⟩
/-- Different own semaphores have different numbers. -/
theorem kOwn_inj : Function.Injective kOwn := by decide +kernel
/-- The 51 semaphores are the kernel's own and the barrier's. -/
theorem own_cover : (Finset.univ : Finset (Fin 51)) = Finset.univ.map ⟨kOwn, kOwn_inj⟩ ∪ {50} := by decide +kernel
/-- The barrier's semaphore is not one of the kernel's own. -/
theorem own_disj : Disjoint (Finset.univ.map ⟨kOwn, kOwn_inj⟩) ({50} : Finset (Fin 51)) := by decide +kernel
/-- The two numberings of the kernel's own semaphores agree. -/
theorem ksem_own : ∀ k, ksem (kOwn k) = osem k := by decide +kernel
omit [FloatOps F] in
/-- The kernel's own semaphores and the barrier's are the cells' semaphores. -/
theorem sems0_eq (c : Dev nD) :
    iprop(Pipeline.ownSems0 (Ix := ℕ) (Name := ℕ) (U := UU) (Lvl := ℕ) (Val := Elt F) (τ := τ) osem c ∗ unscopedSems0 c)
      = (bigSep Finset.univ fun k : Fin 51 => semVal (kcell (c, k)) 0 : sProp 𝕄) := by
  rw [unscopedSems0_eq, own_cover, bigSep_union own_disj, bigSep_map, bigSep_singleton]
  exact congrArg₂ BI.sep (bigSep_congr fun k _ => congrArg (fun s => (semVal ((c : Thread nD τ), s) 0 : sProp 𝕄)) (ksem_own k).symm)
    (congrArg (fun s => (semVal ((c : Thread nD τ), s) 0 : sProp 𝕄)) ksem_bar.symm)

/-- A device's semaphores at zero and its ghost state give the invariants of its cells. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop(bigSep Finset.univ (fun k : Fin 51 => iprop(∃ κ : ℕ, cellInv ER (Rd m) κ (kcell (c, k))))
          ∗ bigSep Finset.univ (fun k : Fin 51 => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 51 => semVal (kcell (c, k)) 0) ∗ bigSep Finset.univ fun k : Fin 51 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent assertion goes to every member of a family. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records, positions and tokens are what a device starts with. -/
theorem G'_intro (K : Dev nD × Fin 51 → ℕ) (c : Dev nD) : iprop(records m K ∗ (posns c ∗ payToks c)) ⊢ G' m c := by
  unfold G'
  iintro ⟨#HR, H⟩
  isplitr; · iexists K; iexact HR
  iexact H

/-- The invariants of all devices become records that every device has, beside its own positions and tokens. -/
theorem regroup :
    bigSep Finset.univ (fun c : Dev nD => iprop(bigSep Finset.univ (fun k : Fin 51 => iprop(∃ κ : ℕ, cellInv ER (Rd m) κ (kcell (c, k))))
          ∗ bigSep Finset.univ (fun k : Fin 51 => iprop(atPos ER (kcell (c, k)) 0 ∅ 0 ∗ reached ER (kcell (c, k)) 0)) ∗ toks c)) ⊢ (bigSep Finset.univ (G' m) : sProp 𝕄) := by
  rw [bigSep_sep', bigSep_sep', ← bigSep_univ_prod (fun p : Dev nD × Fin 51 => iprop(∃ κ : ℕ, cellInv ER (Rd m) κ (kcell p))),
    bigSep_congr (s := Finset.univ) (fun (c : Dev nD) _ => bigSep_sep' Finset.univ (fun k : Fin 51 => (atPos ER (kcell (c, k)) 0 ∅ 0 : sProp 𝕄)) (fun k => reached ER (kcell (c, k)) 0)),
    bigSep_sep', ← bigSep_univ_prod (fun p : Dev nD × Fin 51 => (reached ER (kcell p) 0 : sProp 𝕄)), deal]
  iintro ⟨HI, ⟨Hat, #HR⟩, Htok⟩
  ihave HK := (BI.bigSep_exists_pi Finset.univ (fun (p : Dev nD × Fin 51) (κ : ℕ) => (cellInv ER (Rd m) κ (kcell p) : sProp 𝕄))) $$ HI
  icases HK with ⟨%K, #HI⟩
  iapply (spread (R := records m K) fun c _ => G'_intro m K c)
  isplitr
  · unfold records; rw [bigSep_sep']
    isplitl; · iexact HI
    iexact HR
  · iapply (Entails.of_eq (bigSep_sep' Finset.univ (fun c : Dev nD => (posns c : sProp 𝕄)) payToks).symm)
    isplitl [Hat]; · iexact Hat
    iexact Htok

/-- The semaphores and the ghost state of every device, put under invariants and dealt. -/
theorem glob : bigSep Finset.univ (fun c => iprop(Pipeline.ownSems0 (Ix := ℕ) (Name := ℕ) (U := UU) (Lvl := ℕ) (Val := Elt F) (τ := τ) osem c ∗ unscopedSems0 c ∗ G m c))
    ⊢ (|={Set.univ}=> bigSep Finset.univ (G' m) : sProp 𝕄) :=
  ((bigSep_mono fun c _ => core_alloc m c).trans (bigSep_fupd _ _)).trans (BI.fupd_mono (regroup m))

/-! ## The launch credit -/

omit [FloatOps F] in
/-- The credit of the barrier units owed to a device. -/
theorem cred_bar (c : Dev nD) (l : List (Fin 12)) : (Pipeline.launchCred (fun d => owB d l) c : sProp 𝕄) ⊢ cred (tallyAt (barCell c) 1 l.length) := by
  induction l with
  | nil =>
    show (Pipeline.launchCred (fun _ : Dev nD => (0 : CellTallies nD τ sig ℕ)) c : sProp 𝕄) ⊢ cred (tallyAt (barCell c) 1 0)
    rw [Pipeline.launchCred_zero, tallyAt_zero, cred_zero]
  | cons o l ih =>
    show (Pipeline.launchCred (fun d => owB d l + tallyAt (barCell (peer d o)) 1 1) c : sProp 𝕄) ⊢ cred (tallyAt (barCell c) 1 (l.length + 1))
    rw [Pipeline.launchCred_add, ← tallyAt_add]
    iintro ⟨H1, H2⟩
    iapply (cred_add _ _).2
    isplitl [H1]; · iapply ih; iexact H1
    iapply (Pipeline.launchCred_tallyAt (.reg barrier0) (fun d => peer d o) (fun d => peer d (opp o)) (fun d => opp_peer d o) (fun d => peer_opp d o) 1 1 c)
    iexact H2
omit [FloatOps F] in
/-- The credit of the transfers owed to a device. -/
theorem cred_xfer (c : Dev nD) (l : List (Fin 2 × Fin 12)) :
    (Pipeline.launchCred (fun d => owX d l) c : sProp 𝕄) ⊢ seqL (fun p => cred (tallyAt (recvCell c p.1 p.2) (rix p.2) NX)) l := by
  induction l with
  | nil =>
    show (Pipeline.launchCred (fun _ : Dev nD => (0 : CellTallies nD τ sig ℕ)) c : sProp 𝕄) ⊢ iprop(emp)
    exact Entails.of_eq (Pipeline.launchCred_zero c)
  | cons p l ih =>
    show (Pipeline.launchCred (fun d => owX d l + tallyAt (recvCell (peer d p.2) p.1 p.2) (rix p.2) NX) c : sProp 𝕄) ⊢ _
    rw [Pipeline.launchCred_add, seqL_cons]
    iintro ⟨H1, H2⟩
    isplitl [H2]
    · iapply (Pipeline.launchCred_tallyAt (.dma (recvS p.1 p.2)) (fun d => peer d p.2) (fun d => peer d (opp p.2)) (fun d => opp_peer d p.2) (fun d => peer_opp d p.2) (rix p.2) NX c)
      iexact H2
    iapply ih; iexact H1
/-- Device `c`'s credit at launch. -/
def creds (c : Dev nD) : sProp 𝕄 :=
  iprop(bigSep actP (fun p => cred (tallyAt (recvCell c p.1 p.2) (rix p.2) NX)) ∗ cred (tallyAt (barCell c) 1 10))
omit [FloatOps F] in
/-- What the launch credits a device, sorted by semaphore. -/
theorem creds_of (c : Dev nD) : (Pipeline.launchCred O₀ c : sProp 𝕄) ⊢ creds c := by
  show (Pipeline.launchCred (fun d => owX d xferL + owB d barL) c : sProp 𝕄) ⊢ creds c
  rw [Pipeline.launchCred_add]
  unfold creds
  rw [seqL_of (fun p : Fin 2 × Fin 12 => (cred (tallyAt (recvCell c p.1 p.2) (rix p.2) NX) : sProp 𝕄)) actP xferL xferL_nodup xferL_eq]
  iintro ⟨H1, H2⟩
  isplitl [H1]; · iapply (cred_xfer (F := F) c xferL); iexact H1
  iapply (show (Pipeline.launchCred (fun d => owB d barL) c : sProp 𝕄) ⊢ cred (tallyAt (barCell c) 1 10) from cred_bar (F := F) c barL)
  iexact H2

end Cert.LnProof

end
-- ==== Proof.Run.lean ====
/-
# The run

The body's obligation, the launch, and the run of the whole mesh: every device's result ends at the contents the
values' description names, its arguments are unchanged and every semaphore is at zero.
-/
module

public import proofs.«01_k».proof.Proof.Deal
public import proofs.«01_k».proof.Proof.Gen.KernelIdeal.Points
public import Idealize.ShloMosaic.Lib.Pipeline.CollectiveSegs

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable {F : FTy → Type} [FloatOps F]

local notation "𝕄" => MT nD τ sig ℕ (Elt F) ℕ UU ℕ

variable (m : (ℓ : Loc nD τ sig) → Buf (Elt F) ℓ)

/-! ## From what is dealt to what the body starts with -/

omit [FloatOps F] in
/-- The tokens of the copies, in the order in which the body uses them. -/
theorem tok_family (c : Dev nD) :
    iprop(bigSep Finset.univ (fun p : Fin 2 × Fin 12 => dutyTok ER (sendCell c p.1 p.2) 0 0) ∗ bigSep Finset.univ (fun p : Fin 2 × Fin 12 => dutyTok ER (recvCell (peer c p.2) p.1 p.2) 0 0)
        ∗ bigSep Finset.univ (fun p : Fin 2 × Fin 12 => atPos ER (sendCell c p.1 p.2) 0 ∅ 0))
      ⊢ (iprop(bigSep actP (fun p => tokT (F := F) c p.1 p.2) ∗ bigSep idleP (fun p => atPos ER (sendCell c p.1 p.2) 0 ∅ 0)) : sProp 𝕄) := by
  rw [pairs_split (fun p : Fin 2 × Fin 12 => dutyTok ER (sendCell c p.1 p.2) 0 0), pairs_split (fun p : Fin 2 × Fin 12 => dutyTok ER (recvCell (peer c p.2) p.1 p.2) 0 0),
    pairs_split (fun p : Fin 2 × Fin 12 => atPos ER (sendCell c p.1 p.2) 0 ∅ 0)]
  unfold tokT
  rw [bigSep_sep', bigSep_sep']
  iintro ⟨⟨H1, -⟩, ⟨H2, -⟩, H3, H4⟩
  isplitr [H4]; rotate_left; · iexact H4
  isplitl [H1]; · iexact H1
  isplitl [H2]; · iexact H2
  iexact H3
omit [FloatOps F] in
/-- The receivers' credits and positions, pair by pair. -/
theorem recv_family (c : Dev nD) :
    iprop(bigSep actP (fun p => cred (tallyAt (recvCell c p.1 p.2) (rix p.2) NX)) ∗ bigSep Finset.univ (fun p : Fin 2 × Fin 12 => atPos ER (recvCell c p.1 p.2) 0 ∅ 0))
      ⊢ (iprop(bigSep actP (fun p => rT (F := F) c p.1 p.2) ∗ bigSep idleP (fun p => atPos ER (recvCell c p.1 p.2) 0 ∅ 0)) : sProp 𝕄) := by
  rw [pairs_split (fun p : Fin 2 × Fin 12 => atPos ER (recvCell c p.1 p.2) 0 ∅ 0)]
  unfold rT
  rw [bigSep_sep']
  iintro ⟨H1, H3, H4⟩
  isplitr [H4]; rotate_left; · iexact H4
  isplitl [H1]; · iexact H1
  iexact H3
omit [FloatOps F] in
/-- The tokens of the barrier with the slots that its signals hand over. -/
theorem bar_family (c : Dev nD) :
    iprop(bigSep Finset.univ (fun o : Fin 12 => dutyTok ER (barCell (peer c o)) 0 o) ∗ bigSep actP (fun p => slotE (F := F) c p.1 p.2))
      ⊢ (bigSep act (fun o => barT (F := F) c o) : sProp 𝕄) := by
  unfold barT
  rw [bigSep_sep']
  iintro ⟨H1, H2⟩
  isplitl [H1]
  · iapply (show bigSep Finset.univ (fun o : Fin 12 => (dutyTok ER (barCell (peer c o)) 0 o : sProp 𝕄)) ⊢ bigSep act (fun o : Fin 12 => (dutyTok ER (barCell (peer c o)) 0 o : sProp 𝕄)) from
      bigSep_subset (Finset.subset_univ act))
    iexact H1
  · iapply (act_opp fun p => slotE (F := F) c p.1 p.2); iexact H2

/-! ## The semaphores at the end -/

/-- A cell of an unused slot is closed with no round run. -/
theorem idle_close (K : Dev nD × Fin 51 → ℕ) (c : Dev nD) :
    iprop(records m K ∗ bigSep idleP (fun p => atPos ER (sendCell c p.1 p.2) 0 ∅ 0) ∗ bigSep idleP (fun p => atPos ER (recvCell c p.1 p.2) 0 ∅ 0))
      ⊢ |={Set.univ}=> iprop(bigSep idleP (fun p => semVal (sendCell c p.1 p.2) 0) ∗ bigSep idleP (fun p => semVal (recvCell c p.1 p.2) 0)) := by
  have hi : ∀ p ∈ idleP, p.2 ∉ act := by decide +kernel
  have hS : iprop(records m K ∗ bigSep idleP (fun p => atPos ER (sendCell c p.1 p.2) 0 ∅ 0)) ⊢ |={Set.univ}=> bigSep idleP (fun p => semVal (sendCell c p.1 p.2) 0) :=
    (spread fun p hp => by
      show iprop(records m K ∗ atPos ER (sendCell c p.1 p.2) 0 ∅ 0) ⊢ |={Set.univ}=> semVal (sendCell c p.1 p.2) 0
      iintro ⟨#HR, Hat⟩
      ihave HC := (records_at m K c _ (ksem_send p.1 p.2)) $$ HR
      icases HC with ⟨HC, -⟩
      iapply (Rounds.cell_close ER (Rd m) (κ := K (c, kSend p.1 p.2)) (Set.mem_univ _) (fun h => h) (R := 0) fun r _ => by
        rcases Nat.eq_zero_or_pos r with rfl | h
        · rw [duties_at m c (kind_send p.1 p.2)]; exact if_neg (hi p hp)
        · exact duties_later m _ r h)
      isplitl [HC]; · iexact HC
      iexact Hat).trans (bigSep_fupd _ _)
  have hV : iprop(records m K ∗ bigSep idleP (fun p => atPos ER (recvCell c p.1 p.2) 0 ∅ 0)) ⊢ |={Set.univ}=> bigSep idleP (fun p => semVal (recvCell c p.1 p.2) 0) :=
    (spread fun p hp => by
      show iprop(records m K ∗ atPos ER (recvCell c p.1 p.2) 0 ∅ 0) ⊢ |={Set.univ}=> semVal (recvCell c p.1 p.2) 0
      iintro ⟨#HR, Hat⟩
      ihave HC := (records_at m K c _ (ksem_recv p.1 p.2)) $$ HR
      icases HC with ⟨HC, -⟩
      iapply (Rounds.cell_close ER (Rd m) (κ := K (c, kRecv p.1 p.2)) (Set.mem_univ _) (fun h => h) (R := 0) fun r _ => by
        rcases Nat.eq_zero_or_pos r with rfl | h
        · rw [duties_at m c (kind_recv p.1 p.2)]; exact if_neg (hi p hp)
        · exact duties_later m _ r h)
      isplitl [HC]; · iexact HC
      iexact Hat).trans (bigSep_fupd _ _)
  iintro ⟨#HR, H1, H2⟩
  imod hS $$ [H1] with H1
  · isplitr; · iexact HR
    iexact H1
  imod hV $$ [H2] with H2
  · isplitr; · iexact HR
    iexact H2
  imodintro
  isplitl [H1]; · iexact H1
  iexact H2

/-- The output semaphores are different. -/
theorem outS_inj : Function.Injective fun h : Fin 2 => (SemLoc.dma (outS h) : SemLoc sig) := by decide +kernel
/-- The send semaphores are different. -/
theorem sendS_inj : Function.Injective fun p : Fin 2 × Fin 12 => (SemLoc.dma (sendS p.1 p.2) : SemLoc sig) := by decide +kernel
/-- The receive semaphores are different. -/
theorem recvS_inj : Function.Injective fun p : Fin 2 × Fin 12 => (SemLoc.dma (recvS p.1 p.2) : SemLoc sig) := by decide +kernel
/-- The list of the semaphores that the body leaves at zero holds each once. -/
theorem closedL_nodup : closedL.Nodup := by decide +kernel
/-- That list holds the output semaphores, those of the copies and the barrier's. -/
theorem closed_cover : closedL.toFinset = Finset.univ.map ⟨_, outS_inj⟩ ∪ (actP.map ⟨_, sendS_inj⟩ ∪ (actP.map ⟨_, recvS_inj⟩ ∪ {.reg barrier0})) := by decide +kernel
/-- No output semaphore in the list is of another kind. -/
theorem closed_disj1 : Disjoint (Finset.univ.map ⟨_, outS_inj⟩) (actP.map ⟨_, sendS_inj⟩ ∪ (actP.map ⟨_, recvS_inj⟩ ∪ {.reg barrier0})) := by decide +kernel
/-- No send semaphore in the list is a receive semaphore or the barrier's. -/
theorem closed_disj2 : Disjoint (actP.map ⟨_, sendS_inj⟩) (actP.map ⟨_, recvS_inj⟩ ∪ {.reg barrier0}) := by decide +kernel
/-- No receive semaphore in the list is the barrier's. -/
theorem closed_disj3 : Disjoint (actP.map ⟨_, recvS_inj⟩) ({.reg barrier0} : Finset (SemLoc sig)) := by decide +kernel

omit [FloatOps F] in
/-- The semaphores waited at, by their use. -/
theorem zs_closed (c : Dev nD) : zs (F := F) c closedL
    = iprop(bigSep Finset.univ (fun h : Fin 2 => semVal (outCell c h) 0) ∗ bigSep actP (fun p => semVal (sendCell c p.1 p.2) 0)
      ∗ bigSep actP (fun p => semVal (recvCell c p.1 p.2) 0) ∗ semVal (barCell c) 0) := by
  unfold zs
  rw [← seqL_eq _ closedL closedL_nodup, closed_cover, bigSep_union closed_disj1, bigSep_union closed_disj2, bigSep_union closed_disj3, bigSep_map, bigSep_map, bigSep_map, bigSep_singleton]
  rfl

omit [FloatOps F] in
/-- The semaphores waited at and those of the unused slots are all of them. -/
theorem zs_all (c : Dev nD) :
    iprop(zs (F := F) c closedL ∗ bigSep idleP (fun p => semVal (sendCell c p.1 p.2) 0) ∗ bigSep idleP (fun p => semVal (recvCell c p.1 p.2) 0))
      ⊢ iprop(Pipeline.ownSems0 (Ix := ℕ) (Name := ℕ) (U := UU) (Lvl := ℕ) (Val := Elt F) (τ := τ) osem c ∗ unscopedSems0 c) := by
  rw [sems0_eq]
  refine .trans ?_ (Entails.of_eq (cells_split fun s => (semVal ((c : Thread nD τ), s) 0 : sProp 𝕄)).symm)
  rw [zs_closed,
    pairs_split fun p : Fin 2 × Fin 12 => (semVal (sendCell c p.1 p.2) 0 : sProp 𝕄), pairs_split fun p : Fin 2 × Fin 12 => (semVal (recvCell c p.1 p.2) 0 : sProp 𝕄)]
  iintro ⟨⟨H1, H2, H3, H4⟩, H5, H6⟩
  isplitl [H1]; · iexact H1
  isplitl [H2 H5]
  · isplitl [H2]; · iexact H2
    iexact H5
  isplitl [H3 H6]
  · isplitl [H3]; · iexact H3
    iexact H6
  iexact H4

/-! ## The proof data -/

/-- What a device has at the start of the call, beside its scratch buffers. -/
def start (c : Dev nD) : sProp 𝕄 := iprop(G' m c ∗ creds c ∗ levAts (L 4) lv ∗ rowsE (F := F) c 0 ∗ rowsE (F := F) c 1)
/-- The kernel's own two buffers with whatever they hold. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- What a device has at the start of the body. -/
def Φ₀ (c : Dev nD) : sProp 𝕄 := iprop(start m c ∗ scr (F := F) c)
/-- What the body leaves: the result, every semaphore at zero, its buffers. -/
def Φ₁ (c : Dev nD) : sProp 𝕄 :=
  iprop((((c : Thread nD τ).loc main_v1) ↦{fullShare} resF m c)
    ∗ (Pipeline.ownSems0 (Ix := ℕ) (Name := ℕ) (U := UU) (Lvl := ℕ) (Val := Elt F) (τ := τ) osem c ∗ unscopedSems0 c) ∗ scr (F := F) c)

variable (ρ : Dev nD → PrngReg)

/-- The state at the start. -/
def s₀ : MemSt nD τ sig (Elt F) := ⟨m, fun _ => 0, ρ⟩

/-- The data of the one call: what its windows hold and what its steps keep. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => tstg m c
    | ⟨2, _⟩ => wsstg m c
    | ⟨3, _⟩ => whstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- Owning a whole buffer is the points-to of its contents. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer that holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m c ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- What the body ends with. -/
def bodyPost (c : Dev nD) : sProp 𝕄 :=
  iprop(Φ₁ m c ∗ (dats m ρ 0 c).owesAt 0 t0_0.succ ∗ stg c cc0_stg0_0 (xstg m c) ∗ stg c cc0_stg1_0 (tstg m c)
    ∗ stg c cc0_stg2_0 (wsstg m c) ∗ stg c cc0_stg3_0 (whstg m c))

/-- What the body leaves, put together. -/
theorem body_exit (c : Dev nD) :
    iprop((ow (F := F) c 20 ∗ zs (F := F) c closedL ∗ xP m c ∗ tP m c ∗ wsP m c ∗ whP m c ∗ lowP m c 0 ∗ highP m c 0 ∗ lowP m c 1 ∗ highP m c 1 ∗ outPay m c 0 ∗ outPay m c 1)
        ∗ bigSep idleP (fun p => semVal (sendCell c p.1 p.2) 0) ∗ bigSep idleP (fun p => semVal (recvCell c p.1 p.2) 0))
      ⊢ bodyPost m ρ c := by
  iintro ⟨⟨Hw, Hz, Hx, Ht, Hws, Hwh, Hl0, Hh0, Hl1, Hh1, Ho0, Ho1⟩, Hi1, Hi2⟩
  ihave Hout := (out_whole m c) $$ [Ho0 Ho1]
  · isplitl [Ho0]; · iexact Ho0
    iexact Ho1
  icases Hout with ⟨Hob, Hres⟩
  ihave Hcm := (comm_whole m c) $$ [Hl0 Hh0 Hl1 Hh1]
  · isplitl [Hl0]; · iexact Hl0
    isplitl [Hh0]; · iexact Hh0
    isplitl [Hl1]; · iexact Hl1
    iexact Hh1
  ihave Hs := (zs_all (F := F) c) $$ [Hz Hi1 Hi2]
  · isplitl [Hz]; · iexact Hz
    isplitl [Hi1]; · iexact Hi1
    iexact Hi2
  unfold bodyPost Φ₁ scr Dat.owesAt Pipeline.owesWithin ow xP tP wsP whP
  rw [show (dats m ρ 0 c).owed t0_0.succ = 0 from rfl]
  icases Hw with ⟨%W, Hw⟩
  isplitl [Hres Hob Hcm Hs]
  · isplitl [Hres]; · iexact Hres
    isplitl [Hs]; · iexact Hs
    isplitl [Hob]; · iexact Hob
    iexact Hcm
  isplitl [Hw]
  · iexists W
    isplitr; · ipureintro; exact fun _ _ => Or.inl trivial
    iexact Hw
  isplitl [Hx]
  · iexists xstg m c; isplitr; · (ipureintro; rfl)
    iexact Hx
  isplitl [Ht]
  · iexists tstg m c; isplitr; · (ipureintro; rfl)
    iexact Ht
  isplitl [Hws]
  · iexists wsstg m c; isplitr; · (ipureintro; rfl)
    iexact Hws
  iexists whstg m c; isplitr; · (ipureintro; rfl)
  iexact Hwh

set_option maxHeartbeats 1000000 in
/-- The body, from what is dealt to what is given back. -/
theorem sound_body (c : Dev nD) :
    bodyPre m ρ c ⊢ wp frame (wpE (defs₀ (F := F)) 𝒱₀ (c : Thread nD τ) none) Set.univ
      (cc0_body xM (Memref.isWhole_whole _) tM (Memref.isWhole_whole _) wsM (Memref.isWhole_whole _) whM (Memref.isWhole_whole _) resM (Memref.isWhole_whole _)
        obufM (Memref.isWhole_whole _) commM (Memref.isWhole_whole _) cc0_scratch2 cc0_scratch3 cc0_scratch4) (fun _ => bodyPost m ρ c) := by
  unfold bodyPre Φ₀ start scr G' creds posns payToks
  iintro ⟨⟨⟨⟨⟨%K, #HR⟩, Hpos, HtO, HtS, HtV, HtB⟩, ⟨HcV, HcB⟩, #Hlev, Hr0, Hr1⟩, ⟨%fo, Hob⟩, ⟨%fc, Hcm⟩⟩, Ho, ⟨%d0, %g0, %hg0, Hx⟩, ⟨%d1, %g1, %hg1, Ht⟩, ⟨%d2, %g2, %hg2, Hws⟩, ⟨%d3, %g3, %hg3, Hwh⟩⟩
  have hx : g0 = xstg m c := by rw [hg0]; unfold Dat.before; rw [if_pos (fetch0_0 t0_0)]; rfl
  have ht : g1 = tstg m c := by rw [hg1]; unfold Dat.before; rw [if_pos (fetch0_1 t0_0)]; rfl
  have hws : g2 = wsstg m c := by rw [hg2]; unfold Dat.before; rw [if_pos (fetch0_2 t0_0)]; rfl
  have hwh : g3 = whstg m c := by rw [hg3]; unfold Dat.before; rw [if_pos (fetch0_3 t0_0)]; rfl
  clear hg0 hg1 hg2 hg3
  subst hx ht hws hwh
  unfold Dat.owesAt Pipeline.owesWithin
  icases Ho with ⟨%W, %hW, HO⟩
  ihave Hp := (Entails.of_eq (cells_split fun s => (atPos ER ((c : Thread nD τ), s) 0 ∅ 0 : sProp 𝕄))) $$ Hpos
  icases Hp with ⟨HpO, HpS, HpV, HpB⟩
  ihave Hsl := (comm_slots c fc) $$ Hcm
  ihave Hsl' := (Entails.of_eq (pairs_split fun p => slotE (F := F) c p.1 p.2)) $$ Hsl
  icases Hsl' with ⟨Hsl, Hsi⟩
  ihave Hhf := (obuf_halves c fo) $$ Hob
  icases Hhf with ⟨Hh0, Hh1⟩
  ihave HT := (tok_family (F := F) c) $$ [HtS HtV HpS]
  · isplitl [HtS]; · iexact HtS
    isplitl [HtV]; · iexact HtV
    iexact HpS
  icases HT with ⟨HT, HiS⟩
  ihave HV := (recv_family (F := F) c) $$ [HcV HpV]
  · isplitl [HcV]; · iexact HcV
    iexact HpV
  icases HV with ⟨HV, HiV⟩
  ihave HB := (bar_family (F := F) c) $$ [HtB Hsl]
  · isplitl [HtB]; · iexact HtB
    iexact Hsl
  imod (idle_close m K c) $$ [HiS HiV] with ⟨HzS, HzV⟩
  · isplitr; · iexact HR
    isplitl [HiS]; · iexact HiS
    iexact HiV
  ihave HO1 := (Entails.of_eq (bigSep_univ_fin2 fun h : Fin 2 => (dutyTok ER (outCell c h) 0 0 : sProp 𝕄))) $$ HtO
  icases HO1 with ⟨HtO0, HtO1⟩
  ihave HO2 := (Entails.of_eq (bigSep_univ_fin2 fun h : Fin 2 => (atPos ER (outCell c h) 0 ∅ 0 : sProp 𝕄))) $$ HpO
  icases HO2 with ⟨HpO0, HpO1⟩
  ihave HB' := (bar_list fun o => barT (F := F) c o) $$ HB
  icases HB' with ⟨Hb1, Hb2, Hb3, Hb4, Hb5, Hb6, Hb7, Hb9, Hb10, Hb11, -⟩
  ihave HT' := (act_list fun p => tokT (F := F) c p.1 p.2) $$ HT
  icases HT' with ⟨Ht0_1, Ht0_2, Ht0_3, Ht0_4, Ht0_5, Ht0_6, Ht0_7, Ht0_9, Ht0_10, Ht0_11, Ht1_1, Ht1_2, Ht1_3, Ht1_4, Ht1_5, Ht1_6, Ht1_7, Ht1_9, Ht1_10, Ht1_11, -⟩
  ihave HV' := (act_list fun p => rT (F := F) c p.1 p.2) $$ HV
  icases HV' with ⟨Hv0_1, Hv0_2, Hv0_3, Hv0_4, Hv0_5, Hv0_6, Hv0_7, Hv0_9, Hv0_10, Hv0_11, Hv1_1, Hv1_2, Hv1_3, Hv1_4, Hv1_5, Hv1_6, Hv1_7, Hv1_9, Hv1_10, Hv1_11, -⟩
  ihave Hsi' := (idle_list fun p => slotE (F := F) c p.1 p.2) $$ Hsi
  icases Hsi' with ⟨Hs0_0, Hs0_8, Hs1_0, Hs1_8, -⟩
  iapply (body_run m K c _ _ _ _ _ _ _) $$ [-HzS HzV]
  · isplitr; · iexact HR
    isplitr; · iexact Hlev
    isplitl [HO]; · (unfold owBar; iexists W; iexact HO)
    isplitr; · (iapply (show iprop(emp) ⊢ zs (F := F) c [] from Entails.of_eq rfl); iempintro)
    isplitl [Hx]; · (unfold xP; iexact Hx)
    isplitl [Ht]; · (unfold tP; iexact Ht)
    isplitl [Hws]; · (unfold wsP; iexact Hws)
    isplitl [Hwh]; · (unfold whP; iexact Hwh)
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb9]; · iexact Hb9
    isplitl [Hb10]; · iexact Hb10
    isplitl [Hb11]; · iexact Hb11
    isplitl [HcB HpB]
    · unfold barW
      isplitl [HcB]; · iexact HcB
      iexact HpB
    isplitl [Hs0_0]; · iexact Hs0_0
    isplitl [Hs0_8]; · iexact Hs0_8
    isplitl [Hs1_0]; · iexact Hs1_0
    isplitl [Hs1_8]; · iexact Hs1_8
    isplitl [Ht0_1]; · iexact Ht0_1
    isplitl [Ht0_2]; · iexact Ht0_2
    isplitl [Ht0_3]; · iexact Ht0_3
    isplitl [Ht0_4]; · iexact Ht0_4
    isplitl [Ht0_5]; · iexact Ht0_5
    isplitl [Ht0_6]; · iexact Ht0_6
    isplitl [Ht0_7]; · iexact Ht0_7
    isplitl [Ht0_9]; · iexact Ht0_9
    isplitl [Ht0_10]; · iexact Ht0_10
    isplitl [Ht0_11]; · iexact Ht0_11
    isplitl [Ht1_1]; · iexact Ht1_1
    isplitl [Ht1_2]; · iexact Ht1_2
    isplitl [Ht1_3]; · iexact Ht1_3
    isplitl [Ht1_4]; · iexact Ht1_4
    isplitl [Ht1_5]; · iexact Ht1_5
    isplitl [Ht1_6]; · iexact Ht1_6
    isplitl [Ht1_7]; · iexact Ht1_7
    isplitl [Ht1_9]; · iexact Ht1_9
    isplitl [Ht1_10]; · iexact Ht1_10
    isplitl [Ht1_11]; · iexact Ht1_11
    isplitl [Hv0_1]; · iexact Hv0_1
    isplitl [Hv0_2]; · iexact Hv0_2
    isplitl [Hv0_3]; · iexact Hv0_3
    isplitl [Hv0_4]; · iexact Hv0_4
    isplitl [Hv0_5]; · iexact Hv0_5
    isplitl [Hv0_6]; · iexact Hv0_6
    isplitl [Hv0_7]; · iexact Hv0_7
    isplitl [Hv0_9]; · iexact Hv0_9
    isplitl [Hv0_10]; · iexact Hv0_10
    isplitl [Hv0_11]; · iexact Hv0_11
    isplitl [Hv1_1]; · iexact Hv1_1
    isplitl [Hv1_2]; · iexact Hv1_2
    isplitl [Hv1_3]; · iexact Hv1_3
    isplitl [Hv1_4]; · iexact Hv1_4
    isplitl [Hv1_5]; · iexact Hv1_5
    isplitl [Hv1_6]; · iexact Hv1_6
    isplitl [Hv1_7]; · iexact Hv1_7
    isplitl [Hv1_9]; · iexact Hv1_9
    isplitl [Hv1_10]; · iexact Hv1_10
    isplitl [Hv1_11]; · iexact Hv1_11
    isplitl [Hh0]; · iexact Hh0
    isplitl [Hh1]; · iexact Hh1
    isplitl [Hr0]; · iexact Hr0
    isplitl [Hr1]; · iexact Hr1
    isplitl [HtO0 HpO0]
    · unfold outT
      isplitl [HtO0]; · iexact HtO0
      iexact HpO0
    unfold outT
    isplitl [HtO1]; · iexact HtO1
    iexact HpO1
  iintro H
  iapply (body_exit m ρ c)
  isplitl [H]; · iexact H
  isplitl [HzS]; · iexact HzS
  iexact HzV

set_option maxRecDepth 20000 in
/-- The library's body obligation on core `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ (c : Thread nD τ) none) Set.univ (bodyAt0 t0_0) (fun _ => bodyPost m ρ c)
  exact sound_body m ρ c

/-! ## The launch -/

/-- The numbering of the kernel's own semaphores is complete. -/
theorem ownSemFacts : Pipeline.OwnSemFacts cfg0.spec osem := by decide +kernel

/-- Every window is held in full. -/
theorem share_eq (c : Dev nD) (w : Fin cfg0.W) : (dats m ρ 0 c).share w = fullShare := by unfold Dat.share; split <;> rfl

/-- What the launch gives is what a device has at the start. -/
theorem start_intro (c : Dev nD) :
    iprop(Pipeline.unscopedRestP Pipeline.Prefetch.none cfg0.spec c (fun b => m ((c : Thread nD τ).loc b)) ∗ levAts (L 4) lv
        ∗ Pipeline.launchCred O₀ c ∗ prngReg c (ρ c) ∗ G' m c)
      ⊢ |={Set.univ}=> iprop(start m c ∗ emp) := by
  rw [Pipeline.unscopedRestP_none, show Pipeline.unscopedRest cfg0.spec c (fun b => m ((c : Thread nD τ).loc b)) = _ from unscopedRest0_eq c _]
  iintro ⟨Hv, Hlev, Hcr, -, HG⟩
  ihave Hc := (creds_of (F := F) c) $$ Hcr
  ihave Hrows := (res_halves c _) $$ Hv
  icases Hrows with ⟨H0, H1⟩
  imodintro
  unfold start
  isplitl
  · isplitl [HG]; · iexact HG
    isplitl [Hc]; · iexact Hc
    isplitl [Hlev]; · iexact Hlev
    isplitl [H0]; · iexact H0
    iexact H1
  · iempintro

/-- With the scratch buffers that is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show Pipeline.scopedRest cfg0.spec c = _ from scopedRest0_eq c]
  unfold Φ₀ scr
  iintro ⟨Hs, -, Hr⟩
  isplitl [Hs]; · iexact Hs
  iexact Hr

/-- What leaves the region: the barrier's semaphore at zero and the result. -/
def left (c : Dev nD) : sProp 𝕄 := iprop(unscopedSems0 c ∗ (((c : Thread nD τ).loc main_v1) ↦{fullShare} resF m c))

/-- What the body ends with gives back the semaphores and the scratch buffers. -/
theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, show Pipeline.scopedRest cfg0.spec c = _ from scopedRest0_eq c]
  unfold Φ₁ scr left
  iintro ⟨Hres, ⟨Hown, Hun⟩, Hr⟩
  isplitl [Hres Hun]
  · isplitl [Hun]; · iexact Hun
    iexact Hres
  isplitl [Hown]; · iexact Hown
  iexact Hr

/-- The levels allow the waits for the staging of the windows. -/
theorem waits (c : Dev nD) : (levAts (L 4) lv : sProp 𝕄) ⊢ Pipeline.cellsWaits cfgs (dats m ρ) 0 0 c :=
  Pipeline.cellsWaits_intro cfgs (dats m ρ) 0 0 c fun w s t => by
    rcases t with ⟨_ | _, ht⟩
    · exact mayWait_stage c _
    · show (levAts (L 4) lv : sProp 𝕄) ⊢ MayWait (c : Thread nD τ) _ 0 0
      rw [MayWait_zero]
      iintro -
      iempintro

/-- What the memory is read to hold when a device is done. -/
def QY (c : Dev nD) (s : MemSt nD τ sig (Elt F)) : Prop :=
  (∀ sm : SemLoc sig, sm.isScoped .tc = false → s.sem ((c.tc : Thread nD τ), sm) = 0) ∧ s.mem ((c : Thread nD τ).loc main_v1) = resF m c

/-- At the end the memory holds the result. -/
theorem read_exit (c : Dev nD) (s' : Phys nD τ sig (Elt F)) :
    iprop(left m c ∗ emp ∗ SI s') ⊢ (|={Set.univ}=> iprop(⌜QY m c s'.mem⌝ ∗ SI s') : sProp 𝕄) := by
  unfold left
  iintro ⟨⟨Hu, Hv⟩, -, HSI⟩
  imod (Pipeline.unscopedSems0_read (X := unscopedSems0 c) (c := c) fupd_intro s') $$ [Hu HSI] with ⟨%hs, HSI⟩
  · isplitl [Hu] <;> iassumption
  icombine HSI Hv gives %hv
  imodintro
  isplitr; · ipureintro; exact ⟨hs, Buf.eq_of_forall_mem_univ hv⟩
  iexact HSI

/-- The final states: the arguments unchanged, the results as described. -/
def QC (r : PUnit × MemSt nD τ sig (Elt F)) : Prop := ∀ c : Dev nD,
  (∀ w : Fin cfg0.W, r.2.mem ((cfg0.win w).arr.view.loc (c : Thread nD τ)) = (dats m ρ 0 c).arrAt w cfg0.N)
    ∧ r.2.mem ((c : Thread nD τ).loc main_v1) = resF m c

set_option maxRecDepth 8000 in
/-- At the compiled mesh, over any float values, from any memory with zero counters: every weakly fair execution of
    the mesh terminates, and every final state has the results as described, the arguments as they were and every
    semaphore at zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L 4) (lv := lv) (hL := hL 4) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := QY m) (hY := read_exit m)
    (hQ := fun _ h hs => ⟨fun c => ⟨fun w => (h c).1 w, (h c).2.2.2⟩, sem_eq_zero hs fun c => (h c).2.2.1⟩)

/-- The run, by the names of the arrays. -/
theorem run_main : θ_run defs (onTc (τ := τ) (main (F := F))) (s₀ m ρ) (fun r =>
    (∀ c : Dev nD, r.2.mem ((c : Thread nD τ).loc main_v1) = resF m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨(h.1 c).2,
    ((h.1 c).1 (0 : Fin 4)).trans ((dats m ρ 0 c).arrAt_in (0 : Fin 4) rfl _), ((h.1 c).1 (1 : Fin 4)).trans ((dats m ρ 0 c).arrAt_in (1 : Fin 4) rfl _),
    ((h.1 c).1 (2 : Fin 4)).trans ((dats m ρ 0 c).arrAt_in (2 : Fin 4) rfl _), ((h.1 c).1 (3 : Fin 4)).trans ((dats m ρ 0 c).arrAt_in (3 : Fin 4) rfl _)⟩, h.2⟩) (run_all m ρ)

end Cert.LnProof

end
-- ==== Proof.Frames.lean ====
/-
# The frames

Each program's run, its arguments unchanged and its semaphores at zero: the kernel at both instances from the run of
the whole mesh, which is proved over any floats, and the reference from its generated run.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.LnProof

open Idealize.ShloMosaic Idealize.ShloMosaic.TcCoe Idealize.SL.Sem

/-- The side condition the precondition states over one device's arrays. -/
instance preFactsK : Cert.Pre_finite_x_KernelIdeal.Facts where
  bcast_S_S2x2048x512 := by decide

/-- The side condition the precondition states over the reference's whole arrays. -/
instance preFactsR : Cert.Pre_finite_x_ReferenceIdeal.Facts where
  bcast_S_S2x2048x16384 := by decide

/-- Over any floats the kernel keeps its arguments and ends with every semaphore at zero. -/
theorem run_frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (run_main (F := F) m ρ)

/-- The two printed programs have one body table: they differ in the match over the label alone. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => exact rfl

/-- So they have the same definitions. -/
theorem defs_eq {F : FTy → Type} [FloatOps F] : Cert.Kernel.defs (F := F) = Cert.KernelIdeal.defs (F := F) :=
  congrArg (Pipeline.defs (Cert.KernelIdeal.pcfgs (F := F))) defs₀_eq

/-- The kernel at the bit-exact floats: its program is the idealized one's text, read at that instance. -/
theorem frame_kernel : Cert.quiescent_Kernel := fun m ρ _ => by
  rw [defs_eq]
  exact run_frame (F := Bits) m ρ

/-- The kernel over the extended reals: the run of the mesh at that instance. -/
theorem frame_kernelIdeal : Cert.quiescent_KernelIdeal := fun m ρ _ => run_frame (F := Ideal) m ρ

/-- The same where the precondition holds. -/
theorem frame_kernelIdeal_pre : Cert.quiescent_KernelIdeal_pre_finite_x_KernelIdeal := fun m ρ _ =>
  frame_kernelIdeal m ρ trivial

/-- The reference: its generated run keeps the arguments, and the program has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem frame_reference_pre : Cert.quiescent_ReferenceIdeal_pre_finite_x_ReferenceIdeal := fun m ρ _ =>
  frame_reference m ρ trivial

end Cert.LnProof

end
-- ==== Proof.Norm.lean ====
/-
# The two forms of the normalization

The kernel's form takes the variance of a row as the mean of the squares less the square of the mean and multiplies by
the reciprocal root; the reference's takes the mean square of the centred row and divides by the root. Over a row of
real numbers the two agree, at any extended-real scale and shift.
-/
module

public import Idealize.ShloMosaic.PureOps.Ideal

@[expose] public section

noncomputable section

namespace Cert.LnProof

open Idealize.ShloMosaic

/-! ## The constants -/

/-- The number of channels. -/
theorem ofBits_n : Ideal.ofBits .f32 0x46800000#32 = ((16384 : ℝ) : EReal) := by
  simp [Ideal.ofBits, Ideal.ieee, -EReal.coe_mul]; norm_num

/-- The bound of the finite values. -/
theorem ofBits_inf : Ideal.ofBits .f32 0x7F800000#32 = ⊤ := by
  simp [Ideal.ofBits, Ideal.ieee]

/-- The number under the root is a positive real. -/
theorem ofBits_eps : ∃ e : ℝ, 0 < e ∧ Ideal.ofBits .f32 0x3727C5AC#32 = (e : EReal) := by
  refine ⟨(2 ^ 23 + 2606508 : ℕ) * (2 : ℝ) ^ (-40 : ℤ), by positivity, ?_⟩
  simp [Ideal.ofBits, Ideal.ieee, -EReal.coe_mul]

/-! ## The forms -/

/-- The value the kernel writes for an element: of the row's totals `a` (of the elements) and `q` (of their squares),
the element `x`, and its channel's scale and shift. -/
def normed (a q x sc sh : EReal) : EReal :=
  (x - Ideal.div a (Ideal.ofBits .f32 0x46800000#32))
      * Ideal.rsqrt (Ideal.div q (Ideal.ofBits .f32 0x46800000#32)
          - Ideal.div a (Ideal.ofBits .f32 0x46800000#32) * Ideal.div a (Ideal.ofBits .f32 0x46800000#32)
          + Ideal.ofBits .f32 0x3727C5AC#32)
    * (1 + sc) + sh

/-- The mean of a row. -/
def mean (f : Fin 16384 → EReal) : EReal := Ideal.div (∑ l, f l) (Ideal.ofBits .f32 0x46800000#32)

/-- The mean square of the centred row. -/
def vari (f : Fin 16384 → EReal) : EReal :=
  Ideal.div (∑ l, (f l - mean f) * (f l - mean f)) (Ideal.ofBits .f32 0x46800000#32)

/-- The value the reference has for an element `x` of the row `f`, at its channel's scale and shift. -/
def plain (f : Fin 16384 → EReal) (x sc sh : EReal) : EReal :=
  Ideal.div (x - mean f) (Ideal.sqrt (vari f + Ideal.ofBits .f32 0x3727C5AC#32)) * (1 + sc) + sh

/-! ## They agree on a row of reals -/

/-- A sum of reals, taken among the extended reals. -/
theorem coe_sum {n : ℕ} (g : Fin n → ℝ) : (∑ l, (g l : EReal)) = ((∑ l, g l : ℝ) : EReal) :=
  (map_sum (⟨⟨Real.toEReal, EReal.coe_zero⟩, EReal.coe_add⟩ : ℝ →+ EReal) g Finset.univ).symm

/-- The mean of the squares less the square of the mean is the mean square of the centred row. -/
theorem variance_eq (g : Fin 16384 → ℝ) :
    (∑ l, g l * g l) * (1 / 16384) - (∑ l, g l) * (1 / 16384) * ((∑ l, g l) * (1 / 16384))
      = (∑ l, (g l - (∑ l, g l) * (1 / 16384)) * (g l - (∑ l, g l) * (1 / 16384))) * (1 / 16384) := by
  generalize hA : ∑ l, g l = A
  have h : ∀ l, (g l - A * (1 / 16384)) * (g l - A * (1 / 16384)) = g l * g l - A * (2 / 16384) * g l + A * A * (1 / 16384) * (1 / 16384) :=
    fun l => by ring
  simp only [h, Finset.sum_add_distrib, Finset.sum_sub_distrib, ← Finset.mul_sum, hA, Finset.sum_const, Finset.card_univ, Fintype.card_fin,
    nsmul_eq_mul]
  push_cast
  ring

/-- Dividing by the literal 16384 multiplies by its reciprocal. -/
theorem div_n (x : EReal) : Ideal.div x (Ideal.ofBits .f32 0x46800000#32) = x * ((1 / 16384 : ℝ) : EReal) := by
  rw [ofBits_n, Ideal.div_coe (by norm_num)]

/-- The kernel's form of the totals of a row of reals is the reference's of the row. -/
theorem normed_eq (g : Fin 16384 → ℝ) (x : ℝ) (sc sh : EReal) :
    normed (∑ l, (g l : EReal)) (∑ l, (g l : EReal) * (g l : EReal)) x sc sh = plain (fun l => (g l : EReal)) x sc sh := by
  obtain ⟨e, he, hE⟩ := ofBits_eps
  unfold normed plain vari mean
  simp only [div_n, hE]
  simp only [← EReal.coe_mul, coe_sum, ← EReal.coe_sub, ← EReal.coe_add]
  rw [variance_eq g]
  generalize hv : (∑ l, (g l - (∑ l, g l) * (1 / 16384)) * (g l - (∑ l, g l) * (1 / 16384))) * (1 / 16384) = v
  have h0 : 0 ≤ v := by
    rw [← hv]
    exact mul_nonneg (Finset.sum_nonneg fun l _ => mul_self_nonneg _) (by norm_num)
  have hp : 0 < v + e := by linarith
  rw [Ideal.rsqrt_coe, Ideal.sqrt_coe, if_neg (not_lt.2 hp.le), if_neg hp.ne', if_neg (not_lt.2 hp.le),
    Ideal.div_coe (Real.sqrt_pos.2 hp).ne', one_div (Real.sqrt _)]

end Cert.LnProof

end
-- ==== Proof.Reads.lean ====
/-
# The values at an index

What a device's staged blocks, partial sums, group sums and block of the result hold at one index, over the extended
reals.
-/
module

public import proofs.«01_k».proof.Proof.Contents
public import proofs.«01_k».proof.Proof.Norm
public import Idealize.ShloMosaic.Lib.Pointwise

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable (m : (ℓ : Loc nD τ sig) → Buf (Elt Ideal) ℓ)

/-! ## The staged inputs at an index -/

/-- The staged block of `x` is the argument. -/
theorem xstg_apply (c : Dev nD) (i : S2x2048x512.Idx) : xstg m c i = m ((c : Thread nD τ).loc main_arg0) i := by
  refine congrArg (m ((c : Thread nD τ).loc main_arg0)) (funext fun a => Fin.ext ?_)
  fin_cases a <;> exact (Nat.zero_add _).trans (Nat.one_mul _)

/-- The staged embedding is the argument. -/
theorem tstg_apply (c : Dev nD) (i : S2x128.Idx) : tstg m c i = m ((c : Thread nD τ).loc main_arg1) i := by
  refine congrArg (m ((c : Thread nD τ).loc main_arg1)) (funext fun a => Fin.ext ?_)
  fin_cases a <;> exact (Nat.zero_add _).trans (Nat.one_mul _)

/-- The staged block of the scale weights is the argument. -/
theorem wsstg_apply (c : Dev nD) (i : S128x512.Idx) : wsstg m c i = m ((c : Thread nD τ).loc main_arg2) i := by
  refine congrArg (m ((c : Thread nD τ).loc main_arg2)) (funext fun a => Fin.ext ?_)
  fin_cases a <;> exact (Nat.zero_add _).trans (Nat.one_mul _)

/-- The staged block of the shift weights is the argument. -/
theorem whstg_apply (c : Dev nD) (i : S128x512.Idx) : whstg m c i = m ((c : Thread nD τ).loc main_arg3) i := by
  refine congrArg (m ((c : Thread nD τ).loc main_arg3)) (funext fun a => Fin.ext ?_)
  fin_cases a <;> exact (Nat.zero_add _).trans (Nat.one_mul _)

/-- Row `s` of half `h`. -/
def row (h : Fin 2) (s : Fin 1024) : Fin 2048 := ⟨1024 * h.val + s.val, by omega⟩

/-- Device `c`'s element of `x`. -/
def xe (c : Dev nD) (b : Fin 2) (r : Fin 2048) (k : Fin 512) : EReal := m ((c : Thread nD τ).loc main_arg0) (ix3 b r k)

/-- The first half of the rows at an index. -/
theorem xlo_apply (c : Dev nD) (b : Fin 2) (s : Fin 1024) (k : Fin 512) : xlo m c (ix3 b s k) = xe m c b (row 0 s) k := by
  refine (xstg_apply m c _).trans (congrArg (m ((c : Thread nD τ).loc main_arg0)) (funext fun a => Fin.ext ?_))
  fin_cases a
  · exact (Nat.zero_add _).trans (Nat.one_mul _)
  · exact congrArg (_ + ·) (Nat.one_mul _)
  · exact (Nat.zero_add _).trans (Nat.one_mul _)

/-- The second half of the rows at an index. -/
theorem xhi_apply (c : Dev nD) (b : Fin 2) (s : Fin 1024) (k : Fin 512) : xhi m c (ix3 b s k) = xe m c b (row 1 s) k := by
  refine (xstg_apply m c _).trans (congrArg (m ((c : Thread nD τ).loc main_arg0)) (funext fun a => Fin.ext ?_))
  fin_cases a
  · exact (Nat.zero_add _).trans (Nat.one_mul _)
  · exact congrArg (_ + ·) (Nat.one_mul _)
  · exact (Nat.zero_add _).trans (Nat.one_mul _)

/-- Device `c`'s element of the embedding. -/
def te (c : Dev nD) (b : Fin 2) (j : Fin 128) : EReal := m ((c : Thread nD τ).loc main_arg1) (ix2 b j)
/-- Device `c`'s element of the scale weights. -/
def wse (c : Dev nD) (j : Fin 128) (k : Fin 512) : EReal := m ((c : Thread nD τ).loc main_arg2) (ix2 j k)
/-- Device `c`'s element of the shift weights. -/
def whe (c : Dev nD) (j : Fin 128) (k : Fin 512) : EReal := m ((c : Thread nD τ).loc main_arg3) (ix2 j k)

/-- The loaded embedding at an index. -/
theorem tld_apply (c : Dev nD) (b : Fin 2) (k : Fin 128) : tld m c (ix2 b k) = te m c b k := by
  refine (tstg_apply m c _).trans (congrArg (m ((c : Thread nD τ).loc main_arg1)) (funext fun a => Fin.ext ?_))
  fin_cases a <;> exact (Nat.zero_add _).trans (Nat.one_mul _)

/-- The loaded `W_scale` at an index. -/
theorem wsld_apply (c : Dev nD) (j : Fin 128) (k : Fin 512) : wsld m c (ix2 j k) = wse m c j k := by
  refine (wsstg_apply m c _).trans (congrArg (m ((c : Thread nD τ).loc main_arg2)) (funext fun a => Fin.ext ?_))
  fin_cases a <;> exact (Nat.zero_add _).trans (Nat.one_mul _)

/-- The loaded `W_shift` at an index. -/
theorem whld_apply (c : Dev nD) (j : Fin 128) (k : Fin 512) : whld m c (ix2 j k) = whe m c j k := by
  refine (whstg_apply m c _).trans (congrArg (m ((c : Thread nD τ).loc main_arg3)) (funext fun a => Fin.ext ?_))
  fin_cases a <;> exact (Nat.zero_add _).trans (Nat.one_mul _)

/-! ## The payloads at an index -/

set_option maxRecDepth 16384

/-- Device `c`'s partial sum in row `r`: for `q < 2` of `x` in batch `q`, else of its squares in batch `q - 2`. -/
def part (c : Dev nD) (q : Fin 4) (r : Fin 2048) : EReal :=
  if h : q.val < 2 then ∑ k : Fin 512, xe m c ⟨q.val, h⟩ r k
  else ∑ k : Fin 512, xe m c ⟨q.val - 2, by omega⟩ r k * xe m c ⟨q.val - 2, by omega⟩ r k

/-- The partial sums a device stores. -/
theorem statsV_apply (c : Dev nD) (h : Fin 2) (q : Fin 4) (s : Fin 1024) :
    statsV m c h (ix4 (0 : Fin 1) (0 : Fin 1) q s) = part m c q (row h s) := by
  fin_cases h
  · refine (congrFun (if_pos rfl) _).trans ?_
    show k0_pay2 (k0_pay1 (xlo m c)) (ix4 (0 : Fin 1) (0 : Fin 1) q s) = _
    pointwise [k0_pay1, k0_pay2]
    simp only [part, xlo_apply]
  · refine (congrFun (if_neg (by decide)) _).trans ?_
    show k0_pay3 (xhi m c) (ix4 (0 : Fin 1) (0 : Fin 1) q s) = _
    pointwise [k0_pay3]
    simp only [part, xhi_apply]

/-- A load of part of the communication buffer reads the elements at the load's offset. -/
theorem comm_load (f : (cc0_scratch1 : Ref sig .tc).ty.Contents (Elt Ideal)) {off size : Fin 4 → ℕ} (inb : ∀ a, off a + size a ≤ S2x12x4x1024.size a)
    (x : (⟨4, size⟩ : Shape).Idx) (i : S2x12x4x1024.Idx) (h : ∀ a, off a + (x a).val = (i a).val) :
    commM.view.readAt (Elt Ideal) (Rect.unit (s := S2x12x4x1024) off size inb).toLoadRect f x = f i :=
  congrArg f (funext fun a => Fin.ext ((congrArg (off a + ·) (Nat.one_mul _)).trans (h a)))

/-- The sums over the group: slot `o` holds the partial sums of the device that fills it. -/
theorem gsumV_apply (c : Dev nD) (h : Fin 2) (q : Fin 4) (s : Fin 1024) :
    gsumV m c h (ix4 (0 : Fin 1) (0 : Fin 1) q s) = ∑ o : Fin 8, part m (back c (o.castLE (by decide))) q (row h s) := by
  have key : ∀ o : Fin 12, comm1F m c (ix4 h o q s) = part m (back c o) q (row h s) := fun o =>
    (congrArg (statsV m (back c o) h) (funext fun a => by fin_cases a <;> rfl)).trans (statsV_apply m (back c o) h q s)
  obtain rfl | rfl : h = 0 ∨ h = 1 := by omega
  · refine (congrFun (if_pos rfl) _).trans ?_
    pointwise [k0_pay6]
    refine Finset.sum_congr rfl fun o _ => (comm_load (comm1F m c) _ _ _ fun a => ?_).trans (key (o.castLE (by decide)))
    fin_cases a <;> exact Nat.zero_add _
  · refine (congrFun (if_neg (by decide)) _).trans ?_
    pointwise [k0_pay7]
    refine Finset.sum_congr rfl fun o _ => (comm_load (comm1F m c) _ _ _ fun a => ?_).trans (key (o.castLE (by decide)))
    fin_cases a
    · rfl
    all_goals exact Nat.zero_add _

/-- The sum over the groups of the sums over a group, as device `c` makes it. -/
def total (c : Dev nD) (q : Fin 4) (r : Fin 2048) : EReal :=
  ∑ o : Fin 4, ∑ o' : Fin 8, part m (back (back c (Fin.natAdd 8 o)) (o'.castLE (by decide))) q r

/-- Slot `8 + o` of the second exchange. -/
theorem g2ld_apply (c : Dev nD) (h : Fin 2) (o : Fin 4) (q : Fin 4) (s : Fin 1024) :
    g2ld m c h (ix4 (0 : Fin 1) o q s)
      = ∑ o' : Fin 8, part m (back (back c (Fin.natAdd 8 o)) (o'.castLE (by decide))) q (row h s) := by
  have key : ∀ o : Fin 12, comm2F m c (ix4 h o q s)
      = ∑ o' : Fin 8, part m (back (back c o) (o'.castLE (by decide))) q (row h s) := fun o =>
    (congrArg (gsumV m (back c o) h) (funext fun a => by fin_cases a <;> rfl)).trans (gsumV_apply m (back c o) h q s)
  obtain rfl | rfl : h = 0 ∨ h = 1 := by omega
  · refine (congrFun (if_pos rfl) _).trans ?_
    refine (comm_load (comm2F m c) _ _ _ fun a => ?_).trans (key (Fin.natAdd 8 o))
    fin_cases a
    · rfl
    · rfl
    all_goals exact Nat.zero_add _
  · refine (congrFun (if_neg (by decide)) _).trans ?_
    refine (comm_load (comm2F m c) _ _ _ fun a => ?_).trans (key (Fin.natAdd 8 o))
    fin_cases a
    · rfl
    · rfl
    all_goals exact Nat.zero_add _

/-- The scale of device `c`'s channel `k`. -/
theorem scaleV_apply (c : Dev nD) (b : Fin 2) (k : Fin 512) : scaleV m c (ix2 b k)
    = ∑ j : Fin 128, te m c b j * wse m c j k := by
  unfold scaleV
  pointwise [k0_pay4]
  exact Finset.sum_congr rfl fun j _ => congrArg₂ (fun u v : EReal => u * v) (tld_apply m c b j) (wsld_apply m c j k)

/-- The shift of device `c`'s channel `k`. -/
theorem shiftV_apply (c : Dev nD) (b : Fin 2) (k : Fin 512) : shiftV m c (ix2 b k)
    = ∑ j : Fin 128, te m c b j * whe m c j k := by
  unfold shiftV
  pointwise [k0_pay5]
  exact Finset.sum_congr rfl fun j _ => congrArg₂ (fun u v : EReal => u * v) (tld_apply m c b j) (whld_apply m c j k)

/-- Half `h` of the result. -/
theorem outV_apply (c : Dev nD) (h : Fin 2) (b : Fin 2) (s : Fin 1024) (k : Fin 512) :
    outV m c h (ix4 (0 : Fin 1) b s k)
      = normed (total m c (b.castLE (by decide)) (row h s)) (total m c (Fin.natAdd 2 b) (row h s)) (xe m c b (row h s) k)
          (scaleV m c (ix2 b k)) (shiftV m c (ix2 b k)) := by
  have e0 : (⟨b.val, by omega⟩ : Fin 4) = b.castLE (by decide) := rfl
  have e2 : (⟨2 + b.val, by omega⟩ : Fin 4) = Fin.natAdd 2 b := rfl
  fin_cases h
  · refine (congrFun (if_pos rfl) _).trans ?_
    pointwise [k0_pay11, k0_pay9, k0_pay10, k0_pay8]
    simp only [xlo_apply, g2ld_apply, e0, e2]
    rfl
  · refine (congrFun (if_neg (by decide)) _).trans ?_
    pointwise [k0_pay12]
    simp only [xhi_apply, g2ld_apply, e0, e2]
    rfl

/-- A row is a half and a row of it. -/
theorem row_eq (r : Fin 2048) : row ⟨r.val / 1024, by omega⟩ ⟨r.val % 1024, by omega⟩ = r :=
  Fin.ext (show 1024 * (r.val / 1024) + r.val % 1024 = r.val by omega)

/-- Device `c`'s block of the result. -/
theorem resF_apply (c : Dev nD) (b : Fin 2) (r : Fin 2048) (k : Fin 512) :
    resF m c (ix3 b r k)
      = normed (total m c (b.castLE (by decide)) r) (total m c (Fin.natAdd 2 b) r) (xe m c b r k)
          (scaleV m c (ix2 b k)) (shiftV m c (ix2 b k)) := by
  have h := outV_apply m c ⟨r.val / 1024, by omega⟩ b ⟨r.val % 1024, by omega⟩ k
  rw [row_eq] at h
  exact (congrArg (outV m c ⟨r.val / 1024, by omega⟩) (funext fun a => by fin_cases a <;> rfl)).trans h

end Cert.LnProof

end
-- ==== Proof.Totals.lean ====
/-
# The totals

The two exchanges visit every device once, so a device's total of the partial sums is the sum over all devices; and where
the devices hold the blocks of one array, the sum over its whole row.
-/
module

public import proofs.«01_k».proof.Proof.Reads

@[expose] public section

noncomputable section

namespace Cert.LnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SiteBlocks

variable (m : (ℓ : Loc nD τ sig) → Buf (Elt Ideal) ℓ)

/-- The device that fills a slot of the first exchange. -/
theorem back_low : ∀ (c : Dev nD) (o : Fin 8), (back c (o.castLE (by decide))).val = c.val / 8 * 8 + (c.val % 8 + (8 - o.val)) % 8 := by
  decide +kernel

/-- The device that fills a slot of the second exchange. -/
theorem back_high : ∀ (c : Dev nD) (o : Fin 4), (back c (Fin.natAdd 8 o)).val = (c.val / 8 + (4 - o.val)) % 4 * 8 + c.val % 8 := by
  decide +kernel

/-- Each device is reached from `c` by exactly one pair of steps. -/
theorem back_bijective (c : Dev nD) :
    Function.Bijective fun p : Fin 4 × Fin 8 => back (back c (Fin.natAdd 8 p.1)) (p.2.castLE (by decide)) := by
  refine (Fintype.bijective_iff_injective_and_card _).2 ⟨?_, by decide⟩
  rintro ⟨o, p⟩ ⟨o', p'⟩ h
  have hv := congrArg Fin.val h
  simp only [back_low, back_high] at hv
  have ho := o.isLt
  have ho' := o'.isLt
  have hp := p.isLt
  have hp' := p'.isLt
  have hc : c.val < 32 := c.isLt
  have e1 : o = o' := Fin.ext (by omega)
  have e2 : p = p' := Fin.ext (by subst e1; omega)
  rw [e1, e2]

/-- A double sum along a bijection from pairs to the devices is the sum over the devices. -/
theorem sum_pairs {s : Fin 4 × Fin 8 → Dev nD} (hs : Function.Bijective s) (f : Dev nD → EReal) :
    ∑ o : Fin 4, ∑ o' : Fin 8, f (s (o, o')) = ∑ d : Dev nD, f d := by
  rw [← Function.Bijective.sum_comp hs f, Fintype.sum_prod_type]

/-- A device's total is the sum of the partial sums over all devices. -/
theorem total_eq (c : Dev nD) (q : Fin 4) (r : Fin 2048) : total m c q r = ∑ d : Dev nD, part m d q r :=
  sum_pairs (back_bijective c) fun d => part m d q r

/-- Channel `k` of device `c` in the whole array. -/
def chan (c : Dev nD) (k : Fin 512) : Fin 16384 :=
  ⟨c.val * 512 + k.val, by have hc : c.val < 32 := c.isLt; omega⟩

/-- A sum over the devices' channels is a sum over all channels. -/
theorem sum_chan (f : Fin 16384 → EReal) : ∑ d : Dev nD, ∑ k : Fin 512, f (chan d k) = ∑ l, f l :=
  (Fintype.sum_prod_type' (fun (d : Fin 32) (k : Fin 512) => f (chan d k))).symm.trans
    (Fintype.sum_equiv (finProdFinEquiv (m := 32) (n := 512)) _ _ fun p => congrArg f (Fin.ext (by
      show p.1.val * 512 + p.2.val = p.2.val + 512 * p.1.val
      omega)))

variable {X : (⟨3, ![2, 2048, 16384]⟩ : Shape).Idx → EReal}

/-- Where the devices hold the blocks of `X`, a device's total in row `r` is that of `X`. -/
theorem total_sum (hx : ∀ c b r k, xe m c b r k = X (ix3 b r (chan c k))) (c : Dev nD) (b : Fin 2) (r : Fin 2048) :
    total m c (b.castLE (by decide)) r = ∑ l : Fin 16384, X (ix3 b r l) := by
  rw [total_eq, ← sum_chan]
  refine Finset.sum_congr rfl fun d _ => (dif_pos (show (b.castLE (by decide) : Fin 4).val < 2 from b.isLt)).trans ?_
  exact Finset.sum_congr rfl fun k _ => hx d b r k

/-- And of the squares. -/
theorem total_sq (hx : ∀ c b r k, xe m c b r k = X (ix3 b r (chan c k))) (c : Dev nD) (b : Fin 2) (r : Fin 2048) :
    total m c (Fin.natAdd 2 b) r = ∑ l : Fin 16384, X (ix3 b r l) * X (ix3 b r l) := by
  rw [total_eq, ← sum_chan fun l => X (ix3 b r l) * X (ix3 b r l)]
  refine Finset.sum_congr rfl fun d _ => (dif_neg (show ¬ (Fin.natAdd 2 b : Fin 4).val < 2 from by
    show ¬ 2 + b.val < 2
    omega)).trans ?_
  have e : ∀ h, (⟨(Fin.natAdd 2 b : Fin 4).val - 2, h⟩ : Fin 2) = b := fun _ => Fin.ext (by
    show 2 + b.val - 2 = b.val
    omega)
  refine Finset.sum_congr rfl fun k _ => ?_
  rw [e, hx]

/-- The kernel's value of an element is the reference's, where `X` is real. -/
theorem resF_plain (hx : ∀ c b r k, xe m c b r k = X (ix3 b r (chan c k))) (hr : ∀ i, ∃ v : ℝ, X i = v) (c : Dev nD) (b : Fin 2)
    (r : Fin 2048) (k : Fin 512) :
    resF m c (ix3 b r k) = plain (fun l => X (ix3 b r l)) (X (ix3 b r (chan c k))) (∑ j : Fin 128, te m c b j * wse m c j k)
      (∑ j : Fin 128, te m c b j * whe m c j k) := by
  obtain ⟨g, hg⟩ : ∃ g : Fin 16384 → ℝ, ∀ l, X (ix3 b r l) = g l := Classical.axiomOfChoice fun l => hr (ix3 b r l)
  rw [resF_apply, total_sum m hx, total_sq m hx, hx, scaleV_apply, shiftV_apply]
  simp only [hg]
  exact normed_eq g _ _ _

end Cert.LnProof

end
-- ==== Proof.RefValue.lean ====
/-
# The reference's value

The reference's result at one index, over the extended reals.
-/
module

public import proofs.«01_k».proof.Proof.Gen.ReferenceIdeal.Run
public import proofs.«01_k».proof.Proof.Norm
public import Idealize.ShloMosaic.Lib.Pointwise

@[expose] public section

noncomputable section

namespace Cert.LnProof

open Cert.ReferenceIdeal Cert.ReferenceIdeal.Gen
open Idealize.ShloMosaic Idealize.ShloMosaic.TcCoe Idealize.SL.Sem

/-- The number of channels less the word zero read as a number, which the reference divides the squares by, is the
number of channels; -/
theorem count_eq : (Ideal.ofBits .f32 0x46800000#32 : EReal) - FloatOps.sitofp (F := Ideal) .f32 0#32 = Ideal.ofBits .f32 0x46800000#32 := by
  have h : FloatOps.sitofp (F := Ideal) .f32 0#32 = (0 : EReal) := by
    show (((0#32 : BitVec 32).toInt : ℝ) : EReal) = 0
    simp
  rw [h]
  exact sub_zero _

/-- and it is positive, so the reference's variance is the quotient. -/
theorem count_pos : (0 : EReal) < Ideal.ofBits .f32 0x46800000#32 := by
  rw [ofBits_n]
  exact_mod_cast (by norm_num : (0 : ℝ) < 16384)

/-- The reference's result, of the whole arrays: the plain layer normalization, scaled and shifted. -/
def refV (x : FVec Ideal S2x2048x16384 .f32) (t : FVec Ideal S2x128 .f32) (ws wh : FVec Ideal S128x16384 .f32) : FVec Ideal S2x2048x16384 .f32 :=
  fun i => plain (fun l => x (ix3 (i 0) (i 1) l)) (x i) (∑ j : Fin 128, t (ix2 (i 0) j) * ws (ix2 j (i 2))) (∑ j : Fin 128, t (ix2 (i 0) j) * wh (ix2 j (i 2)))

set_option maxRecDepth 16384 in
/-- The reference ends with that value and its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = refV (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run (F := Ideal) m ρ)
  generalize m ((c.tc : Thread nD τ).loc main_arg0) = x
  generalize m ((c.tc : Thread nD τ).loc main_arg1) = t
  generalize m ((c.tc : Thread nD τ).loc main_arg2) = ws
  generalize m ((c.tc : Thread nD τ).loc main_arg3) = wh
  funext i
  obtain ⟨b, r, k, rfl⟩ : ∃ (b : Fin 2) (r : Fin 2048) (k : Fin 16384), i = ix3 b r k := ⟨i 0, i 1, i 2, eq_ix3 i⟩
  show _ = plain _ _ _ _
  pointwise [plain, vari, mean]
  rw [count_eq, if_pos count_pos]

end Cert.LnProof

end
-- ==== Proof.Algebraic.lean ====
/-
# The kernel computes the reference

Where every element of `x` is finite and the devices hold the blocks of the reference's arrays, the kernel's block of the
result is the block of the reference's result.
-/
module

public import proofs.«01_k».proof.Proof.Frames
public import proofs.«01_k».proof.Proof.Totals
public import proofs.«01_k».proof.Proof.RefValue

@[expose] public section

noncomputable section

namespace Cert.LnProof

open Idealize.ShloMosaic Idealize.ShloMosaic.TcCoe Idealize.SL.Sem

/-- An extended real whose absolute value is below the infinite pattern is a real. -/
theorem real_of_lt (v : EReal) (h : max v (-v) < Ideal.ofBits .f32 0x7F800000#32) : ∃ r : ℝ, v = r := by
  rw [ofBits_inf, max_lt_iff] at h
  refine ⟨v.toReal, (EReal.coe_toReal h.1.ne fun hb => ?_).symm⟩
  rw [hb] at h
  exact absurd h.2 (by simp)

/-- The precondition at an element. -/
theorem real_of_pre (x : FVec Ideal Cert.KernelIdeal.S2x2048x512 .f32) (t : FVec Ideal Cert.KernelIdeal.S2x128 .f32)
    (ws wh : FVec Ideal Cert.KernelIdeal.S128x512 .f32) (h : Cert.Pre_finite_x_KernelIdeal.fn (F := Ideal) x t ws wh = fun _ => 1#1)
    (i : Cert.KernelIdeal.S2x2048x512.Idx) : ∃ r : ℝ, x i = r := by
  have hi := congrFun h i
  refine real_of_lt (x i) ?_
  pointwise [Cert.Pre_finite_x_KernelIdeal.fn] at hi
  by_contra hn
  rw [decide_eq_false (show ¬ FloatOps.absf (x i) < _ from hn)] at hi
  exact absurd hi (by decide)

/-- The place of an element of a block of `x` in the whole array. -/
theorem block_x {α : Type} (X : (⟨3, ![2, 2048, 16384]⟩ : Shape).Idx → α) (c : Fin 32) (b : Fin 2) (r : Fin 2048) (k : Fin 512) :
    Layout.block ⟨3, ![2, 2048, 512]⟩ ⟨3, ![2, 2048, 16384]⟩ 2 32 c X (by decide) (ix3 b r k) = X (ix3 b r (chan c k)) :=
  congrArg X (funext fun a => Fin.ext (by fin_cases a <;> rfl))

/-- The place of an element of a block of the weights in the whole array. -/
theorem block_w {α : Type} (W : (⟨2, ![128, 16384]⟩ : Shape).Idx → α) (c : Fin 32) (j : Fin 128) (k : Fin 512) :
    Layout.block ⟨2, ![128, 512]⟩ ⟨2, ![128, 16384]⟩ 1 32 c W (by decide) (ix2 j k) = W (ix2 j (chan c k)) :=
  congrArg W (funext fun a => Fin.ext (by fin_cases a <;> rfl))

/-- Each channel is some device's. -/
theorem exists_chan (l : Fin 16384) : ∃ (c : Fin 32) (k : Fin 512), l = chan c k :=
  ⟨⟨l.val / 512, by omega⟩, ⟨l.val % 512, by omega⟩, Fin.ext (show l.val = l.val / 512 * 512 + l.val % 512 by omega)⟩

/-- The kernel's result on each device is the block of the reference's. -/
theorem algebraic_claim : Cert.algebraic_KernelIdeal_ReferenceIdeal_pre_finite_x_KernelIdeal := by
  intro m g m' g' hpre hin
  refine ⟨refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono (fun r h c => ⟨(h.1 c).1.trans ?_, (h.1 c).2⟩) (run_main (F := Ideal) m g),
    (θ_run Cert.ReferenceIdeal.defs _ _).mono (fun r h => h 0) (ref_run m' g')⟩
  have hx : ∀ c b r k, xe m c b r k = (m' (((0 : Dev Cert.ReferenceIdeal.nD).tc : Thread Cert.ReferenceIdeal.nD Cert.ReferenceIdeal.τ).loc Cert.ReferenceIdeal.main_arg0)) (ix3 b r (chan c k)) :=
    fun c b r k => (congrFun (hin c).1 (ix3 b r k)).trans (block_x _ c b r k)
  have hr : ∀ i : (⟨3, ![2, 2048, 16384]⟩ : Shape).Idx, ∃ v : ℝ, (m' (((0 : Dev Cert.ReferenceIdeal.nD).tc : Thread Cert.ReferenceIdeal.nD Cert.ReferenceIdeal.τ).loc Cert.ReferenceIdeal.main_arg0)) i = (v : EReal) := by
    intro i
    obtain ⟨b, r, l, rfl⟩ : ∃ (b : Fin 2) (r : Fin 2048) (l : Fin 16384), i = ix3 b r l := ⟨i 0, i 1, i 2, eq_ix3 i⟩
    obtain ⟨c, k, rfl⟩ := exists_chan l
    obtain ⟨v, hv⟩ := real_of_pre _ _ _ _ (hpre c) (ix3 b r k)
    exact ⟨v, (hx c b r k).symm.trans hv⟩
  funext i
  obtain ⟨b, r, k, rfl⟩ : ∃ (b : Fin 2) (r : Fin 2048) (k : Fin 512), i = ix3 b r k := ⟨i 0, i 1, i 2, eq_ix3 i⟩
  refine (resF_plain m hx hr c b r k).trans (Eq.symm ((block_x _ c b r k).trans ?_))
  refine congrArg₂ (plain _ _) (Finset.sum_congr rfl fun j _ => ?_) (Finset.sum_congr rfl fun j _ => ?_)
  · exact congrArg₂ (fun u v : EReal => u * v) (congrFun (hin c).2.1 (ix2 b j)).symm ((congrFun (hin c).2.2.1 (ix2 j k)).trans (block_w _ c j k)).symm
  · exact congrArg₂ (fun u v : EReal => u * v) (congrFun (hin c).2.1 (ix2 b j)).symm ((congrFun (hin c).2.2.2 (ix2 j k)).trans (block_w _ c j k)).symm

end Cert.LnProof

end
-- ==== Proof.lean ====
/-
# The certificate

The claims, each proved in a module under Proof/, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate: the side conditions the programs and the precondition state, the frames, the idealization and the
kernel's value. -/
theorem claim : Cert.Claim :=
  ⟨Cert.Kernel.Gen.facts, Cert.KernelIdeal.Gen.facts, Cert.ReferenceIdeal.Gen.facts, Cert.LnProof.preFactsK, Cert.LnProof.preFactsR,
    Cert.LnProof.frame_kernel, Cert.LnProof.frame_kernelIdeal, Cert.LnProof.frame_kernelIdeal_pre, Cert.LnProof.frame_reference,
    Cert.LnProof.frame_reference_pre, trivial, Cert.LnProof.algebraic_claim⟩

end Cert.Proof

end
